-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S16384x1024 : Shape := ⟨2, ![16384, 1024]⟩
abbrev S2x256x1024 : Shape := ⟨3, ![2, 256, 1024]⟩
abbrev S4x2x8 : Shape := ⟨3, ![4, 2, 8]⟩
abbrev S4x8 : Shape := ⟨2, ![4, 8]⟩
abbrev S2 : Shape := ⟨1, ![2]⟩
abbrev S8 : Shape := ⟨1, ![8]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S1x1x1 : Shape := ⟨3, ![1, 1, 1]⟩
abbrev S1x1 : Shape := ⟨2, ![1, 1]⟩

abbrev nBuf : Space → Nat
  | .hbm => 2
  | .vmem => 2
  | .smem => 0
  | _ => 0

abbrev bufTy : (tb : Table) → Fin (tcTables nBuf tb) → BufTy
  | .hbm, ⟨0, _⟩ => ⟨S4096x1024, .f32⟩
  | .hbm, ⟨1, _⟩ => ⟨S16384x1024, .bf16⟩
  | .local _ .vmem, ⟨0, _⟩ => ⟨S16384x1024, .bf16⟩
  | .local _ .vmem, ⟨1, _⟩ => ⟨S2x256x1024, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 170 → Bool
  | ⟨i, _⟩ => dmaSemScopedAt i

abbrev sig : RefSig :=
  (ofTc nBuf bufTy 1 170 bufScoped semScoped dmaSemScoped tileCredit tileCredit_eq_zero tileCredit_pos).withBarriers [(1, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier1 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v13 : BitVec 1 := Scalar.cmpi .eq v5 c0_i32
  let v14 : BitVec 32 := Scalar.extui v13
  let c0_i32_4 : BitVec 32 := 0#32
  let v15 : BitVec 1 := Scalar.cmpi .ne v14 c0_i32_4
  v15

def k0_dev1 (d0 : Dev nD) : Nat :=
  let c0_i32_12 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_11 : BitVec 32 := 16#32
  let v25 : BitVec 32 := Scalar.muli v11 c16_i32_11
  let v26 : BitVec 32 := Scalar.addi c0_i32_12 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v27 : BitVec 32 := Scalar.muli v5 c4_i32_13
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v29 : BitVec 32 := Scalar.muli v8 c1_i32_14
  let v30 : BitVec 32 := Scalar.addi v28 v29
  v30.toNat
def k0_dev2 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v31 : BitVec 32 := Scalar.muli v2 c16_i32_17
  let v32 : BitVec 32 := Scalar.addi c0_i32_18 v31
  let c1_i32_16 : BitVec 32 := 1#32
  let c4_i32_19 : BitVec 32 := 4#32
  let v33 : BitVec 32 := Scalar.muli c1_i32_16 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_off1 (d0 : Dev nD) (c0_i32_22 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v37 : BitVec 32 := Scalar.addi v9 c0_i32_22
  let c0_i32_27 : BitVec 32 := 0#32
  ![v37.toNat, 0]
def k0_off2 (d0 : Dev nD) (c0_i32_22 : BitVec 32) : Fin 2 → Nat :=
  let c0_i32_40 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v37 : BitVec 32 := Scalar.addi v9 c0_i32_22
  let v63 : BitVec 32 := Scalar.addi c0_i32_40 v37
  let v64 : Index := Scalar.indexCast v63
  let c0_41 : Index := 0#32
  ![v64.toNat, 0]
def k0_off3 (d0 : Dev nD) (c0_i32_49 : BitVec 32) (c0_i32_50 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v75 : BitVec 32 := Scalar.addi c0_i32_49 v9
  let v76 : BitVec 32 := Scalar.addi v75 c0_i32_50
  let c0_i32_61 : BitVec 32 := 0#32
  ![v76.toNat, 0]
def k0_dev3 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v77 : BitVec 32 := Scalar.muli v2 c16_i32_57
  let v78 : BitVec 32 := Scalar.addi c0_i32_58 v77
  let c1_i32_56 : BitVec 32 := 1#32
  let c4_i32_59 : BitVec 32 := 4#32
  let v79 : BitVec 32 := Scalar.muli c1_i32_56 c4_i32_59
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v81 : BitVec 32 := Scalar.muli v8 c1_i32_60
  let v82 : BitVec 32 := Scalar.addi v80 v81
  v82.toNat
def k0_off4 (d0 : Dev nD) (c0_i32_22 : BitVec 32) : Fin 2 → Nat :=
  let c0_i32_63 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v37 : BitVec 32 := Scalar.addi v9 c0_i32_22
  let v89 : BitVec 32 := Scalar.addi c0_i32_63 v37
  let c0_i32_65 : BitVec 32 := 0#32
  ![v89.toNat, 0]
def k0_dev4 (d0 : Dev nD) : Nat :=
  let c0_i32_92 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_91 : BitVec 32 := 16#32
  let v116 : BitVec 32 := Scalar.muli v2 c16_i32_91
  let v117 : BitVec 32 := Scalar.addi c0_i32_92 v116
  let c1_i32_90 : BitVec 32 := 1#32
  let c4_i32_93 : BitVec 32 := 4#32
  let v118 : BitVec 32 := Scalar.muli c1_i32_90 c4_i32_93
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v120 : BitVec 32 := Scalar.muli v8 c1_i32_94
  let v121 : BitVec 32 := Scalar.addi v119 v120
  v121.toNat
def k0_dev5 (d0 : Dev nD) : Nat :=
  let c0_i32_127 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_126 : BitVec 32 := 16#32
  let v155 : BitVec 32 := Scalar.muli v2 c16_i32_126
  let v156 : BitVec 32 := Scalar.addi c0_i32_127 v155
  let c1_i32_125 : BitVec 32 := 1#32
  let c4_i32_128 : BitVec 32 := 4#32
  let v157 : BitVec 32 := Scalar.muli c1_i32_125 c4_i32_128
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v159 : BitVec 32 := Scalar.muli v8 c1_i32_129
  let v160 : BitVec 32 := Scalar.addi v158 v159
  v160.toNat
def k0_dev6 (d0 : Dev nD) : Nat :=
  let c0_i32_162 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_161 : BitVec 32 := 16#32
  let v194 : BitVec 32 := Scalar.muli v2 c16_i32_161
  let v195 : BitVec 32 := Scalar.addi c0_i32_162 v194
  let c1_i32_160 : BitVec 32 := 1#32
  let c4_i32_163 : BitVec 32 := 4#32
  let v196 : BitVec 32 := Scalar.muli c1_i32_160 c4_i32_163
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_164 : BitVec 32 := 1#32
  let v198 : BitVec 32 := Scalar.muli v8 c1_i32_164
  let v199 : BitVec 32 := Scalar.addi v197 v198
  v199.toNat
def k0_dev7 (d0 : Dev nD) : Nat :=
  let c0_i32_197 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_196 : BitVec 32 := 16#32
  let v233 : BitVec 32 := Scalar.muli v2 c16_i32_196
  let v234 : BitVec 32 := Scalar.addi c0_i32_197 v233
  let c1_i32_195 : BitVec 32 := 1#32
  let c4_i32_198 : BitVec 32 := 4#32
  let v235 : BitVec 32 := Scalar.muli c1_i32_195 c4_i32_198
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_199 : BitVec 32 := 1#32
  let v237 : BitVec 32 := Scalar.muli v8 c1_i32_199
  let v238 : BitVec 32 := Scalar.addi v236 v237
  v238.toNat
def k0_dev8 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v272 : BitVec 32 := Scalar.muli v2 c16_i32_230
  let v273 : BitVec 32 := Scalar.addi c0_i32_231 v272
  let c1_i32_229 : BitVec 32 := 1#32
  let c4_i32_232 : BitVec 32 := 4#32
  let v274 : BitVec 32 := Scalar.muli c1_i32_229 c4_i32_232
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v276 : BitVec 32 := Scalar.muli v8 c1_i32_233
  let v277 : BitVec 32 := Scalar.addi v275 v276
  v277.toNat
def k0_dev9 (d0 : Dev nD) : Nat :=
  let c0_i32_260 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_259 : BitVec 32 := 16#32
  let v306 : BitVec 32 := Scalar.muli v2 c16_i32_259
  let v307 : BitVec 32 := Scalar.addi c0_i32_260 v306
  let c1_i32_258 : BitVec 32 := 1#32
  let c4_i32_261 : BitVec 32 := 4#32
  let v308 : BitVec 32 := Scalar.muli c1_i32_258 c4_i32_261
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v310 : BitVec 32 := Scalar.muli v8 c1_i32_262
  let v311 : BitVec 32 := Scalar.addi v309 v310
  v311.toNat
def k0_dev10 (d0 : Dev nD) : Nat :=
  let c0_i32_289 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_288 : BitVec 32 := 16#32
  let v340 : BitVec 32 := Scalar.muli v2 c16_i32_288
  let v341 : BitVec 32 := Scalar.addi c0_i32_289 v340
  let c1_i32_287 : BitVec 32 := 1#32
  let c4_i32_290 : BitVec 32 := 4#32
  let v342 : BitVec 32 := Scalar.muli c1_i32_287 c4_i32_290
  let v343 : BitVec 32 := Scalar.addi v341 v342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_291 : BitVec 32 := 1#32
  let v344 : BitVec 32 := Scalar.muli v8 c1_i32_291
  let v345 : BitVec 32 := Scalar.addi v343 v344
  v345.toNat
def k0_dev11 (d0 : Dev nD) : Nat :=
  let c0_i32_321 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_320 : BitVec 32 := 16#32
  let v375 : BitVec 32 := Scalar.muli v11 c16_i32_320
  let v376 : BitVec 32 := Scalar.addi c0_i32_321 v375
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_322 : BitVec 32 := 4#32
  let v377 : BitVec 32 := Scalar.muli v5 c4_i32_322
  let v378 : BitVec 32 := Scalar.addi v376 v377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_323 : BitVec 32 := 1#32
  let v379 : BitVec 32 := Scalar.muli v8 c1_i32_323
  let v380 : BitVec 32 := Scalar.addi v378 v379
  v380.toNat
def k0_dev12 (d0 : Dev nD) : Nat :=
  let c0_i32_358 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_357 : BitVec 32 := 16#32
  let v415 : BitVec 32 := Scalar.muli v11 c16_i32_357
  let v416 : BitVec 32 := Scalar.addi c0_i32_358 v415
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_359 : BitVec 32 := 4#32
  let v417 : BitVec 32 := Scalar.muli v5 c4_i32_359
  let v418 : BitVec 32 := Scalar.addi v416 v417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_360 : BitVec 32 := 1#32
  let v419 : BitVec 32 := Scalar.muli v8 c1_i32_360
  let v420 : BitVec 32 := Scalar.addi v418 v419
  v420.toNat
def k0_dev13 (d0 : Dev nD) : Nat :=
  let c0_i32_395 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_394 : BitVec 32 := 16#32
  let v455 : BitVec 32 := Scalar.muli v11 c16_i32_394
  let v456 : BitVec 32 := Scalar.addi c0_i32_395 v455
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_396 : BitVec 32 := 4#32
  let v457 : BitVec 32 := Scalar.muli v5 c4_i32_396
  let v458 : BitVec 32 := Scalar.addi v456 v457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_397 : BitVec 32 := 1#32
  let v459 : BitVec 32 := Scalar.muli v8 c1_i32_397
  let v460 : BitVec 32 := Scalar.addi v458 v459
  v460.toNat
def k0_dev14 (d0 : Dev nD) : Nat :=
  let c0_i32_432 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_431 : BitVec 32 := 16#32
  let v495 : BitVec 32 := Scalar.muli v11 c16_i32_431
  let v496 : BitVec 32 := Scalar.addi c0_i32_432 v495
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_433 : BitVec 32 := 4#32
  let v497 : BitVec 32 := Scalar.muli v5 c4_i32_433
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_434 : BitVec 32 := 1#32
  let v499 : BitVec 32 := Scalar.muli v8 c1_i32_434
  let v500 : BitVec 32 := Scalar.addi v498 v499
  v500.toNat
def k0_dev15 (d0 : Dev nD) : Nat :=
  let c0_i32_469 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_468 : BitVec 32 := 16#32
  let v535 : BitVec 32 := Scalar.muli v11 c16_i32_468
  let v536 : BitVec 32 := Scalar.addi c0_i32_469 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_470 : BitVec 32 := 4#32
  let v537 : BitVec 32 := Scalar.muli v5 c4_i32_470
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_471 : BitVec 32 := 1#32
  let v539 : BitVec 32 := Scalar.muli v8 c1_i32_471
  let v540 : BitVec 32 := Scalar.addi v538 v539
  v540.toNat
def k0_dev16 (d0 : Dev nD) : Nat :=
  let c0_i32_506 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_505 : BitVec 32 := 16#32
  let v575 : BitVec 32 := Scalar.muli v11 c16_i32_505
  let v576 : BitVec 32 := Scalar.addi c0_i32_506 v575
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_507 : BitVec 32 := 4#32
  let v577 : BitVec 32 := Scalar.muli v5 c4_i32_507
  let v578 : BitVec 32 := Scalar.addi v576 v577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v579 : BitVec 32 := Scalar.muli v8 c1_i32_508
  let v580 : BitVec 32 := Scalar.addi v578 v579
  v580.toNat
def k0_dev17 (d0 : Dev nD) : Nat :=
  let c0_i32_543 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_542 : BitVec 32 := 16#32
  let v615 : BitVec 32 := Scalar.muli v11 c16_i32_542
  let v616 : BitVec 32 := Scalar.addi c0_i32_543 v615
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_544 : BitVec 32 := 4#32
  let v617 : BitVec 32 := Scalar.muli v5 c4_i32_544
  let v618 : BitVec 32 := Scalar.addi v616 v617
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_545 : BitVec 32 := 1#32
  let v619 : BitVec 32 := Scalar.muli v8 c1_i32_545
  let v620 : BitVec 32 := Scalar.addi v618 v619
  v620.toNat
def k0_dev18 (d0 : Dev nD) : Nat :=
  let c0_i32_580 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_579 : BitVec 32 := 16#32
  let v655 : BitVec 32 := Scalar.muli v11 c16_i32_579
  let v656 : BitVec 32 := Scalar.addi c0_i32_580 v655
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_581 : BitVec 32 := 4#32
  let v657 : BitVec 32 := Scalar.muli v5 c4_i32_581
  let v658 : BitVec 32 := Scalar.addi v656 v657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_582 : BitVec 32 := 1#32
  let v659 : BitVec 32 := Scalar.muli v8 c1_i32_582
  let v660 : BitVec 32 := Scalar.addi v658 v659
  v660.toNat
def k0_dev19 (d0 : Dev nD) : Nat :=
  let c0_i32_616 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_615 : BitVec 32 := 16#32
  let v695 : BitVec 32 := Scalar.muli v11 c16_i32_615
  let v696 : BitVec 32 := Scalar.addi c0_i32_616 v695
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_617 : BitVec 32 := 4#32
  let v697 : BitVec 32 := Scalar.muli v5 c4_i32_617
  let v698 : BitVec 32 := Scalar.addi v696 v697
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_618 : BitVec 32 := 1#32
  let v699 : BitVec 32 := Scalar.muli v8 c1_i32_618
  let v700 : BitVec 32 := Scalar.addi v698 v699
  v700.toNat
def k0_dev20 (d0 : Dev nD) : Nat :=
  let c0_i32_653 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_652 : BitVec 32 := 16#32
  let v735 : BitVec 32 := Scalar.muli v11 c16_i32_652
  let v736 : BitVec 32 := Scalar.addi c0_i32_653 v735
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_654 : BitVec 32 := 4#32
  let v737 : BitVec 32 := Scalar.muli v5 c4_i32_654
  let v738 : BitVec 32 := Scalar.addi v736 v737
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_655 : BitVec 32 := 1#32
  let v739 : BitVec 32 := Scalar.muli v8 c1_i32_655
  let v740 : BitVec 32 := Scalar.addi v738 v739
  v740.toNat
def k0_dev21 (d0 : Dev nD) : Nat :=
  let c0_i32_690 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_689 : BitVec 32 := 16#32
  let v775 : BitVec 32 := Scalar.muli v11 c16_i32_689
  let v776 : BitVec 32 := Scalar.addi c0_i32_690 v775
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_691 : BitVec 32 := 4#32
  let v777 : BitVec 32 := Scalar.muli v5 c4_i32_691
  let v778 : BitVec 32 := Scalar.addi v776 v777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_692 : BitVec 32 := 1#32
  let v779 : BitVec 32 := Scalar.muli v8 c1_i32_692
  let v780 : BitVec 32 := Scalar.addi v778 v779
  v780.toNat
def k0_dev22 (d0 : Dev nD) : Nat :=
  let c0_i32_727 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_726 : BitVec 32 := 16#32
  let v815 : BitVec 32 := Scalar.muli v11 c16_i32_726
  let v816 : BitVec 32 := Scalar.addi c0_i32_727 v815
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_728 : BitVec 32 := 4#32
  let v817 : BitVec 32 := Scalar.muli v5 c4_i32_728
  let v818 : BitVec 32 := Scalar.addi v816 v817
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_729 : BitVec 32 := 1#32
  let v819 : BitVec 32 := Scalar.muli v8 c1_i32_729
  let v820 : BitVec 32 := Scalar.addi v818 v819
  v820.toNat
def k0_dev23 (d0 : Dev nD) : Nat :=
  let c0_i32_764 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_763 : BitVec 32 := 16#32
  let v855 : BitVec 32 := Scalar.muli v11 c16_i32_763
  let v856 : BitVec 32 := Scalar.addi c0_i32_764 v855
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_765 : BitVec 32 := 4#32
  let v857 : BitVec 32 := Scalar.muli v5 c4_i32_765
  let v858 : BitVec 32 := Scalar.addi v856 v857
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_766 : BitVec 32 := 1#32
  let v859 : BitVec 32 := Scalar.muli v8 c1_i32_766
  let v860 : BitVec 32 := Scalar.addi v858 v859
  v860.toNat
def k0_dev24 (d0 : Dev nD) : Nat :=
  let c0_i32_801 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_800 : BitVec 32 := 16#32
  let v895 : BitVec 32 := Scalar.muli v11 c16_i32_800
  let v896 : BitVec 32 := Scalar.addi c0_i32_801 v895
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_802 : BitVec 32 := 4#32
  let v897 : BitVec 32 := Scalar.muli v5 c4_i32_802
  let v898 : BitVec 32 := Scalar.addi v896 v897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_803 : BitVec 32 := 1#32
  let v899 : BitVec 32 := Scalar.muli v8 c1_i32_803
  let v900 : BitVec 32 := Scalar.addi v898 v899
  v900.toNat
def k0_dev25 (d0 : Dev nD) : Nat :=
  let c0_i32_838 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_837 : BitVec 32 := 16#32
  let v935 : BitVec 32 := Scalar.muli v11 c16_i32_837
  let v936 : BitVec 32 := Scalar.addi c0_i32_838 v935
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_839 : BitVec 32 := 4#32
  let v937 : BitVec 32 := Scalar.muli v5 c4_i32_839
  let v938 : BitVec 32 := Scalar.addi v936 v937
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_840 : BitVec 32 := 1#32
  let v939 : BitVec 32 := Scalar.muli v8 c1_i32_840
  let v940 : BitVec 32 := Scalar.addi v938 v939
  v940.toNat
def k0_dev26 (d0 : Dev nD) : Nat :=
  let c0_i32_875 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_874 : BitVec 32 := 16#32
  let v975 : BitVec 32 := Scalar.muli v11 c16_i32_874
  let v976 : BitVec 32 := Scalar.addi c0_i32_875 v975
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_876 : BitVec 32 := 4#32
  let v977 : BitVec 32 := Scalar.muli v5 c4_i32_876
  let v978 : BitVec 32 := Scalar.addi v976 v977
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_877 : BitVec 32 := 1#32
  let v979 : BitVec 32 := Scalar.muli v8 c1_i32_877
  let v980 : BitVec 32 := Scalar.addi v978 v979
  v980.toNat
def k0_dev27 (d0 : Dev nD) : Nat :=
  let c0_i32_911 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_910 : BitVec 32 := 16#32
  let v1015 : BitVec 32 := Scalar.muli v11 c16_i32_910
  let v1016 : BitVec 32 := Scalar.addi c0_i32_911 v1015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_912 : BitVec 32 := 4#32
  let v1017 : BitVec 32 := Scalar.muli v5 c4_i32_912
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_913 : BitVec 32 := 1#32
  let v1019 : BitVec 32 := Scalar.muli v8 c1_i32_913
  let v1020 : BitVec 32 := Scalar.addi v1018 v1019
  v1020.toNat
def k0_dev28 (d0 : Dev nD) : Nat :=
  let c0_i32_948 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_947 : BitVec 32 := 16#32
  let v1055 : BitVec 32 := Scalar.muli v11 c16_i32_947
  let v1056 : BitVec 32 := Scalar.addi c0_i32_948 v1055
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_949 : BitVec 32 := 4#32
  let v1057 : BitVec 32 := Scalar.muli v5 c4_i32_949
  let v1058 : BitVec 32 := Scalar.addi v1056 v1057
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_950 : BitVec 32 := 1#32
  let v1059 : BitVec 32 := Scalar.muli v8 c1_i32_950
  let v1060 : BitVec 32 := Scalar.addi v1058 v1059
  v1060.toNat
def k0_dev29 (d0 : Dev nD) : Nat :=
  let c0_i32_985 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_984 : BitVec 32 := 16#32
  let v1095 : BitVec 32 := Scalar.muli v11 c16_i32_984
  let v1096 : BitVec 32 := Scalar.addi c0_i32_985 v1095
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_986 : BitVec 32 := 4#32
  let v1097 : BitVec 32 := Scalar.muli v5 c4_i32_986
  let v1098 : BitVec 32 := Scalar.addi v1096 v1097
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_987 : BitVec 32 := 1#32
  let v1099 : BitVec 32 := Scalar.muli v8 c1_i32_987
  let v1100 : BitVec 32 := Scalar.addi v1098 v1099
  v1100.toNat
def k0_dev30 (d0 : Dev nD) : Nat :=
  let c0_i32_1022 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1021 : BitVec 32 := 16#32
  let v1135 : BitVec 32 := Scalar.muli v11 c16_i32_1021
  let v1136 : BitVec 32 := Scalar.addi c0_i32_1022 v1135
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1023 : BitVec 32 := 4#32
  let v1137 : BitVec 32 := Scalar.muli v5 c4_i32_1023
  let v1138 : BitVec 32 := Scalar.addi v1136 v1137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1024 : BitVec 32 := 1#32
  let v1139 : BitVec 32 := Scalar.muli v8 c1_i32_1024
  let v1140 : BitVec 32 := Scalar.addi v1138 v1139
  v1140.toNat
def k0_dev31 (d0 : Dev nD) : Nat :=
  let c0_i32_1059 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1058 : BitVec 32 := 16#32
  let v1175 : BitVec 32 := Scalar.muli v11 c16_i32_1058
  let v1176 : BitVec 32 := Scalar.addi c0_i32_1059 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1060 : BitVec 32 := 4#32
  let v1177 : BitVec 32 := Scalar.muli v5 c4_i32_1060
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1061 : BitVec 32 := 1#32
  let v1179 : BitVec 32 := Scalar.muli v8 c1_i32_1061
  let v1180 : BitVec 32 := Scalar.addi v1178 v1179
  v1180.toNat
def k0_dev32 (d0 : Dev nD) : Nat :=
  let c0_i32_1096 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1095 : BitVec 32 := 16#32
  let v1215 : BitVec 32 := Scalar.muli v11 c16_i32_1095
  let v1216 : BitVec 32 := Scalar.addi c0_i32_1096 v1215
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1097 : BitVec 32 := 4#32
  let v1217 : BitVec 32 := Scalar.muli v5 c4_i32_1097
  let v1218 : BitVec 32 := Scalar.addi v1216 v1217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1098 : BitVec 32 := 1#32
  let v1219 : BitVec 32 := Scalar.muli v8 c1_i32_1098
  let v1220 : BitVec 32 := Scalar.addi v1218 v1219
  v1220.toNat
def k0_dev33 (d0 : Dev nD) : Nat :=
  let c0_i32_1133 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1132 : BitVec 32 := 16#32
  let v1255 : BitVec 32 := Scalar.muli v11 c16_i32_1132
  let v1256 : BitVec 32 := Scalar.addi c0_i32_1133 v1255
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1134 : BitVec 32 := 4#32
  let v1257 : BitVec 32 := Scalar.muli v5 c4_i32_1134
  let v1258 : BitVec 32 := Scalar.addi v1256 v1257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1135 : BitVec 32 := 1#32
  let v1259 : BitVec 32 := Scalar.muli v8 c1_i32_1135
  let v1260 : BitVec 32 := Scalar.addi v1258 v1259
  v1260.toNat
def k0_dev34 (d0 : Dev nD) : Nat :=
  let c0_i32_1170 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1169 : BitVec 32 := 16#32
  let v1295 : BitVec 32 := Scalar.muli v11 c16_i32_1169
  let v1296 : BitVec 32 := Scalar.addi c0_i32_1170 v1295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1171 : BitVec 32 := 4#32
  let v1297 : BitVec 32 := Scalar.muli v5 c4_i32_1171
  let v1298 : BitVec 32 := Scalar.addi v1296 v1297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1172 : BitVec 32 := 1#32
  let v1299 : BitVec 32 := Scalar.muli v8 c1_i32_1172
  let v1300 : BitVec 32 := Scalar.addi v1298 v1299
  v1300.toNat
def k0_off5 (d0 : Dev nD) (c0_i32_1183 : BitVec 32) : Fin 2 → Nat :=
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1317 : BitVec 32 := Scalar.addi v10 c0_i32_1183
  let c0_i32_1195 : BitVec 32 := 0#32
  ![v1317.toNat, 0]
def k0_off6 (d0 : Dev nD) (c0_i32_1183 : BitVec 32) : Fin 2 → Nat :=
  let c0_i32_1209 : BitVec 32 := 0#32
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1317 : BitVec 32 := Scalar.addi v10 c0_i32_1183
  let v1343 : BitVec 32 := Scalar.addi c0_i32_1209 v1317
  let v1344 : Index := Scalar.indexCast v1343
  let c0_1210 : Index := 0#32
  ![v1344.toNat, 0]
def k0_off7 (d0 : Dev nD) (c0_i32_1183 : BitVec 32) : Fin 2 → Nat :=
  let c0_i32_1216 : BitVec 32 := 0#32
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1317 : BitVec 32 := Scalar.addi v10 c0_i32_1183
  let v1353 : BitVec 32 := Scalar.addi c0_i32_1216 v1317
  let c0_i32_1221 : BitVec 32 := 0#32
  ![v1353.toNat, 0]
def k0_off8 (d0 : Dev nD) (c4096_i32_1369 : BitVec 32) (c0_i32_1370 : BitVec 32) : Fin 2 → Nat :=
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1543 : BitVec 32 := Scalar.addi c4096_i32_1369 v10
  let v1544 : BitVec 32 := Scalar.addi v1543 c0_i32_1370
  let c0_i32_1379 : BitVec 32 := 0#32
  ![v1544.toNat, 0]
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v16 : BitVec 1 := Scalar.cmpi .eq v5 c1_i32_5
  let v17 : BitVec 32 := Scalar.extui v16
  let c0_i32_6 : BitVec 32 := 0#32
  let v18 : BitVec 1 := Scalar.cmpi .ne v17 c0_i32_6
  v18

def k0_dev35 (d0 : Dev nD) : Nat :=
  let c0_i32_12 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_11 : BitVec 32 := 16#32
  let v25 : BitVec 32 := Scalar.muli v11 c16_i32_11
  let v26 : BitVec 32 := Scalar.addi c0_i32_12 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v27 : BitVec 32 := Scalar.muli v5 c4_i32_13
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v29 : BitVec 32 := Scalar.muli v8 c1_i32_14
  let v30 : BitVec 32 := Scalar.addi v28 v29
  v30.toNat
def k0_dev36 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v31 : BitVec 32 := Scalar.muli v2 c16_i32_17
  let v32 : BitVec 32 := Scalar.addi c0_i32_18 v31
  let c0_i32_16 : BitVec 32 := 0#32
  let c4_i32_19 : BitVec 32 := 4#32
  let v33 : BitVec 32 := Scalar.muli c0_i32_16 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_dev37 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v37 : BitVec 32 := Scalar.muli v2 c16_i32_23
  let v38 : BitVec 32 := Scalar.addi c0_i32_24 v37
  let c2_i32_22 : BitVec 32 := 2#32
  let c4_i32_25 : BitVec 32 := 4#32
  let v39 : BitVec 32 := Scalar.muli c2_i32_22 c4_i32_25
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v41 : BitVec 32 := Scalar.muli v8 c1_i32_26
  let v42 : BitVec 32 := Scalar.addi v40 v41
  v42.toNat
def k0_off9 (d0 : Dev nD) (c0_i32_28 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v43 : BitVec 32 := Scalar.addi v9 c0_i32_28
  let c0_i32_33 : BitVec 32 := 0#32
  ![v43.toNat, 0]
def k0_off10 (d0 : Dev nD) (c0_i32_28 : BitVec 32) : Fin 2 → Nat :=
  let c4096_i32 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v43 : BitVec 32 := Scalar.addi v9 c0_i32_28
  let v69 : BitVec 32 := Scalar.addi c4096_i32 v43
  let v70 : Index := Scalar.indexCast v69
  let c0_46 : Index := 0#32
  ![v70.toNat, 0]
def k0_off11 (d0 : Dev nD) (c4096_i32_54 : BitVec 32) (c0_i32_55 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v81 : BitVec 32 := Scalar.addi c4096_i32_54 v9
  let v82 : BitVec 32 := Scalar.addi v81 c0_i32_55
  let c0_i32_66 : BitVec 32 := 0#32
  ![v82.toNat, 0]
def k0_dev38 (d0 : Dev nD) : Nat :=
  let c0_i32_63 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_62 : BitVec 32 := 16#32
  let v83 : BitVec 32 := Scalar.muli v2 c16_i32_62
  let v84 : BitVec 32 := Scalar.addi c0_i32_63 v83
  let c2_i32_61 : BitVec 32 := 2#32
  let c4_i32_64 : BitVec 32 := 4#32
  let v85 : BitVec 32 := Scalar.muli c2_i32_61 c4_i32_64
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v87 : BitVec 32 := Scalar.muli v8 c1_i32_65
  let v88 : BitVec 32 := Scalar.addi v86 v87
  v88.toNat
def k0_dev39 (d0 : Dev nD) : Nat :=
  let c0_i32_79 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_78 : BitVec 32 := 16#32
  let v99 : BitVec 32 := Scalar.muli v2 c16_i32_78
  let v100 : BitVec 32 := Scalar.addi c0_i32_79 v99
  let c0_i32_77 : BitVec 32 := 0#32
  let c4_i32_80 : BitVec 32 := 4#32
  let v101 : BitVec 32 := Scalar.muli c0_i32_77 c4_i32_80
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v103 : BitVec 32 := Scalar.muli v8 c1_i32_81
  let v104 : BitVec 32 := Scalar.addi v102 v103
  v104.toNat
def k0_off12 (d0 : Dev nD) (c0_i32_28 : BitVec 32) : Fin 2 → Nat :=
  let c4096_i32_84 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v43 : BitVec 32 := Scalar.addi v9 c0_i32_28
  let v111 : BitVec 32 := Scalar.addi c4096_i32_84 v43
  let c0_i32_86 : BitVec 32 := 0#32
  ![v111.toNat, 0]
def k0_dev40 (d0 : Dev nD) : Nat :=
  let c0_i32_113 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_112 : BitVec 32 := 16#32
  let v138 : BitVec 32 := Scalar.muli v2 c16_i32_112
  let v139 : BitVec 32 := Scalar.addi c0_i32_113 v138
  let c2_i32_111 : BitVec 32 := 2#32
  let c4_i32_114 : BitVec 32 := 4#32
  let v140 : BitVec 32 := Scalar.muli c2_i32_111 c4_i32_114
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v142 : BitVec 32 := Scalar.muli v8 c1_i32_115
  let v143 : BitVec 32 := Scalar.addi v141 v142
  v143.toNat
def k0_dev41 (d0 : Dev nD) : Nat :=
  let c0_i32_129 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_128 : BitVec 32 := 16#32
  let v154 : BitVec 32 := Scalar.muli v2 c16_i32_128
  let v155 : BitVec 32 := Scalar.addi c0_i32_129 v154
  let c0_i32_127 : BitVec 32 := 0#32
  let c4_i32_130 : BitVec 32 := 4#32
  let v156 : BitVec 32 := Scalar.muli c0_i32_127 c4_i32_130
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v158 : BitVec 32 := Scalar.muli v8 c1_i32_131
  let v159 : BitVec 32 := Scalar.addi v157 v158
  v159.toNat
def k0_dev42 (d0 : Dev nD) : Nat :=
  let c0_i32_164 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_163 : BitVec 32 := 16#32
  let v193 : BitVec 32 := Scalar.muli v2 c16_i32_163
  let v194 : BitVec 32 := Scalar.addi c0_i32_164 v193
  let c2_i32_162 : BitVec 32 := 2#32
  let c4_i32_165 : BitVec 32 := 4#32
  let v195 : BitVec 32 := Scalar.muli c2_i32_162 c4_i32_165
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v197 : BitVec 32 := Scalar.muli v8 c1_i32_166
  let v198 : BitVec 32 := Scalar.addi v196 v197
  v198.toNat
def k0_dev43 (d0 : Dev nD) : Nat :=
  let c0_i32_180 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_179 : BitVec 32 := 16#32
  let v209 : BitVec 32 := Scalar.muli v2 c16_i32_179
  let v210 : BitVec 32 := Scalar.addi c0_i32_180 v209
  let c0_i32_178 : BitVec 32 := 0#32
  let c4_i32_181 : BitVec 32 := 4#32
  let v211 : BitVec 32 := Scalar.muli c0_i32_178 c4_i32_181
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_182 : BitVec 32 := 1#32
  let v213 : BitVec 32 := Scalar.muli v8 c1_i32_182
  let v214 : BitVec 32 := Scalar.addi v212 v213
  v214.toNat
def k0_dev44 (d0 : Dev nD) : Nat :=
  let c0_i32_215 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_214 : BitVec 32 := 16#32
  let v248 : BitVec 32 := Scalar.muli v2 c16_i32_214
  let v249 : BitVec 32 := Scalar.addi c0_i32_215 v248
  let c2_i32_213 : BitVec 32 := 2#32
  let c4_i32_216 : BitVec 32 := 4#32
  let v250 : BitVec 32 := Scalar.muli c2_i32_213 c4_i32_216
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_217 : BitVec 32 := 1#32
  let v252 : BitVec 32 := Scalar.muli v8 c1_i32_217
  let v253 : BitVec 32 := Scalar.addi v251 v252
  v253.toNat
def k0_dev45 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v264 : BitVec 32 := Scalar.muli v2 c16_i32_230
  let v265 : BitVec 32 := Scalar.addi c0_i32_231 v264
  let c0_i32_229 : BitVec 32 := 0#32
  let c4_i32_232 : BitVec 32 := 4#32
  let v266 : BitVec 32 := Scalar.muli c0_i32_229 c4_i32_232
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v268 : BitVec 32 := Scalar.muli v8 c1_i32_233
  let v269 : BitVec 32 := Scalar.addi v267 v268
  v269.toNat
def k0_dev46 (d0 : Dev nD) : Nat :=
  let c0_i32_266 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_265 : BitVec 32 := 16#32
  let v303 : BitVec 32 := Scalar.muli v2 c16_i32_265
  let v304 : BitVec 32 := Scalar.addi c0_i32_266 v303
  let c2_i32_264 : BitVec 32 := 2#32
  let c4_i32_267 : BitVec 32 := 4#32
  let v305 : BitVec 32 := Scalar.muli c2_i32_264 c4_i32_267
  let v306 : BitVec 32 := Scalar.addi v304 v305
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v307 : BitVec 32 := Scalar.muli v8 c1_i32_268
  let v308 : BitVec 32 := Scalar.addi v306 v307
  v308.toNat
def k0_dev47 (d0 : Dev nD) : Nat :=
  let c0_i32_282 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_281 : BitVec 32 := 16#32
  let v319 : BitVec 32 := Scalar.muli v2 c16_i32_281
  let v320 : BitVec 32 := Scalar.addi c0_i32_282 v319
  let c0_i32_280 : BitVec 32 := 0#32
  let c4_i32_283 : BitVec 32 := 4#32
  let v321 : BitVec 32 := Scalar.muli c0_i32_280 c4_i32_283
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_284 : BitVec 32 := 1#32
  let v323 : BitVec 32 := Scalar.muli v8 c1_i32_284
  let v324 : BitVec 32 := Scalar.addi v322 v323
  v324.toNat
def k0_dev48 (d0 : Dev nD) : Nat :=
  let c0_i32_316 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_315 : BitVec 32 := 16#32
  let v358 : BitVec 32 := Scalar.muli v2 c16_i32_315
  let v359 : BitVec 32 := Scalar.addi c0_i32_316 v358
  let c2_i32_314 : BitVec 32 := 2#32
  let c4_i32_317 : BitVec 32 := 4#32
  let v360 : BitVec 32 := Scalar.muli c2_i32_314 c4_i32_317
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v362 : BitVec 32 := Scalar.muli v8 c1_i32_318
  let v363 : BitVec 32 := Scalar.addi v361 v362
  v363.toNat
def k0_dev49 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v374 : BitVec 32 := Scalar.muli v2 c16_i32_331
  let v375 : BitVec 32 := Scalar.addi c0_i32_332 v374
  let c0_i32_330 : BitVec 32 := 0#32
  let c4_i32_333 : BitVec 32 := 4#32
  let v376 : BitVec 32 := Scalar.muli c0_i32_330 c4_i32_333
  let v377 : BitVec 32 := Scalar.addi v375 v376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v378 : BitVec 32 := Scalar.muli v8 c1_i32_334
  let v379 : BitVec 32 := Scalar.addi v377 v378
  v379.toNat
def k0_dev50 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v408 : BitVec 32 := Scalar.muli v2 c16_i32_360
  let v409 : BitVec 32 := Scalar.addi c0_i32_361 v408
  let c2_i32_359 : BitVec 32 := 2#32
  let c4_i32_362 : BitVec 32 := 4#32
  let v410 : BitVec 32 := Scalar.muli c2_i32_359 c4_i32_362
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v412 : BitVec 32 := Scalar.muli v8 c1_i32_363
  let v413 : BitVec 32 := Scalar.addi v411 v412
  v413.toNat
def k0_dev51 (d0 : Dev nD) : Nat :=
  let c0_i32_377 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_376 : BitVec 32 := 16#32
  let v424 : BitVec 32 := Scalar.muli v2 c16_i32_376
  let v425 : BitVec 32 := Scalar.addi c0_i32_377 v424
  let c0_i32_375 : BitVec 32 := 0#32
  let c4_i32_378 : BitVec 32 := 4#32
  let v426 : BitVec 32 := Scalar.muli c0_i32_375 c4_i32_378
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v428 : BitVec 32 := Scalar.muli v8 c1_i32_379
  let v429 : BitVec 32 := Scalar.addi v427 v428
  v429.toNat
def k0_dev52 (d0 : Dev nD) : Nat :=
  let c0_i32_406 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_405 : BitVec 32 := 16#32
  let v458 : BitVec 32 := Scalar.muli v2 c16_i32_405
  let v459 : BitVec 32 := Scalar.addi c0_i32_406 v458
  let c2_i32_404 : BitVec 32 := 2#32
  let c4_i32_407 : BitVec 32 := 4#32
  let v460 : BitVec 32 := Scalar.muli c2_i32_404 c4_i32_407
  let v461 : BitVec 32 := Scalar.addi v459 v460
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v462 : BitVec 32 := Scalar.muli v8 c1_i32_408
  let v463 : BitVec 32 := Scalar.addi v461 v462
  v463.toNat
def k0_dev53 (d0 : Dev nD) : Nat :=
  let c0_i32_422 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_421 : BitVec 32 := 16#32
  let v474 : BitVec 32 := Scalar.muli v2 c16_i32_421
  let v475 : BitVec 32 := Scalar.addi c0_i32_422 v474
  let c0_i32_420 : BitVec 32 := 0#32
  let c4_i32_423 : BitVec 32 := 4#32
  let v476 : BitVec 32 := Scalar.muli c0_i32_420 c4_i32_423
  let v477 : BitVec 32 := Scalar.addi v475 v476
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_424 : BitVec 32 := 1#32
  let v478 : BitVec 32 := Scalar.muli v8 c1_i32_424
  let v479 : BitVec 32 := Scalar.addi v477 v478
  v479.toNat
def k0_dev54 (d0 : Dev nD) : Nat :=
  let c0_i32_457 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_456 : BitVec 32 := 16#32
  let v509 : BitVec 32 := Scalar.muli v2 c16_i32_456
  let v510 : BitVec 32 := Scalar.addi c0_i32_457 v509
  let c2_i32_455 : BitVec 32 := 2#32
  let c4_i32_458 : BitVec 32 := 4#32
  let v511 : BitVec 32 := Scalar.muli c2_i32_455 c4_i32_458
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_459 : BitVec 32 := 1#32
  let v513 : BitVec 32 := Scalar.muli v8 c1_i32_459
  let v514 : BitVec 32 := Scalar.addi v512 v513
  v514.toNat
def k0_dev55 (d0 : Dev nD) : Nat :=
  let c0_i32_471 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_470 : BitVec 32 := 16#32
  let v525 : BitVec 32 := Scalar.muli v11 c16_i32_470
  let v526 : BitVec 32 := Scalar.addi c0_i32_471 v525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_472 : BitVec 32 := 4#32
  let v527 : BitVec 32 := Scalar.muli v5 c4_i32_472
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_473 : BitVec 32 := 1#32
  let v529 : BitVec 32 := Scalar.muli v8 c1_i32_473
  let v530 : BitVec 32 := Scalar.addi v528 v529
  v530.toNat
def k0_dev56 (d0 : Dev nD) : Nat :=
  let c0_i32_510 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_509 : BitVec 32 := 16#32
  let v565 : BitVec 32 := Scalar.muli v2 c16_i32_509
  let v566 : BitVec 32 := Scalar.addi c0_i32_510 v565
  let c2_i32_508 : BitVec 32 := 2#32
  let c4_i32_511 : BitVec 32 := 4#32
  let v567 : BitVec 32 := Scalar.muli c2_i32_508 c4_i32_511
  let v568 : BitVec 32 := Scalar.addi v566 v567
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_512 : BitVec 32 := 1#32
  let v569 : BitVec 32 := Scalar.muli v8 c1_i32_512
  let v570 : BitVec 32 := Scalar.addi v568 v569
  v570.toNat
def k0_dev57 (d0 : Dev nD) : Nat :=
  let c0_i32_524 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_523 : BitVec 32 := 16#32
  let v581 : BitVec 32 := Scalar.muli v11 c16_i32_523
  let v582 : BitVec 32 := Scalar.addi c0_i32_524 v581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_525 : BitVec 32 := 4#32
  let v583 : BitVec 32 := Scalar.muli v5 c4_i32_525
  let v584 : BitVec 32 := Scalar.addi v582 v583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_526 : BitVec 32 := 1#32
  let v585 : BitVec 32 := Scalar.muli v8 c1_i32_526
  let v586 : BitVec 32 := Scalar.addi v584 v585
  v586.toNat
def k0_dev58 (d0 : Dev nD) : Nat :=
  let c0_i32_563 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_562 : BitVec 32 := 16#32
  let v621 : BitVec 32 := Scalar.muli v2 c16_i32_562
  let v622 : BitVec 32 := Scalar.addi c0_i32_563 v621
  let c2_i32_561 : BitVec 32 := 2#32
  let c4_i32_564 : BitVec 32 := 4#32
  let v623 : BitVec 32 := Scalar.muli c2_i32_561 c4_i32_564
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_565 : BitVec 32 := 1#32
  let v625 : BitVec 32 := Scalar.muli v8 c1_i32_565
  let v626 : BitVec 32 := Scalar.addi v624 v625
  v626.toNat
def k0_dev59 (d0 : Dev nD) : Nat :=
  let c0_i32_577 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_576 : BitVec 32 := 16#32
  let v637 : BitVec 32 := Scalar.muli v11 c16_i32_576
  let v638 : BitVec 32 := Scalar.addi c0_i32_577 v637
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_578 : BitVec 32 := 4#32
  let v639 : BitVec 32 := Scalar.muli v5 c4_i32_578
  let v640 : BitVec 32 := Scalar.addi v638 v639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_579 : BitVec 32 := 1#32
  let v641 : BitVec 32 := Scalar.muli v8 c1_i32_579
  let v642 : BitVec 32 := Scalar.addi v640 v641
  v642.toNat
def k0_dev60 (d0 : Dev nD) : Nat :=
  let c0_i32_616 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_615 : BitVec 32 := 16#32
  let v677 : BitVec 32 := Scalar.muli v2 c16_i32_615
  let v678 : BitVec 32 := Scalar.addi c0_i32_616 v677
  let c2_i32_614 : BitVec 32 := 2#32
  let c4_i32_617 : BitVec 32 := 4#32
  let v679 : BitVec 32 := Scalar.muli c2_i32_614 c4_i32_617
  let v680 : BitVec 32 := Scalar.addi v678 v679
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_618 : BitVec 32 := 1#32
  let v681 : BitVec 32 := Scalar.muli v8 c1_i32_618
  let v682 : BitVec 32 := Scalar.addi v680 v681
  v682.toNat
def k0_dev61 (d0 : Dev nD) : Nat :=
  let c0_i32_630 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_629 : BitVec 32 := 16#32
  let v693 : BitVec 32 := Scalar.muli v11 c16_i32_629
  let v694 : BitVec 32 := Scalar.addi c0_i32_630 v693
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_631 : BitVec 32 := 4#32
  let v695 : BitVec 32 := Scalar.muli v5 c4_i32_631
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_632 : BitVec 32 := 1#32
  let v697 : BitVec 32 := Scalar.muli v8 c1_i32_632
  let v698 : BitVec 32 := Scalar.addi v696 v697
  v698.toNat
def k0_dev62 (d0 : Dev nD) : Nat :=
  let c0_i32_669 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_668 : BitVec 32 := 16#32
  let v733 : BitVec 32 := Scalar.muli v2 c16_i32_668
  let v734 : BitVec 32 := Scalar.addi c0_i32_669 v733
  let c2_i32_667 : BitVec 32 := 2#32
  let c4_i32_670 : BitVec 32 := 4#32
  let v735 : BitVec 32 := Scalar.muli c2_i32_667 c4_i32_670
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_671 : BitVec 32 := 1#32
  let v737 : BitVec 32 := Scalar.muli v8 c1_i32_671
  let v738 : BitVec 32 := Scalar.addi v736 v737
  v738.toNat
def k0_dev63 (d0 : Dev nD) : Nat :=
  let c0_i32_683 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_682 : BitVec 32 := 16#32
  let v749 : BitVec 32 := Scalar.muli v11 c16_i32_682
  let v750 : BitVec 32 := Scalar.addi c0_i32_683 v749
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_684 : BitVec 32 := 4#32
  let v751 : BitVec 32 := Scalar.muli v5 c4_i32_684
  let v752 : BitVec 32 := Scalar.addi v750 v751
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_685 : BitVec 32 := 1#32
  let v753 : BitVec 32 := Scalar.muli v8 c1_i32_685
  let v754 : BitVec 32 := Scalar.addi v752 v753
  v754.toNat
def k0_dev64 (d0 : Dev nD) : Nat :=
  let c0_i32_722 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_721 : BitVec 32 := 16#32
  let v789 : BitVec 32 := Scalar.muli v2 c16_i32_721
  let v790 : BitVec 32 := Scalar.addi c0_i32_722 v789
  let c2_i32_720 : BitVec 32 := 2#32
  let c4_i32_723 : BitVec 32 := 4#32
  let v791 : BitVec 32 := Scalar.muli c2_i32_720 c4_i32_723
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_724 : BitVec 32 := 1#32
  let v793 : BitVec 32 := Scalar.muli v8 c1_i32_724
  let v794 : BitVec 32 := Scalar.addi v792 v793
  v794.toNat
def k0_dev65 (d0 : Dev nD) : Nat :=
  let c0_i32_736 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_735 : BitVec 32 := 16#32
  let v805 : BitVec 32 := Scalar.muli v11 c16_i32_735
  let v806 : BitVec 32 := Scalar.addi c0_i32_736 v805
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v807 : BitVec 32 := Scalar.muli v5 c4_i32_737
  let v808 : BitVec 32 := Scalar.addi v806 v807
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v809 : BitVec 32 := Scalar.muli v8 c1_i32_738
  let v810 : BitVec 32 := Scalar.addi v808 v809
  v810.toNat
def k0_dev66 (d0 : Dev nD) : Nat :=
  let c0_i32_775 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_774 : BitVec 32 := 16#32
  let v845 : BitVec 32 := Scalar.muli v2 c16_i32_774
  let v846 : BitVec 32 := Scalar.addi c0_i32_775 v845
  let c2_i32_773 : BitVec 32 := 2#32
  let c4_i32_776 : BitVec 32 := 4#32
  let v847 : BitVec 32 := Scalar.muli c2_i32_773 c4_i32_776
  let v848 : BitVec 32 := Scalar.addi v846 v847
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_777 : BitVec 32 := 1#32
  let v849 : BitVec 32 := Scalar.muli v8 c1_i32_777
  let v850 : BitVec 32 := Scalar.addi v848 v849
  v850.toNat
def k0_dev67 (d0 : Dev nD) : Nat :=
  let c0_i32_789 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_788 : BitVec 32 := 16#32
  let v861 : BitVec 32 := Scalar.muli v11 c16_i32_788
  let v862 : BitVec 32 := Scalar.addi c0_i32_789 v861
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_790 : BitVec 32 := 4#32
  let v863 : BitVec 32 := Scalar.muli v5 c4_i32_790
  let v864 : BitVec 32 := Scalar.addi v862 v863
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_791 : BitVec 32 := 1#32
  let v865 : BitVec 32 := Scalar.muli v8 c1_i32_791
  let v866 : BitVec 32 := Scalar.addi v864 v865
  v866.toNat
def k0_dev68 (d0 : Dev nD) : Nat :=
  let c0_i32_828 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_827 : BitVec 32 := 16#32
  let v901 : BitVec 32 := Scalar.muli v2 c16_i32_827
  let v902 : BitVec 32 := Scalar.addi c0_i32_828 v901
  let c2_i32_826 : BitVec 32 := 2#32
  let c4_i32_829 : BitVec 32 := 4#32
  let v903 : BitVec 32 := Scalar.muli c2_i32_826 c4_i32_829
  let v904 : BitVec 32 := Scalar.addi v902 v903
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_830 : BitVec 32 := 1#32
  let v905 : BitVec 32 := Scalar.muli v8 c1_i32_830
  let v906 : BitVec 32 := Scalar.addi v904 v905
  v906.toNat
def k0_dev69 (d0 : Dev nD) : Nat :=
  let c0_i32_842 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_841 : BitVec 32 := 16#32
  let v917 : BitVec 32 := Scalar.muli v11 c16_i32_841
  let v918 : BitVec 32 := Scalar.addi c0_i32_842 v917
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_843 : BitVec 32 := 4#32
  let v919 : BitVec 32 := Scalar.muli v5 c4_i32_843
  let v920 : BitVec 32 := Scalar.addi v918 v919
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_844 : BitVec 32 := 1#32
  let v921 : BitVec 32 := Scalar.muli v8 c1_i32_844
  let v922 : BitVec 32 := Scalar.addi v920 v921
  v922.toNat
def k0_dev70 (d0 : Dev nD) : Nat :=
  let c0_i32_880 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_879 : BitVec 32 := 16#32
  let v957 : BitVec 32 := Scalar.muli v2 c16_i32_879
  let v958 : BitVec 32 := Scalar.addi c0_i32_880 v957
  let c0_i32_878 : BitVec 32 := 0#32
  let c4_i32_881 : BitVec 32 := 4#32
  let v959 : BitVec 32 := Scalar.muli c0_i32_878 c4_i32_881
  let v960 : BitVec 32 := Scalar.addi v958 v959
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_882 : BitVec 32 := 1#32
  let v961 : BitVec 32 := Scalar.muli v8 c1_i32_882
  let v962 : BitVec 32 := Scalar.addi v960 v961
  v962.toNat
def k0_dev71 (d0 : Dev nD) : Nat :=
  let c0_i32_894 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_893 : BitVec 32 := 16#32
  let v973 : BitVec 32 := Scalar.muli v11 c16_i32_893
  let v974 : BitVec 32 := Scalar.addi c0_i32_894 v973
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_895 : BitVec 32 := 4#32
  let v975 : BitVec 32 := Scalar.muli v5 c4_i32_895
  let v976 : BitVec 32 := Scalar.addi v974 v975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_896 : BitVec 32 := 1#32
  let v977 : BitVec 32 := Scalar.muli v8 c1_i32_896
  let v978 : BitVec 32 := Scalar.addi v976 v977
  v978.toNat
def k0_dev72 (d0 : Dev nD) : Nat :=
  let c0_i32_933 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_932 : BitVec 32 := 16#32
  let v1013 : BitVec 32 := Scalar.muli v2 c16_i32_932
  let v1014 : BitVec 32 := Scalar.addi c0_i32_933 v1013
  let c0_i32_931 : BitVec 32 := 0#32
  let c4_i32_934 : BitVec 32 := 4#32
  let v1015 : BitVec 32 := Scalar.muli c0_i32_931 c4_i32_934
  let v1016 : BitVec 32 := Scalar.addi v1014 v1015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_935 : BitVec 32 := 1#32
  let v1017 : BitVec 32 := Scalar.muli v8 c1_i32_935
  let v1018 : BitVec 32 := Scalar.addi v1016 v1017
  v1018.toNat
def k0_dev73 (d0 : Dev nD) : Nat :=
  let c0_i32_947 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_946 : BitVec 32 := 16#32
  let v1029 : BitVec 32 := Scalar.muli v11 c16_i32_946
  let v1030 : BitVec 32 := Scalar.addi c0_i32_947 v1029
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_948 : BitVec 32 := 4#32
  let v1031 : BitVec 32 := Scalar.muli v5 c4_i32_948
  let v1032 : BitVec 32 := Scalar.addi v1030 v1031
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_949 : BitVec 32 := 1#32
  let v1033 : BitVec 32 := Scalar.muli v8 c1_i32_949
  let v1034 : BitVec 32 := Scalar.addi v1032 v1033
  v1034.toNat
def k0_dev74 (d0 : Dev nD) : Nat :=
  let c0_i32_986 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_985 : BitVec 32 := 16#32
  let v1069 : BitVec 32 := Scalar.muli v2 c16_i32_985
  let v1070 : BitVec 32 := Scalar.addi c0_i32_986 v1069
  let c0_i32_984 : BitVec 32 := 0#32
  let c4_i32_987 : BitVec 32 := 4#32
  let v1071 : BitVec 32 := Scalar.muli c0_i32_984 c4_i32_987
  let v1072 : BitVec 32 := Scalar.addi v1070 v1071
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1073 : BitVec 32 := Scalar.muli v8 c1_i32_988
  let v1074 : BitVec 32 := Scalar.addi v1072 v1073
  v1074.toNat
def k0_dev75 (d0 : Dev nD) : Nat :=
  let c0_i32_1000 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_999 : BitVec 32 := 16#32
  let v1085 : BitVec 32 := Scalar.muli v11 c16_i32_999
  let v1086 : BitVec 32 := Scalar.addi c0_i32_1000 v1085
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1001 : BitVec 32 := 4#32
  let v1087 : BitVec 32 := Scalar.muli v5 c4_i32_1001
  let v1088 : BitVec 32 := Scalar.addi v1086 v1087
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1002 : BitVec 32 := 1#32
  let v1089 : BitVec 32 := Scalar.muli v8 c1_i32_1002
  let v1090 : BitVec 32 := Scalar.addi v1088 v1089
  v1090.toNat
def k0_dev76 (d0 : Dev nD) : Nat :=
  let c0_i32_1039 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1038 : BitVec 32 := 16#32
  let v1125 : BitVec 32 := Scalar.muli v2 c16_i32_1038
  let v1126 : BitVec 32 := Scalar.addi c0_i32_1039 v1125
  let c0_i32_1037 : BitVec 32 := 0#32
  let c4_i32_1040 : BitVec 32 := 4#32
  let v1127 : BitVec 32 := Scalar.muli c0_i32_1037 c4_i32_1040
  let v1128 : BitVec 32 := Scalar.addi v1126 v1127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1041 : BitVec 32 := 1#32
  let v1129 : BitVec 32 := Scalar.muli v8 c1_i32_1041
  let v1130 : BitVec 32 := Scalar.addi v1128 v1129
  v1130.toNat
def k0_dev77 (d0 : Dev nD) : Nat :=
  let c0_i32_1053 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1052 : BitVec 32 := 16#32
  let v1141 : BitVec 32 := Scalar.muli v11 c16_i32_1052
  let v1142 : BitVec 32 := Scalar.addi c0_i32_1053 v1141
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1054 : BitVec 32 := 4#32
  let v1143 : BitVec 32 := Scalar.muli v5 c4_i32_1054
  let v1144 : BitVec 32 := Scalar.addi v1142 v1143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1055 : BitVec 32 := 1#32
  let v1145 : BitVec 32 := Scalar.muli v8 c1_i32_1055
  let v1146 : BitVec 32 := Scalar.addi v1144 v1145
  v1146.toNat
def k0_dev78 (d0 : Dev nD) : Nat :=
  let c0_i32_1092 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1091 : BitVec 32 := 16#32
  let v1181 : BitVec 32 := Scalar.muli v2 c16_i32_1091
  let v1182 : BitVec 32 := Scalar.addi c0_i32_1092 v1181
  let c0_i32_1090 : BitVec 32 := 0#32
  let c4_i32_1093 : BitVec 32 := 4#32
  let v1183 : BitVec 32 := Scalar.muli c0_i32_1090 c4_i32_1093
  let v1184 : BitVec 32 := Scalar.addi v1182 v1183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1094 : BitVec 32 := 1#32
  let v1185 : BitVec 32 := Scalar.muli v8 c1_i32_1094
  let v1186 : BitVec 32 := Scalar.addi v1184 v1185
  v1186.toNat
def k0_dev79 (d0 : Dev nD) : Nat :=
  let c0_i32_1106 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1105 : BitVec 32 := 16#32
  let v1197 : BitVec 32 := Scalar.muli v11 c16_i32_1105
  let v1198 : BitVec 32 := Scalar.addi c0_i32_1106 v1197
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1107 : BitVec 32 := 4#32
  let v1199 : BitVec 32 := Scalar.muli v5 c4_i32_1107
  let v1200 : BitVec 32 := Scalar.addi v1198 v1199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1108 : BitVec 32 := 1#32
  let v1201 : BitVec 32 := Scalar.muli v8 c1_i32_1108
  let v1202 : BitVec 32 := Scalar.addi v1200 v1201
  v1202.toNat
def k0_dev80 (d0 : Dev nD) : Nat :=
  let c0_i32_1145 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1144 : BitVec 32 := 16#32
  let v1237 : BitVec 32 := Scalar.muli v2 c16_i32_1144
  let v1238 : BitVec 32 := Scalar.addi c0_i32_1145 v1237
  let c0_i32_1143 : BitVec 32 := 0#32
  let c4_i32_1146 : BitVec 32 := 4#32
  let v1239 : BitVec 32 := Scalar.muli c0_i32_1143 c4_i32_1146
  let v1240 : BitVec 32 := Scalar.addi v1238 v1239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1147 : BitVec 32 := 1#32
  let v1241 : BitVec 32 := Scalar.muli v8 c1_i32_1147
  let v1242 : BitVec 32 := Scalar.addi v1240 v1241
  v1242.toNat
def k0_dev81 (d0 : Dev nD) : Nat :=
  let c0_i32_1159 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1158 : BitVec 32 := 16#32
  let v1253 : BitVec 32 := Scalar.muli v11 c16_i32_1158
  let v1254 : BitVec 32 := Scalar.addi c0_i32_1159 v1253
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1160 : BitVec 32 := 4#32
  let v1255 : BitVec 32 := Scalar.muli v5 c4_i32_1160
  let v1256 : BitVec 32 := Scalar.addi v1254 v1255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1161 : BitVec 32 := 1#32
  let v1257 : BitVec 32 := Scalar.muli v8 c1_i32_1161
  let v1258 : BitVec 32 := Scalar.addi v1256 v1257
  v1258.toNat
def k0_dev82 (d0 : Dev nD) : Nat :=
  let c0_i32_1198 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1197 : BitVec 32 := 16#32
  let v1293 : BitVec 32 := Scalar.muli v2 c16_i32_1197
  let v1294 : BitVec 32 := Scalar.addi c0_i32_1198 v1293
  let c0_i32_1196 : BitVec 32 := 0#32
  let c4_i32_1199 : BitVec 32 := 4#32
  let v1295 : BitVec 32 := Scalar.muli c0_i32_1196 c4_i32_1199
  let v1296 : BitVec 32 := Scalar.addi v1294 v1295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1200 : BitVec 32 := 1#32
  let v1297 : BitVec 32 := Scalar.muli v8 c1_i32_1200
  let v1298 : BitVec 32 := Scalar.addi v1296 v1297
  v1298.toNat
def k0_dev83 (d0 : Dev nD) : Nat :=
  let c0_i32_1212 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1211 : BitVec 32 := 16#32
  let v1309 : BitVec 32 := Scalar.muli v11 c16_i32_1211
  let v1310 : BitVec 32 := Scalar.addi c0_i32_1212 v1309
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1213 : BitVec 32 := 4#32
  let v1311 : BitVec 32 := Scalar.muli v5 c4_i32_1213
  let v1312 : BitVec 32 := Scalar.addi v1310 v1311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1214 : BitVec 32 := 1#32
  let v1313 : BitVec 32 := Scalar.muli v8 c1_i32_1214
  let v1314 : BitVec 32 := Scalar.addi v1312 v1313
  v1314.toNat
def k0_dev84 (d0 : Dev nD) : Nat :=
  let c0_i32_1251 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1250 : BitVec 32 := 16#32
  let v1349 : BitVec 32 := Scalar.muli v2 c16_i32_1250
  let v1350 : BitVec 32 := Scalar.addi c0_i32_1251 v1349
  let c0_i32_1249 : BitVec 32 := 0#32
  let c4_i32_1252 : BitVec 32 := 4#32
  let v1351 : BitVec 32 := Scalar.muli c0_i32_1249 c4_i32_1252
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1253 : BitVec 32 := 1#32
  let v1353 : BitVec 32 := Scalar.muli v8 c1_i32_1253
  let v1354 : BitVec 32 := Scalar.addi v1352 v1353
  v1354.toNat
def k0_dev85 (d0 : Dev nD) : Nat :=
  let c0_i32_1265 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1264 : BitVec 32 := 16#32
  let v1365 : BitVec 32 := Scalar.muli v11 c16_i32_1264
  let v1366 : BitVec 32 := Scalar.addi c0_i32_1265 v1365
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1266 : BitVec 32 := 4#32
  let v1367 : BitVec 32 := Scalar.muli v5 c4_i32_1266
  let v1368 : BitVec 32 := Scalar.addi v1366 v1367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1267 : BitVec 32 := 1#32
  let v1369 : BitVec 32 := Scalar.muli v8 c1_i32_1267
  let v1370 : BitVec 32 := Scalar.addi v1368 v1369
  v1370.toNat
def k0_dev86 (d0 : Dev nD) : Nat :=
  let c0_i32_1303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1302 : BitVec 32 := 16#32
  let v1405 : BitVec 32 := Scalar.muli v2 c16_i32_1302
  let v1406 : BitVec 32 := Scalar.addi c0_i32_1303 v1405
  let c0_i32_1301 : BitVec 32 := 0#32
  let c4_i32_1304 : BitVec 32 := 4#32
  let v1407 : BitVec 32 := Scalar.muli c0_i32_1301 c4_i32_1304
  let v1408 : BitVec 32 := Scalar.addi v1406 v1407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1305 : BitVec 32 := 1#32
  let v1409 : BitVec 32 := Scalar.muli v8 c1_i32_1305
  let v1410 : BitVec 32 := Scalar.addi v1408 v1409
  v1410.toNat
def k0_dev87 (d0 : Dev nD) : Nat :=
  let c0_i32_1317 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1316 : BitVec 32 := 16#32
  let v1421 : BitVec 32 := Scalar.muli v11 c16_i32_1316
  let v1422 : BitVec 32 := Scalar.addi c0_i32_1317 v1421
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1318 : BitVec 32 := 4#32
  let v1423 : BitVec 32 := Scalar.muli v5 c4_i32_1318
  let v1424 : BitVec 32 := Scalar.addi v1422 v1423
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1319 : BitVec 32 := 1#32
  let v1425 : BitVec 32 := Scalar.muli v8 c1_i32_1319
  let v1426 : BitVec 32 := Scalar.addi v1424 v1425
  v1426.toNat
def k0_dev88 (d0 : Dev nD) : Nat :=
  let c0_i32_1356 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1355 : BitVec 32 := 16#32
  let v1461 : BitVec 32 := Scalar.muli v2 c16_i32_1355
  let v1462 : BitVec 32 := Scalar.addi c0_i32_1356 v1461
  let c0_i32_1354 : BitVec 32 := 0#32
  let c4_i32_1357 : BitVec 32 := 4#32
  let v1463 : BitVec 32 := Scalar.muli c0_i32_1354 c4_i32_1357
  let v1464 : BitVec 32 := Scalar.addi v1462 v1463
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1358 : BitVec 32 := 1#32
  let v1465 : BitVec 32 := Scalar.muli v8 c1_i32_1358
  let v1466 : BitVec 32 := Scalar.addi v1464 v1465
  v1466.toNat
def k0_dev89 (d0 : Dev nD) : Nat :=
  let c0_i32_1370 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1369 : BitVec 32 := 16#32
  let v1477 : BitVec 32 := Scalar.muli v11 c16_i32_1369
  let v1478 : BitVec 32 := Scalar.addi c0_i32_1370 v1477
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1371 : BitVec 32 := 4#32
  let v1479 : BitVec 32 := Scalar.muli v5 c4_i32_1371
  let v1480 : BitVec 32 := Scalar.addi v1478 v1479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1372 : BitVec 32 := 1#32
  let v1481 : BitVec 32 := Scalar.muli v8 c1_i32_1372
  let v1482 : BitVec 32 := Scalar.addi v1480 v1481
  v1482.toNat
def k0_dev90 (d0 : Dev nD) : Nat :=
  let c0_i32_1409 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1408 : BitVec 32 := 16#32
  let v1517 : BitVec 32 := Scalar.muli v2 c16_i32_1408
  let v1518 : BitVec 32 := Scalar.addi c0_i32_1409 v1517
  let c0_i32_1407 : BitVec 32 := 0#32
  let c4_i32_1410 : BitVec 32 := 4#32
  let v1519 : BitVec 32 := Scalar.muli c0_i32_1407 c4_i32_1410
  let v1520 : BitVec 32 := Scalar.addi v1518 v1519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1411 : BitVec 32 := 1#32
  let v1521 : BitVec 32 := Scalar.muli v8 c1_i32_1411
  let v1522 : BitVec 32 := Scalar.addi v1520 v1521
  v1522.toNat
def k0_dev91 (d0 : Dev nD) : Nat :=
  let c0_i32_1423 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1422 : BitVec 32 := 16#32
  let v1533 : BitVec 32 := Scalar.muli v11 c16_i32_1422
  let v1534 : BitVec 32 := Scalar.addi c0_i32_1423 v1533
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1424 : BitVec 32 := 4#32
  let v1535 : BitVec 32 := Scalar.muli v5 c4_i32_1424
  let v1536 : BitVec 32 := Scalar.addi v1534 v1535
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1425 : BitVec 32 := 1#32
  let v1537 : BitVec 32 := Scalar.muli v8 c1_i32_1425
  let v1538 : BitVec 32 := Scalar.addi v1536 v1537
  v1538.toNat
def k0_dev92 (d0 : Dev nD) : Nat :=
  let c0_i32_1462 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1461 : BitVec 32 := 16#32
  let v1573 : BitVec 32 := Scalar.muli v2 c16_i32_1461
  let v1574 : BitVec 32 := Scalar.addi c0_i32_1462 v1573
  let c0_i32_1460 : BitVec 32 := 0#32
  let c4_i32_1463 : BitVec 32 := 4#32
  let v1575 : BitVec 32 := Scalar.muli c0_i32_1460 c4_i32_1463
  let v1576 : BitVec 32 := Scalar.addi v1574 v1575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1464 : BitVec 32 := 1#32
  let v1577 : BitVec 32 := Scalar.muli v8 c1_i32_1464
  let v1578 : BitVec 32 := Scalar.addi v1576 v1577
  v1578.toNat
def k0_dev93 (d0 : Dev nD) : Nat :=
  let c0_i32_1476 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1475 : BitVec 32 := 16#32
  let v1589 : BitVec 32 := Scalar.muli v11 c16_i32_1475
  let v1590 : BitVec 32 := Scalar.addi c0_i32_1476 v1589
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1477 : BitVec 32 := 4#32
  let v1591 : BitVec 32 := Scalar.muli v5 c4_i32_1477
  let v1592 : BitVec 32 := Scalar.addi v1590 v1591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1478 : BitVec 32 := 1#32
  let v1593 : BitVec 32 := Scalar.muli v8 c1_i32_1478
  let v1594 : BitVec 32 := Scalar.addi v1592 v1593
  v1594.toNat
def k0_dev94 (d0 : Dev nD) : Nat :=
  let c0_i32_1515 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1514 : BitVec 32 := 16#32
  let v1629 : BitVec 32 := Scalar.muli v2 c16_i32_1514
  let v1630 : BitVec 32 := Scalar.addi c0_i32_1515 v1629
  let c0_i32_1513 : BitVec 32 := 0#32
  let c4_i32_1516 : BitVec 32 := 4#32
  let v1631 : BitVec 32 := Scalar.muli c0_i32_1513 c4_i32_1516
  let v1632 : BitVec 32 := Scalar.addi v1630 v1631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1517 : BitVec 32 := 1#32
  let v1633 : BitVec 32 := Scalar.muli v8 c1_i32_1517
  let v1634 : BitVec 32 := Scalar.addi v1632 v1633
  v1634.toNat
def k0_dev95 (d0 : Dev nD) : Nat :=
  let c0_i32_1529 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1528 : BitVec 32 := 16#32
  let v1645 : BitVec 32 := Scalar.muli v11 c16_i32_1528
  let v1646 : BitVec 32 := Scalar.addi c0_i32_1529 v1645
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1530 : BitVec 32 := 4#32
  let v1647 : BitVec 32 := Scalar.muli v5 c4_i32_1530
  let v1648 : BitVec 32 := Scalar.addi v1646 v1647
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1531 : BitVec 32 := 1#32
  let v1649 : BitVec 32 := Scalar.muli v8 c1_i32_1531
  let v1650 : BitVec 32 := Scalar.addi v1648 v1649
  v1650.toNat
def k0_dev96 (d0 : Dev nD) : Nat :=
  let c0_i32_1568 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1567 : BitVec 32 := 16#32
  let v1685 : BitVec 32 := Scalar.muli v2 c16_i32_1567
  let v1686 : BitVec 32 := Scalar.addi c0_i32_1568 v1685
  let c0_i32_1566 : BitVec 32 := 0#32
  let c4_i32_1569 : BitVec 32 := 4#32
  let v1687 : BitVec 32 := Scalar.muli c0_i32_1566 c4_i32_1569
  let v1688 : BitVec 32 := Scalar.addi v1686 v1687
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1570 : BitVec 32 := 1#32
  let v1689 : BitVec 32 := Scalar.muli v8 c1_i32_1570
  let v1690 : BitVec 32 := Scalar.addi v1688 v1689
  v1690.toNat
def k0_dev97 (d0 : Dev nD) : Nat :=
  let c0_i32_1582 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1581 : BitVec 32 := 16#32
  let v1701 : BitVec 32 := Scalar.muli v11 c16_i32_1581
  let v1702 : BitVec 32 := Scalar.addi c0_i32_1582 v1701
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1583 : BitVec 32 := 4#32
  let v1703 : BitVec 32 := Scalar.muli v5 c4_i32_1583
  let v1704 : BitVec 32 := Scalar.addi v1702 v1703
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1584 : BitVec 32 := 1#32
  let v1705 : BitVec 32 := Scalar.muli v8 c1_i32_1584
  let v1706 : BitVec 32 := Scalar.addi v1704 v1705
  v1706.toNat
def k0_dev98 (d0 : Dev nD) : Nat :=
  let c0_i32_1621 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1620 : BitVec 32 := 16#32
  let v1741 : BitVec 32 := Scalar.muli v2 c16_i32_1620
  let v1742 : BitVec 32 := Scalar.addi c0_i32_1621 v1741
  let c0_i32_1619 : BitVec 32 := 0#32
  let c4_i32_1622 : BitVec 32 := 4#32
  let v1743 : BitVec 32 := Scalar.muli c0_i32_1619 c4_i32_1622
  let v1744 : BitVec 32 := Scalar.addi v1742 v1743
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1623 : BitVec 32 := 1#32
  let v1745 : BitVec 32 := Scalar.muli v8 c1_i32_1623
  let v1746 : BitVec 32 := Scalar.addi v1744 v1745
  v1746.toNat
def k0_dev99 (d0 : Dev nD) : Nat :=
  let c0_i32_1635 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1634 : BitVec 32 := 16#32
  let v1757 : BitVec 32 := Scalar.muli v11 c16_i32_1634
  let v1758 : BitVec 32 := Scalar.addi c0_i32_1635 v1757
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1636 : BitVec 32 := 4#32
  let v1759 : BitVec 32 := Scalar.muli v5 c4_i32_1636
  let v1760 : BitVec 32 := Scalar.addi v1758 v1759
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1637 : BitVec 32 := 1#32
  let v1761 : BitVec 32 := Scalar.muli v8 c1_i32_1637
  let v1762 : BitVec 32 := Scalar.addi v1760 v1761
  v1762.toNat
def k0_dev100 (d0 : Dev nD) : Nat :=
  let c0_i32_1674 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1673 : BitVec 32 := 16#32
  let v1797 : BitVec 32 := Scalar.muli v2 c16_i32_1673
  let v1798 : BitVec 32 := Scalar.addi c0_i32_1674 v1797
  let c0_i32_1672 : BitVec 32 := 0#32
  let c4_i32_1675 : BitVec 32 := 4#32
  let v1799 : BitVec 32 := Scalar.muli c0_i32_1672 c4_i32_1675
  let v1800 : BitVec 32 := Scalar.addi v1798 v1799
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1676 : BitVec 32 := 1#32
  let v1801 : BitVec 32 := Scalar.muli v8 c1_i32_1676
  let v1802 : BitVec 32 := Scalar.addi v1800 v1801
  v1802.toNat
def k0_dev101 (d0 : Dev nD) : Nat :=
  let c0_i32_1688 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1687 : BitVec 32 := 16#32
  let v1813 : BitVec 32 := Scalar.muli v11 c16_i32_1687
  let v1814 : BitVec 32 := Scalar.addi c0_i32_1688 v1813
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1689 : BitVec 32 := 4#32
  let v1815 : BitVec 32 := Scalar.muli v5 c4_i32_1689
  let v1816 : BitVec 32 := Scalar.addi v1814 v1815
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1690 : BitVec 32 := 1#32
  let v1817 : BitVec 32 := Scalar.muli v8 c1_i32_1690
  let v1818 : BitVec 32 := Scalar.addi v1816 v1817
  v1818.toNat
def k0_off13 (d0 : Dev nD) (c0_i32_1701 : BitVec 32) : Fin 2 → Nat :=
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1835 : BitVec 32 := Scalar.addi v10 c0_i32_1701
  let c0_i32_1713 : BitVec 32 := 0#32
  ![v1835.toNat, 0]
def k0_off14 (d0 : Dev nD) (c0_i32_1701 : BitVec 32) : Fin 2 → Nat :=
  let c4096_i32_1727 : BitVec 32 := 4096#32
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1835 : BitVec 32 := Scalar.addi v10 c0_i32_1701
  let v1861 : BitVec 32 := Scalar.addi c4096_i32_1727 v1835
  let v1862 : Index := Scalar.indexCast v1861
  let c0_1728 : Index := 0#32
  ![v1862.toNat, 0]
def k0_off15 (d0 : Dev nD) (c0_i32_1701 : BitVec 32) : Fin 2 → Nat :=
  let c4096_i32_1734 : BitVec 32 := 4096#32
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1835 : BitVec 32 := Scalar.addi v10 c0_i32_1701
  let v1871 : BitVec 32 := Scalar.addi c4096_i32_1734 v1835
  let c0_i32_1739 : BitVec 32 := 0#32
  ![v1871.toNat, 0]
def k0_off16 (d0 : Dev nD) (c0_i32_1887 : BitVec 32) (c0_i32_1888 : BitVec 32) : Fin 2 → Nat :=
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v2061 : BitVec 32 := Scalar.addi c0_i32_1887 v10
  let v2062 : BitVec 32 := Scalar.addi v2061 c0_i32_1888
  let c0_i32_1897 : BitVec 32 := 0#32
  ![v2062.toNat, 0]
def k0_off16_at (r : Fin 24) : BitVec 32 × BitVec 32 :=
  if r.val < 12 then
    if r.val < 6 then
      if r.val < 3 then
        if r.val < 1 then
          (0#32, 0#32)
        else
          if r.val < 2 then
            (0#32, 256#32)
          else
            (0#32, 512#32)
      else
        if r.val < 4 then
          (0#32, 768#32)
        else
          if r.val < 5 then
            (0#32, 1024#32)
          else
            (0#32, 1280#32)
    else
      if r.val < 9 then
        if r.val < 7 then
          (0#32, 1536#32)
        else
          if r.val < 8 then
            (0#32, 1792#32)
          else
            (8192#32, 0#32)
      else
        if r.val < 10 then
          (8192#32, 256#32)
        else
          if r.val < 11 then
            (8192#32, 512#32)
          else
            (8192#32, 768#32)
  else
    if r.val < 18 then
      if r.val < 15 then
        if r.val < 13 then
          (8192#32, 1024#32)
        else
          if r.val < 14 then
            (8192#32, 1280#32)
          else
            (8192#32, 1536#32)
      else
        if r.val < 16 then
          (8192#32, 1792#32)
        else
          if r.val < 17 then
            (12288#32, 0#32)
          else
            (12288#32, 256#32)
    else
      if r.val < 21 then
        if r.val < 19 then
          (12288#32, 512#32)
        else
          if r.val < 20 then
            (12288#32, 768#32)
          else
            (12288#32, 1024#32)
      else
        if r.val < 22 then
          (12288#32, 1280#32)
        else
          if r.val < 23 then
            (12288#32, 1536#32)
          else
            (12288#32, 1792#32)
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_7 : BitVec 32 := 2#32
  let v19 : BitVec 1 := Scalar.cmpi .eq v5 c2_i32_7
  let v20 : BitVec 32 := Scalar.extui v19
  let c0_i32_8 : BitVec 32 := 0#32
  let v21 : BitVec 1 := Scalar.cmpi .ne v20 c0_i32_8
  v21

def k0_dev102 (d0 : Dev nD) : Nat :=
  let c0_i32_12 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_11 : BitVec 32 := 16#32
  let v25 : BitVec 32 := Scalar.muli v11 c16_i32_11
  let v26 : BitVec 32 := Scalar.addi c0_i32_12 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v27 : BitVec 32 := Scalar.muli v5 c4_i32_13
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v29 : BitVec 32 := Scalar.muli v8 c1_i32_14
  let v30 : BitVec 32 := Scalar.addi v28 v29
  v30.toNat
def k0_dev103 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v31 : BitVec 32 := Scalar.muli v2 c16_i32_17
  let v32 : BitVec 32 := Scalar.addi c0_i32_18 v31
  let c1_i32_16 : BitVec 32 := 1#32
  let c4_i32_19 : BitVec 32 := 4#32
  let v33 : BitVec 32 := Scalar.muli c1_i32_16 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_dev104 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v37 : BitVec 32 := Scalar.muli v2 c16_i32_23
  let v38 : BitVec 32 := Scalar.addi c0_i32_24 v37
  let c3_i32_22 : BitVec 32 := 3#32
  let c4_i32_25 : BitVec 32 := 4#32
  let v39 : BitVec 32 := Scalar.muli c3_i32_22 c4_i32_25
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v41 : BitVec 32 := Scalar.muli v8 c1_i32_26
  let v42 : BitVec 32 := Scalar.addi v40 v41
  v42.toNat
def k0_off17 (d0 : Dev nD) (c0_i32_28 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v43 : BitVec 32 := Scalar.addi v9 c0_i32_28
  let c0_i32_33 : BitVec 32 := 0#32
  ![v43.toNat, 0]
def k0_off18 (d0 : Dev nD) (c0_i32_28 : BitVec 32) : Fin 2 → Nat :=
  let c8192_i32 : BitVec 32 := 8192#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v43 : BitVec 32 := Scalar.addi v9 c0_i32_28
  let v69 : BitVec 32 := Scalar.addi c8192_i32 v43
  let v70 : Index := Scalar.indexCast v69
  let c0_46 : Index := 0#32
  ![v70.toNat, 0]
def k0_off19 (d0 : Dev nD) (c8192_i32_54 : BitVec 32) (c0_i32_55 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v81 : BitVec 32 := Scalar.addi c8192_i32_54 v9
  let v82 : BitVec 32 := Scalar.addi v81 c0_i32_55
  let c0_i32_66 : BitVec 32 := 0#32
  ![v82.toNat, 0]
def k0_dev105 (d0 : Dev nD) : Nat :=
  let c0_i32_63 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_62 : BitVec 32 := 16#32
  let v83 : BitVec 32 := Scalar.muli v2 c16_i32_62
  let v84 : BitVec 32 := Scalar.addi c0_i32_63 v83
  let c3_i32_61 : BitVec 32 := 3#32
  let c4_i32_64 : BitVec 32 := 4#32
  let v85 : BitVec 32 := Scalar.muli c3_i32_61 c4_i32_64
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v87 : BitVec 32 := Scalar.muli v8 c1_i32_65
  let v88 : BitVec 32 := Scalar.addi v86 v87
  v88.toNat
def k0_dev106 (d0 : Dev nD) : Nat :=
  let c0_i32_79 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_78 : BitVec 32 := 16#32
  let v99 : BitVec 32 := Scalar.muli v2 c16_i32_78
  let v100 : BitVec 32 := Scalar.addi c0_i32_79 v99
  let c1_i32_77 : BitVec 32 := 1#32
  let c4_i32_80 : BitVec 32 := 4#32
  let v101 : BitVec 32 := Scalar.muli c1_i32_77 c4_i32_80
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v103 : BitVec 32 := Scalar.muli v8 c1_i32_81
  let v104 : BitVec 32 := Scalar.addi v102 v103
  v104.toNat
def k0_off20 (d0 : Dev nD) (c0_i32_28 : BitVec 32) : Fin 2 → Nat :=
  let c8192_i32_84 : BitVec 32 := 8192#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v43 : BitVec 32 := Scalar.addi v9 c0_i32_28
  let v111 : BitVec 32 := Scalar.addi c8192_i32_84 v43
  let c0_i32_86 : BitVec 32 := 0#32
  ![v111.toNat, 0]
def k0_dev107 (d0 : Dev nD) : Nat :=
  let c0_i32_113 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_112 : BitVec 32 := 16#32
  let v138 : BitVec 32 := Scalar.muli v2 c16_i32_112
  let v139 : BitVec 32 := Scalar.addi c0_i32_113 v138
  let c3_i32_111 : BitVec 32 := 3#32
  let c4_i32_114 : BitVec 32 := 4#32
  let v140 : BitVec 32 := Scalar.muli c3_i32_111 c4_i32_114
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v142 : BitVec 32 := Scalar.muli v8 c1_i32_115
  let v143 : BitVec 32 := Scalar.addi v141 v142
  v143.toNat
def k0_dev108 (d0 : Dev nD) : Nat :=
  let c0_i32_129 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_128 : BitVec 32 := 16#32
  let v154 : BitVec 32 := Scalar.muli v2 c16_i32_128
  let v155 : BitVec 32 := Scalar.addi c0_i32_129 v154
  let c1_i32_127 : BitVec 32 := 1#32
  let c4_i32_130 : BitVec 32 := 4#32
  let v156 : BitVec 32 := Scalar.muli c1_i32_127 c4_i32_130
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v158 : BitVec 32 := Scalar.muli v8 c1_i32_131
  let v159 : BitVec 32 := Scalar.addi v157 v158
  v159.toNat
def k0_dev109 (d0 : Dev nD) : Nat :=
  let c0_i32_164 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_163 : BitVec 32 := 16#32
  let v193 : BitVec 32 := Scalar.muli v2 c16_i32_163
  let v194 : BitVec 32 := Scalar.addi c0_i32_164 v193
  let c3_i32_162 : BitVec 32 := 3#32
  let c4_i32_165 : BitVec 32 := 4#32
  let v195 : BitVec 32 := Scalar.muli c3_i32_162 c4_i32_165
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v197 : BitVec 32 := Scalar.muli v8 c1_i32_166
  let v198 : BitVec 32 := Scalar.addi v196 v197
  v198.toNat
def k0_dev110 (d0 : Dev nD) : Nat :=
  let c0_i32_180 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_179 : BitVec 32 := 16#32
  let v209 : BitVec 32 := Scalar.muli v2 c16_i32_179
  let v210 : BitVec 32 := Scalar.addi c0_i32_180 v209
  let c1_i32_178 : BitVec 32 := 1#32
  let c4_i32_181 : BitVec 32 := 4#32
  let v211 : BitVec 32 := Scalar.muli c1_i32_178 c4_i32_181
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_182 : BitVec 32 := 1#32
  let v213 : BitVec 32 := Scalar.muli v8 c1_i32_182
  let v214 : BitVec 32 := Scalar.addi v212 v213
  v214.toNat
def k0_dev111 (d0 : Dev nD) : Nat :=
  let c0_i32_215 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_214 : BitVec 32 := 16#32
  let v248 : BitVec 32 := Scalar.muli v2 c16_i32_214
  let v249 : BitVec 32 := Scalar.addi c0_i32_215 v248
  let c3_i32_213 : BitVec 32 := 3#32
  let c4_i32_216 : BitVec 32 := 4#32
  let v250 : BitVec 32 := Scalar.muli c3_i32_213 c4_i32_216
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_217 : BitVec 32 := 1#32
  let v252 : BitVec 32 := Scalar.muli v8 c1_i32_217
  let v253 : BitVec 32 := Scalar.addi v251 v252
  v253.toNat
def k0_dev112 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v264 : BitVec 32 := Scalar.muli v2 c16_i32_230
  let v265 : BitVec 32 := Scalar.addi c0_i32_231 v264
  let c1_i32_229 : BitVec 32 := 1#32
  let c4_i32_232 : BitVec 32 := 4#32
  let v266 : BitVec 32 := Scalar.muli c1_i32_229 c4_i32_232
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v268 : BitVec 32 := Scalar.muli v8 c1_i32_233
  let v269 : BitVec 32 := Scalar.addi v267 v268
  v269.toNat
def k0_dev113 (d0 : Dev nD) : Nat :=
  let c0_i32_266 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_265 : BitVec 32 := 16#32
  let v303 : BitVec 32 := Scalar.muli v2 c16_i32_265
  let v304 : BitVec 32 := Scalar.addi c0_i32_266 v303
  let c3_i32_264 : BitVec 32 := 3#32
  let c4_i32_267 : BitVec 32 := 4#32
  let v305 : BitVec 32 := Scalar.muli c3_i32_264 c4_i32_267
  let v306 : BitVec 32 := Scalar.addi v304 v305
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v307 : BitVec 32 := Scalar.muli v8 c1_i32_268
  let v308 : BitVec 32 := Scalar.addi v306 v307
  v308.toNat
def k0_dev114 (d0 : Dev nD) : Nat :=
  let c0_i32_282 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_281 : BitVec 32 := 16#32
  let v319 : BitVec 32 := Scalar.muli v2 c16_i32_281
  let v320 : BitVec 32 := Scalar.addi c0_i32_282 v319
  let c1_i32_280 : BitVec 32 := 1#32
  let c4_i32_283 : BitVec 32 := 4#32
  let v321 : BitVec 32 := Scalar.muli c1_i32_280 c4_i32_283
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_284 : BitVec 32 := 1#32
  let v323 : BitVec 32 := Scalar.muli v8 c1_i32_284
  let v324 : BitVec 32 := Scalar.addi v322 v323
  v324.toNat
def k0_dev115 (d0 : Dev nD) : Nat :=
  let c0_i32_316 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_315 : BitVec 32 := 16#32
  let v358 : BitVec 32 := Scalar.muli v2 c16_i32_315
  let v359 : BitVec 32 := Scalar.addi c0_i32_316 v358
  let c3_i32_314 : BitVec 32 := 3#32
  let c4_i32_317 : BitVec 32 := 4#32
  let v360 : BitVec 32 := Scalar.muli c3_i32_314 c4_i32_317
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v362 : BitVec 32 := Scalar.muli v8 c1_i32_318
  let v363 : BitVec 32 := Scalar.addi v361 v362
  v363.toNat
def k0_dev116 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v374 : BitVec 32 := Scalar.muli v2 c16_i32_331
  let v375 : BitVec 32 := Scalar.addi c0_i32_332 v374
  let c1_i32_330 : BitVec 32 := 1#32
  let c4_i32_333 : BitVec 32 := 4#32
  let v376 : BitVec 32 := Scalar.muli c1_i32_330 c4_i32_333
  let v377 : BitVec 32 := Scalar.addi v375 v376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v378 : BitVec 32 := Scalar.muli v8 c1_i32_334
  let v379 : BitVec 32 := Scalar.addi v377 v378
  v379.toNat
def k0_dev117 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v408 : BitVec 32 := Scalar.muli v2 c16_i32_360
  let v409 : BitVec 32 := Scalar.addi c0_i32_361 v408
  let c3_i32_359 : BitVec 32 := 3#32
  let c4_i32_362 : BitVec 32 := 4#32
  let v410 : BitVec 32 := Scalar.muli c3_i32_359 c4_i32_362
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v412 : BitVec 32 := Scalar.muli v8 c1_i32_363
  let v413 : BitVec 32 := Scalar.addi v411 v412
  v413.toNat
def k0_dev118 (d0 : Dev nD) : Nat :=
  let c0_i32_377 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_376 : BitVec 32 := 16#32
  let v424 : BitVec 32 := Scalar.muli v2 c16_i32_376
  let v425 : BitVec 32 := Scalar.addi c0_i32_377 v424
  let c1_i32_375 : BitVec 32 := 1#32
  let c4_i32_378 : BitVec 32 := 4#32
  let v426 : BitVec 32 := Scalar.muli c1_i32_375 c4_i32_378
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v428 : BitVec 32 := Scalar.muli v8 c1_i32_379
  let v429 : BitVec 32 := Scalar.addi v427 v428
  v429.toNat
def k0_dev119 (d0 : Dev nD) : Nat :=
  let c0_i32_406 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_405 : BitVec 32 := 16#32
  let v458 : BitVec 32 := Scalar.muli v2 c16_i32_405
  let v459 : BitVec 32 := Scalar.addi c0_i32_406 v458
  let c3_i32_404 : BitVec 32 := 3#32
  let c4_i32_407 : BitVec 32 := 4#32
  let v460 : BitVec 32 := Scalar.muli c3_i32_404 c4_i32_407
  let v461 : BitVec 32 := Scalar.addi v459 v460
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v462 : BitVec 32 := Scalar.muli v8 c1_i32_408
  let v463 : BitVec 32 := Scalar.addi v461 v462
  v463.toNat
def k0_dev120 (d0 : Dev nD) : Nat :=
  let c0_i32_422 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_421 : BitVec 32 := 16#32
  let v474 : BitVec 32 := Scalar.muli v2 c16_i32_421
  let v475 : BitVec 32 := Scalar.addi c0_i32_422 v474
  let c1_i32_420 : BitVec 32 := 1#32
  let c4_i32_423 : BitVec 32 := 4#32
  let v476 : BitVec 32 := Scalar.muli c1_i32_420 c4_i32_423
  let v477 : BitVec 32 := Scalar.addi v475 v476
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_424 : BitVec 32 := 1#32
  let v478 : BitVec 32 := Scalar.muli v8 c1_i32_424
  let v479 : BitVec 32 := Scalar.addi v477 v478
  v479.toNat
def k0_dev121 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v509 : BitVec 32 := Scalar.muli v2 c16_i32_455
  let v510 : BitVec 32 := Scalar.addi c0_i32_456 v509
  let c3_i32_454 : BitVec 32 := 3#32
  let c4_i32_457 : BitVec 32 := 4#32
  let v511 : BitVec 32 := Scalar.muli c3_i32_454 c4_i32_457
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v513 : BitVec 32 := Scalar.muli v8 c1_i32_458
  let v514 : BitVec 32 := Scalar.addi v512 v513
  v514.toNat
def k0_dev122 (d0 : Dev nD) : Nat :=
  let c0_i32_470 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_469 : BitVec 32 := 16#32
  let v525 : BitVec 32 := Scalar.muli v11 c16_i32_469
  let v526 : BitVec 32 := Scalar.addi c0_i32_470 v525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v527 : BitVec 32 := Scalar.muli v5 c4_i32_471
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v529 : BitVec 32 := Scalar.muli v8 c1_i32_472
  let v530 : BitVec 32 := Scalar.addi v528 v529
  v530.toNat
def k0_dev123 (d0 : Dev nD) : Nat :=
  let c0_i32_509 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_508 : BitVec 32 := 16#32
  let v565 : BitVec 32 := Scalar.muli v2 c16_i32_508
  let v566 : BitVec 32 := Scalar.addi c0_i32_509 v565
  let c3_i32_507 : BitVec 32 := 3#32
  let c4_i32_510 : BitVec 32 := 4#32
  let v567 : BitVec 32 := Scalar.muli c3_i32_507 c4_i32_510
  let v568 : BitVec 32 := Scalar.addi v566 v567
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_511 : BitVec 32 := 1#32
  let v569 : BitVec 32 := Scalar.muli v8 c1_i32_511
  let v570 : BitVec 32 := Scalar.addi v568 v569
  v570.toNat
def k0_dev124 (d0 : Dev nD) : Nat :=
  let c0_i32_523 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_522 : BitVec 32 := 16#32
  let v581 : BitVec 32 := Scalar.muli v11 c16_i32_522
  let v582 : BitVec 32 := Scalar.addi c0_i32_523 v581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_524 : BitVec 32 := 4#32
  let v583 : BitVec 32 := Scalar.muli v5 c4_i32_524
  let v584 : BitVec 32 := Scalar.addi v582 v583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_525 : BitVec 32 := 1#32
  let v585 : BitVec 32 := Scalar.muli v8 c1_i32_525
  let v586 : BitVec 32 := Scalar.addi v584 v585
  v586.toNat
def k0_dev125 (d0 : Dev nD) : Nat :=
  let c0_i32_562 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_561 : BitVec 32 := 16#32
  let v621 : BitVec 32 := Scalar.muli v2 c16_i32_561
  let v622 : BitVec 32 := Scalar.addi c0_i32_562 v621
  let c3_i32_560 : BitVec 32 := 3#32
  let c4_i32_563 : BitVec 32 := 4#32
  let v623 : BitVec 32 := Scalar.muli c3_i32_560 c4_i32_563
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_564 : BitVec 32 := 1#32
  let v625 : BitVec 32 := Scalar.muli v8 c1_i32_564
  let v626 : BitVec 32 := Scalar.addi v624 v625
  v626.toNat
def k0_dev126 (d0 : Dev nD) : Nat :=
  let c0_i32_576 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_575 : BitVec 32 := 16#32
  let v637 : BitVec 32 := Scalar.muli v11 c16_i32_575
  let v638 : BitVec 32 := Scalar.addi c0_i32_576 v637
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_577 : BitVec 32 := 4#32
  let v639 : BitVec 32 := Scalar.muli v5 c4_i32_577
  let v640 : BitVec 32 := Scalar.addi v638 v639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_578 : BitVec 32 := 1#32
  let v641 : BitVec 32 := Scalar.muli v8 c1_i32_578
  let v642 : BitVec 32 := Scalar.addi v640 v641
  v642.toNat
def k0_dev127 (d0 : Dev nD) : Nat :=
  let c0_i32_615 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_614 : BitVec 32 := 16#32
  let v677 : BitVec 32 := Scalar.muli v2 c16_i32_614
  let v678 : BitVec 32 := Scalar.addi c0_i32_615 v677
  let c3_i32_613 : BitVec 32 := 3#32
  let c4_i32_616 : BitVec 32 := 4#32
  let v679 : BitVec 32 := Scalar.muli c3_i32_613 c4_i32_616
  let v680 : BitVec 32 := Scalar.addi v678 v679
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_617 : BitVec 32 := 1#32
  let v681 : BitVec 32 := Scalar.muli v8 c1_i32_617
  let v682 : BitVec 32 := Scalar.addi v680 v681
  v682.toNat
def k0_dev128 (d0 : Dev nD) : Nat :=
  let c0_i32_629 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_628 : BitVec 32 := 16#32
  let v693 : BitVec 32 := Scalar.muli v11 c16_i32_628
  let v694 : BitVec 32 := Scalar.addi c0_i32_629 v693
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_630 : BitVec 32 := 4#32
  let v695 : BitVec 32 := Scalar.muli v5 c4_i32_630
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_631 : BitVec 32 := 1#32
  let v697 : BitVec 32 := Scalar.muli v8 c1_i32_631
  let v698 : BitVec 32 := Scalar.addi v696 v697
  v698.toNat
def k0_dev129 (d0 : Dev nD) : Nat :=
  let c0_i32_668 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_667 : BitVec 32 := 16#32
  let v733 : BitVec 32 := Scalar.muli v2 c16_i32_667
  let v734 : BitVec 32 := Scalar.addi c0_i32_668 v733
  let c3_i32_666 : BitVec 32 := 3#32
  let c4_i32_669 : BitVec 32 := 4#32
  let v735 : BitVec 32 := Scalar.muli c3_i32_666 c4_i32_669
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_670 : BitVec 32 := 1#32
  let v737 : BitVec 32 := Scalar.muli v8 c1_i32_670
  let v738 : BitVec 32 := Scalar.addi v736 v737
  v738.toNat
def k0_dev130 (d0 : Dev nD) : Nat :=
  let c0_i32_682 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_681 : BitVec 32 := 16#32
  let v749 : BitVec 32 := Scalar.muli v11 c16_i32_681
  let v750 : BitVec 32 := Scalar.addi c0_i32_682 v749
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_683 : BitVec 32 := 4#32
  let v751 : BitVec 32 := Scalar.muli v5 c4_i32_683
  let v752 : BitVec 32 := Scalar.addi v750 v751
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_684 : BitVec 32 := 1#32
  let v753 : BitVec 32 := Scalar.muli v8 c1_i32_684
  let v754 : BitVec 32 := Scalar.addi v752 v753
  v754.toNat
def k0_dev131 (d0 : Dev nD) : Nat :=
  let c0_i32_721 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_720 : BitVec 32 := 16#32
  let v789 : BitVec 32 := Scalar.muli v2 c16_i32_720
  let v790 : BitVec 32 := Scalar.addi c0_i32_721 v789
  let c3_i32_719 : BitVec 32 := 3#32
  let c4_i32_722 : BitVec 32 := 4#32
  let v791 : BitVec 32 := Scalar.muli c3_i32_719 c4_i32_722
  let v792 : BitVec 32 := Scalar.addi v790 v791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_723 : BitVec 32 := 1#32
  let v793 : BitVec 32 := Scalar.muli v8 c1_i32_723
  let v794 : BitVec 32 := Scalar.addi v792 v793
  v794.toNat
def k0_dev132 (d0 : Dev nD) : Nat :=
  let c0_i32_735 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_734 : BitVec 32 := 16#32
  let v805 : BitVec 32 := Scalar.muli v11 c16_i32_734
  let v806 : BitVec 32 := Scalar.addi c0_i32_735 v805
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_736 : BitVec 32 := 4#32
  let v807 : BitVec 32 := Scalar.muli v5 c4_i32_736
  let v808 : BitVec 32 := Scalar.addi v806 v807
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v809 : BitVec 32 := Scalar.muli v8 c1_i32_737
  let v810 : BitVec 32 := Scalar.addi v808 v809
  v810.toNat
def k0_dev133 (d0 : Dev nD) : Nat :=
  let c0_i32_774 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_773 : BitVec 32 := 16#32
  let v845 : BitVec 32 := Scalar.muli v2 c16_i32_773
  let v846 : BitVec 32 := Scalar.addi c0_i32_774 v845
  let c3_i32_772 : BitVec 32 := 3#32
  let c4_i32_775 : BitVec 32 := 4#32
  let v847 : BitVec 32 := Scalar.muli c3_i32_772 c4_i32_775
  let v848 : BitVec 32 := Scalar.addi v846 v847
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_776 : BitVec 32 := 1#32
  let v849 : BitVec 32 := Scalar.muli v8 c1_i32_776
  let v850 : BitVec 32 := Scalar.addi v848 v849
  v850.toNat
def k0_dev134 (d0 : Dev nD) : Nat :=
  let c0_i32_788 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_787 : BitVec 32 := 16#32
  let v861 : BitVec 32 := Scalar.muli v11 c16_i32_787
  let v862 : BitVec 32 := Scalar.addi c0_i32_788 v861
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_789 : BitVec 32 := 4#32
  let v863 : BitVec 32 := Scalar.muli v5 c4_i32_789
  let v864 : BitVec 32 := Scalar.addi v862 v863
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_790 : BitVec 32 := 1#32
  let v865 : BitVec 32 := Scalar.muli v8 c1_i32_790
  let v866 : BitVec 32 := Scalar.addi v864 v865
  v866.toNat
def k0_dev135 (d0 : Dev nD) : Nat :=
  let c0_i32_827 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_826 : BitVec 32 := 16#32
  let v901 : BitVec 32 := Scalar.muli v2 c16_i32_826
  let v902 : BitVec 32 := Scalar.addi c0_i32_827 v901
  let c3_i32_825 : BitVec 32 := 3#32
  let c4_i32_828 : BitVec 32 := 4#32
  let v903 : BitVec 32 := Scalar.muli c3_i32_825 c4_i32_828
  let v904 : BitVec 32 := Scalar.addi v902 v903
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_829 : BitVec 32 := 1#32
  let v905 : BitVec 32 := Scalar.muli v8 c1_i32_829
  let v906 : BitVec 32 := Scalar.addi v904 v905
  v906.toNat
def k0_dev136 (d0 : Dev nD) : Nat :=
  let c0_i32_841 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_840 : BitVec 32 := 16#32
  let v917 : BitVec 32 := Scalar.muli v11 c16_i32_840
  let v918 : BitVec 32 := Scalar.addi c0_i32_841 v917
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_842 : BitVec 32 := 4#32
  let v919 : BitVec 32 := Scalar.muli v5 c4_i32_842
  let v920 : BitVec 32 := Scalar.addi v918 v919
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_843 : BitVec 32 := 1#32
  let v921 : BitVec 32 := Scalar.muli v8 c1_i32_843
  let v922 : BitVec 32 := Scalar.addi v920 v921
  v922.toNat
def k0_dev137 (d0 : Dev nD) : Nat :=
  let c0_i32_879 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_878 : BitVec 32 := 16#32
  let v957 : BitVec 32 := Scalar.muli v2 c16_i32_878
  let v958 : BitVec 32 := Scalar.addi c0_i32_879 v957
  let c1_i32_877 : BitVec 32 := 1#32
  let c4_i32_880 : BitVec 32 := 4#32
  let v959 : BitVec 32 := Scalar.muli c1_i32_877 c4_i32_880
  let v960 : BitVec 32 := Scalar.addi v958 v959
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_881 : BitVec 32 := 1#32
  let v961 : BitVec 32 := Scalar.muli v8 c1_i32_881
  let v962 : BitVec 32 := Scalar.addi v960 v961
  v962.toNat
def k0_dev138 (d0 : Dev nD) : Nat :=
  let c0_i32_893 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_892 : BitVec 32 := 16#32
  let v973 : BitVec 32 := Scalar.muli v11 c16_i32_892
  let v974 : BitVec 32 := Scalar.addi c0_i32_893 v973
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_894 : BitVec 32 := 4#32
  let v975 : BitVec 32 := Scalar.muli v5 c4_i32_894
  let v976 : BitVec 32 := Scalar.addi v974 v975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_895 : BitVec 32 := 1#32
  let v977 : BitVec 32 := Scalar.muli v8 c1_i32_895
  let v978 : BitVec 32 := Scalar.addi v976 v977
  v978.toNat
def k0_dev139 (d0 : Dev nD) : Nat :=
  let c0_i32_932 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_931 : BitVec 32 := 16#32
  let v1013 : BitVec 32 := Scalar.muli v2 c16_i32_931
  let v1014 : BitVec 32 := Scalar.addi c0_i32_932 v1013
  let c1_i32_930 : BitVec 32 := 1#32
  let c4_i32_933 : BitVec 32 := 4#32
  let v1015 : BitVec 32 := Scalar.muli c1_i32_930 c4_i32_933
  let v1016 : BitVec 32 := Scalar.addi v1014 v1015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_934 : BitVec 32 := 1#32
  let v1017 : BitVec 32 := Scalar.muli v8 c1_i32_934
  let v1018 : BitVec 32 := Scalar.addi v1016 v1017
  v1018.toNat
def k0_dev140 (d0 : Dev nD) : Nat :=
  let c0_i32_946 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_945 : BitVec 32 := 16#32
  let v1029 : BitVec 32 := Scalar.muli v11 c16_i32_945
  let v1030 : BitVec 32 := Scalar.addi c0_i32_946 v1029
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_947 : BitVec 32 := 4#32
  let v1031 : BitVec 32 := Scalar.muli v5 c4_i32_947
  let v1032 : BitVec 32 := Scalar.addi v1030 v1031
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_948 : BitVec 32 := 1#32
  let v1033 : BitVec 32 := Scalar.muli v8 c1_i32_948
  let v1034 : BitVec 32 := Scalar.addi v1032 v1033
  v1034.toNat
def k0_dev141 (d0 : Dev nD) : Nat :=
  let c0_i32_985 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_984 : BitVec 32 := 16#32
  let v1069 : BitVec 32 := Scalar.muli v2 c16_i32_984
  let v1070 : BitVec 32 := Scalar.addi c0_i32_985 v1069
  let c1_i32_983 : BitVec 32 := 1#32
  let c4_i32_986 : BitVec 32 := 4#32
  let v1071 : BitVec 32 := Scalar.muli c1_i32_983 c4_i32_986
  let v1072 : BitVec 32 := Scalar.addi v1070 v1071
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_987 : BitVec 32 := 1#32
  let v1073 : BitVec 32 := Scalar.muli v8 c1_i32_987
  let v1074 : BitVec 32 := Scalar.addi v1072 v1073
  v1074.toNat
def k0_dev142 (d0 : Dev nD) : Nat :=
  let c0_i32_999 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_998 : BitVec 32 := 16#32
  let v1085 : BitVec 32 := Scalar.muli v11 c16_i32_998
  let v1086 : BitVec 32 := Scalar.addi c0_i32_999 v1085
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1000 : BitVec 32 := 4#32
  let v1087 : BitVec 32 := Scalar.muli v5 c4_i32_1000
  let v1088 : BitVec 32 := Scalar.addi v1086 v1087
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1001 : BitVec 32 := 1#32
  let v1089 : BitVec 32 := Scalar.muli v8 c1_i32_1001
  let v1090 : BitVec 32 := Scalar.addi v1088 v1089
  v1090.toNat
def k0_dev143 (d0 : Dev nD) : Nat :=
  let c0_i32_1038 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1037 : BitVec 32 := 16#32
  let v1125 : BitVec 32 := Scalar.muli v2 c16_i32_1037
  let v1126 : BitVec 32 := Scalar.addi c0_i32_1038 v1125
  let c1_i32_1036 : BitVec 32 := 1#32
  let c4_i32_1039 : BitVec 32 := 4#32
  let v1127 : BitVec 32 := Scalar.muli c1_i32_1036 c4_i32_1039
  let v1128 : BitVec 32 := Scalar.addi v1126 v1127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v1129 : BitVec 32 := Scalar.muli v8 c1_i32_1040
  let v1130 : BitVec 32 := Scalar.addi v1128 v1129
  v1130.toNat
def k0_dev144 (d0 : Dev nD) : Nat :=
  let c0_i32_1052 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1051 : BitVec 32 := 16#32
  let v1141 : BitVec 32 := Scalar.muli v11 c16_i32_1051
  let v1142 : BitVec 32 := Scalar.addi c0_i32_1052 v1141
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1053 : BitVec 32 := 4#32
  let v1143 : BitVec 32 := Scalar.muli v5 c4_i32_1053
  let v1144 : BitVec 32 := Scalar.addi v1142 v1143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1054 : BitVec 32 := 1#32
  let v1145 : BitVec 32 := Scalar.muli v8 c1_i32_1054
  let v1146 : BitVec 32 := Scalar.addi v1144 v1145
  v1146.toNat
def k0_dev145 (d0 : Dev nD) : Nat :=
  let c0_i32_1091 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1090 : BitVec 32 := 16#32
  let v1181 : BitVec 32 := Scalar.muli v2 c16_i32_1090
  let v1182 : BitVec 32 := Scalar.addi c0_i32_1091 v1181
  let c1_i32_1089 : BitVec 32 := 1#32
  let c4_i32_1092 : BitVec 32 := 4#32
  let v1183 : BitVec 32 := Scalar.muli c1_i32_1089 c4_i32_1092
  let v1184 : BitVec 32 := Scalar.addi v1182 v1183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1093 : BitVec 32 := 1#32
  let v1185 : BitVec 32 := Scalar.muli v8 c1_i32_1093
  let v1186 : BitVec 32 := Scalar.addi v1184 v1185
  v1186.toNat
def k0_dev146 (d0 : Dev nD) : Nat :=
  let c0_i32_1105 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1104 : BitVec 32 := 16#32
  let v1197 : BitVec 32 := Scalar.muli v11 c16_i32_1104
  let v1198 : BitVec 32 := Scalar.addi c0_i32_1105 v1197
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1106 : BitVec 32 := 4#32
  let v1199 : BitVec 32 := Scalar.muli v5 c4_i32_1106
  let v1200 : BitVec 32 := Scalar.addi v1198 v1199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1107 : BitVec 32 := 1#32
  let v1201 : BitVec 32 := Scalar.muli v8 c1_i32_1107
  let v1202 : BitVec 32 := Scalar.addi v1200 v1201
  v1202.toNat
def k0_dev147 (d0 : Dev nD) : Nat :=
  let c0_i32_1144 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1143 : BitVec 32 := 16#32
  let v1237 : BitVec 32 := Scalar.muli v2 c16_i32_1143
  let v1238 : BitVec 32 := Scalar.addi c0_i32_1144 v1237
  let c1_i32_1142 : BitVec 32 := 1#32
  let c4_i32_1145 : BitVec 32 := 4#32
  let v1239 : BitVec 32 := Scalar.muli c1_i32_1142 c4_i32_1145
  let v1240 : BitVec 32 := Scalar.addi v1238 v1239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1146 : BitVec 32 := 1#32
  let v1241 : BitVec 32 := Scalar.muli v8 c1_i32_1146
  let v1242 : BitVec 32 := Scalar.addi v1240 v1241
  v1242.toNat
def k0_dev148 (d0 : Dev nD) : Nat :=
  let c0_i32_1158 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1157 : BitVec 32 := 16#32
  let v1253 : BitVec 32 := Scalar.muli v11 c16_i32_1157
  let v1254 : BitVec 32 := Scalar.addi c0_i32_1158 v1253
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1159 : BitVec 32 := 4#32
  let v1255 : BitVec 32 := Scalar.muli v5 c4_i32_1159
  let v1256 : BitVec 32 := Scalar.addi v1254 v1255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1160 : BitVec 32 := 1#32
  let v1257 : BitVec 32 := Scalar.muli v8 c1_i32_1160
  let v1258 : BitVec 32 := Scalar.addi v1256 v1257
  v1258.toNat
def k0_dev149 (d0 : Dev nD) : Nat :=
  let c0_i32_1197 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1196 : BitVec 32 := 16#32
  let v1293 : BitVec 32 := Scalar.muli v2 c16_i32_1196
  let v1294 : BitVec 32 := Scalar.addi c0_i32_1197 v1293
  let c1_i32_1195 : BitVec 32 := 1#32
  let c4_i32_1198 : BitVec 32 := 4#32
  let v1295 : BitVec 32 := Scalar.muli c1_i32_1195 c4_i32_1198
  let v1296 : BitVec 32 := Scalar.addi v1294 v1295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1199 : BitVec 32 := 1#32
  let v1297 : BitVec 32 := Scalar.muli v8 c1_i32_1199
  let v1298 : BitVec 32 := Scalar.addi v1296 v1297
  v1298.toNat
def k0_dev150 (d0 : Dev nD) : Nat :=
  let c0_i32_1211 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1210 : BitVec 32 := 16#32
  let v1309 : BitVec 32 := Scalar.muli v11 c16_i32_1210
  let v1310 : BitVec 32 := Scalar.addi c0_i32_1211 v1309
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1212 : BitVec 32 := 4#32
  let v1311 : BitVec 32 := Scalar.muli v5 c4_i32_1212
  let v1312 : BitVec 32 := Scalar.addi v1310 v1311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1213 : BitVec 32 := 1#32
  let v1313 : BitVec 32 := Scalar.muli v8 c1_i32_1213
  let v1314 : BitVec 32 := Scalar.addi v1312 v1313
  v1314.toNat
def k0_dev151 (d0 : Dev nD) : Nat :=
  let c0_i32_1250 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1249 : BitVec 32 := 16#32
  let v1349 : BitVec 32 := Scalar.muli v2 c16_i32_1249
  let v1350 : BitVec 32 := Scalar.addi c0_i32_1250 v1349
  let c1_i32_1248 : BitVec 32 := 1#32
  let c4_i32_1251 : BitVec 32 := 4#32
  let v1351 : BitVec 32 := Scalar.muli c1_i32_1248 c4_i32_1251
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1252 : BitVec 32 := 1#32
  let v1353 : BitVec 32 := Scalar.muli v8 c1_i32_1252
  let v1354 : BitVec 32 := Scalar.addi v1352 v1353
  v1354.toNat
def k0_dev152 (d0 : Dev nD) : Nat :=
  let c0_i32_1264 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1263 : BitVec 32 := 16#32
  let v1365 : BitVec 32 := Scalar.muli v11 c16_i32_1263
  let v1366 : BitVec 32 := Scalar.addi c0_i32_1264 v1365
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1265 : BitVec 32 := 4#32
  let v1367 : BitVec 32 := Scalar.muli v5 c4_i32_1265
  let v1368 : BitVec 32 := Scalar.addi v1366 v1367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1266 : BitVec 32 := 1#32
  let v1369 : BitVec 32 := Scalar.muli v8 c1_i32_1266
  let v1370 : BitVec 32 := Scalar.addi v1368 v1369
  v1370.toNat
def k0_dev153 (d0 : Dev nD) : Nat :=
  let c0_i32_1303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1302 : BitVec 32 := 16#32
  let v1405 : BitVec 32 := Scalar.muli v2 c16_i32_1302
  let v1406 : BitVec 32 := Scalar.addi c0_i32_1303 v1405
  let c3_i32_1301 : BitVec 32 := 3#32
  let c4_i32_1304 : BitVec 32 := 4#32
  let v1407 : BitVec 32 := Scalar.muli c3_i32_1301 c4_i32_1304
  let v1408 : BitVec 32 := Scalar.addi v1406 v1407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1305 : BitVec 32 := 1#32
  let v1409 : BitVec 32 := Scalar.muli v8 c1_i32_1305
  let v1410 : BitVec 32 := Scalar.addi v1408 v1409
  v1410.toNat
def k0_dev154 (d0 : Dev nD) : Nat :=
  let c0_i32_1317 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1316 : BitVec 32 := 16#32
  let v1421 : BitVec 32 := Scalar.muli v11 c16_i32_1316
  let v1422 : BitVec 32 := Scalar.addi c0_i32_1317 v1421
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1318 : BitVec 32 := 4#32
  let v1423 : BitVec 32 := Scalar.muli v5 c4_i32_1318
  let v1424 : BitVec 32 := Scalar.addi v1422 v1423
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1319 : BitVec 32 := 1#32
  let v1425 : BitVec 32 := Scalar.muli v8 c1_i32_1319
  let v1426 : BitVec 32 := Scalar.addi v1424 v1425
  v1426.toNat
def k0_dev155 (d0 : Dev nD) : Nat :=
  let c0_i32_1356 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1355 : BitVec 32 := 16#32
  let v1461 : BitVec 32 := Scalar.muli v2 c16_i32_1355
  let v1462 : BitVec 32 := Scalar.addi c0_i32_1356 v1461
  let c3_i32_1354 : BitVec 32 := 3#32
  let c4_i32_1357 : BitVec 32 := 4#32
  let v1463 : BitVec 32 := Scalar.muli c3_i32_1354 c4_i32_1357
  let v1464 : BitVec 32 := Scalar.addi v1462 v1463
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1358 : BitVec 32 := 1#32
  let v1465 : BitVec 32 := Scalar.muli v8 c1_i32_1358
  let v1466 : BitVec 32 := Scalar.addi v1464 v1465
  v1466.toNat
def k0_dev156 (d0 : Dev nD) : Nat :=
  let c0_i32_1370 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1369 : BitVec 32 := 16#32
  let v1477 : BitVec 32 := Scalar.muli v11 c16_i32_1369
  let v1478 : BitVec 32 := Scalar.addi c0_i32_1370 v1477
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1371 : BitVec 32 := 4#32
  let v1479 : BitVec 32 := Scalar.muli v5 c4_i32_1371
  let v1480 : BitVec 32 := Scalar.addi v1478 v1479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1372 : BitVec 32 := 1#32
  let v1481 : BitVec 32 := Scalar.muli v8 c1_i32_1372
  let v1482 : BitVec 32 := Scalar.addi v1480 v1481
  v1482.toNat
def k0_dev157 (d0 : Dev nD) : Nat :=
  let c0_i32_1409 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1408 : BitVec 32 := 16#32
  let v1517 : BitVec 32 := Scalar.muli v2 c16_i32_1408
  let v1518 : BitVec 32 := Scalar.addi c0_i32_1409 v1517
  let c3_i32_1407 : BitVec 32 := 3#32
  let c4_i32_1410 : BitVec 32 := 4#32
  let v1519 : BitVec 32 := Scalar.muli c3_i32_1407 c4_i32_1410
  let v1520 : BitVec 32 := Scalar.addi v1518 v1519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1411 : BitVec 32 := 1#32
  let v1521 : BitVec 32 := Scalar.muli v8 c1_i32_1411
  let v1522 : BitVec 32 := Scalar.addi v1520 v1521
  v1522.toNat
def k0_dev158 (d0 : Dev nD) : Nat :=
  let c0_i32_1423 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1422 : BitVec 32 := 16#32
  let v1533 : BitVec 32 := Scalar.muli v11 c16_i32_1422
  let v1534 : BitVec 32 := Scalar.addi c0_i32_1423 v1533
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1424 : BitVec 32 := 4#32
  let v1535 : BitVec 32 := Scalar.muli v5 c4_i32_1424
  let v1536 : BitVec 32 := Scalar.addi v1534 v1535
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1425 : BitVec 32 := 1#32
  let v1537 : BitVec 32 := Scalar.muli v8 c1_i32_1425
  let v1538 : BitVec 32 := Scalar.addi v1536 v1537
  v1538.toNat
def k0_dev159 (d0 : Dev nD) : Nat :=
  let c0_i32_1462 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1461 : BitVec 32 := 16#32
  let v1573 : BitVec 32 := Scalar.muli v2 c16_i32_1461
  let v1574 : BitVec 32 := Scalar.addi c0_i32_1462 v1573
  let c3_i32_1460 : BitVec 32 := 3#32
  let c4_i32_1463 : BitVec 32 := 4#32
  let v1575 : BitVec 32 := Scalar.muli c3_i32_1460 c4_i32_1463
  let v1576 : BitVec 32 := Scalar.addi v1574 v1575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1464 : BitVec 32 := 1#32
  let v1577 : BitVec 32 := Scalar.muli v8 c1_i32_1464
  let v1578 : BitVec 32 := Scalar.addi v1576 v1577
  v1578.toNat
def k0_dev160 (d0 : Dev nD) : Nat :=
  let c0_i32_1476 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1475 : BitVec 32 := 16#32
  let v1589 : BitVec 32 := Scalar.muli v11 c16_i32_1475
  let v1590 : BitVec 32 := Scalar.addi c0_i32_1476 v1589
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1477 : BitVec 32 := 4#32
  let v1591 : BitVec 32 := Scalar.muli v5 c4_i32_1477
  let v1592 : BitVec 32 := Scalar.addi v1590 v1591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1478 : BitVec 32 := 1#32
  let v1593 : BitVec 32 := Scalar.muli v8 c1_i32_1478
  let v1594 : BitVec 32 := Scalar.addi v1592 v1593
  v1594.toNat
def k0_dev161 (d0 : Dev nD) : Nat :=
  let c0_i32_1515 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1514 : BitVec 32 := 16#32
  let v1629 : BitVec 32 := Scalar.muli v2 c16_i32_1514
  let v1630 : BitVec 32 := Scalar.addi c0_i32_1515 v1629
  let c3_i32_1513 : BitVec 32 := 3#32
  let c4_i32_1516 : BitVec 32 := 4#32
  let v1631 : BitVec 32 := Scalar.muli c3_i32_1513 c4_i32_1516
  let v1632 : BitVec 32 := Scalar.addi v1630 v1631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1517 : BitVec 32 := 1#32
  let v1633 : BitVec 32 := Scalar.muli v8 c1_i32_1517
  let v1634 : BitVec 32 := Scalar.addi v1632 v1633
  v1634.toNat
def k0_dev162 (d0 : Dev nD) : Nat :=
  let c0_i32_1529 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1528 : BitVec 32 := 16#32
  let v1645 : BitVec 32 := Scalar.muli v11 c16_i32_1528
  let v1646 : BitVec 32 := Scalar.addi c0_i32_1529 v1645
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1530 : BitVec 32 := 4#32
  let v1647 : BitVec 32 := Scalar.muli v5 c4_i32_1530
  let v1648 : BitVec 32 := Scalar.addi v1646 v1647
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1531 : BitVec 32 := 1#32
  let v1649 : BitVec 32 := Scalar.muli v8 c1_i32_1531
  let v1650 : BitVec 32 := Scalar.addi v1648 v1649
  v1650.toNat
def k0_dev163 (d0 : Dev nD) : Nat :=
  let c0_i32_1568 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1567 : BitVec 32 := 16#32
  let v1685 : BitVec 32 := Scalar.muli v2 c16_i32_1567
  let v1686 : BitVec 32 := Scalar.addi c0_i32_1568 v1685
  let c3_i32_1566 : BitVec 32 := 3#32
  let c4_i32_1569 : BitVec 32 := 4#32
  let v1687 : BitVec 32 := Scalar.muli c3_i32_1566 c4_i32_1569
  let v1688 : BitVec 32 := Scalar.addi v1686 v1687
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1570 : BitVec 32 := 1#32
  let v1689 : BitVec 32 := Scalar.muli v8 c1_i32_1570
  let v1690 : BitVec 32 := Scalar.addi v1688 v1689
  v1690.toNat
def k0_dev164 (d0 : Dev nD) : Nat :=
  let c0_i32_1582 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1581 : BitVec 32 := 16#32
  let v1701 : BitVec 32 := Scalar.muli v11 c16_i32_1581
  let v1702 : BitVec 32 := Scalar.addi c0_i32_1582 v1701
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1583 : BitVec 32 := 4#32
  let v1703 : BitVec 32 := Scalar.muli v5 c4_i32_1583
  let v1704 : BitVec 32 := Scalar.addi v1702 v1703
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1584 : BitVec 32 := 1#32
  let v1705 : BitVec 32 := Scalar.muli v8 c1_i32_1584
  let v1706 : BitVec 32 := Scalar.addi v1704 v1705
  v1706.toNat
def k0_dev165 (d0 : Dev nD) : Nat :=
  let c0_i32_1621 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1620 : BitVec 32 := 16#32
  let v1741 : BitVec 32 := Scalar.muli v2 c16_i32_1620
  let v1742 : BitVec 32 := Scalar.addi c0_i32_1621 v1741
  let c3_i32_1619 : BitVec 32 := 3#32
  let c4_i32_1622 : BitVec 32 := 4#32
  let v1743 : BitVec 32 := Scalar.muli c3_i32_1619 c4_i32_1622
  let v1744 : BitVec 32 := Scalar.addi v1742 v1743
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1623 : BitVec 32 := 1#32
  let v1745 : BitVec 32 := Scalar.muli v8 c1_i32_1623
  let v1746 : BitVec 32 := Scalar.addi v1744 v1745
  v1746.toNat
def k0_dev166 (d0 : Dev nD) : Nat :=
  let c0_i32_1635 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1634 : BitVec 32 := 16#32
  let v1757 : BitVec 32 := Scalar.muli v11 c16_i32_1634
  let v1758 : BitVec 32 := Scalar.addi c0_i32_1635 v1757
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1636 : BitVec 32 := 4#32
  let v1759 : BitVec 32 := Scalar.muli v5 c4_i32_1636
  let v1760 : BitVec 32 := Scalar.addi v1758 v1759
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1637 : BitVec 32 := 1#32
  let v1761 : BitVec 32 := Scalar.muli v8 c1_i32_1637
  let v1762 : BitVec 32 := Scalar.addi v1760 v1761
  v1762.toNat
def k0_dev167 (d0 : Dev nD) : Nat :=
  let c0_i32_1674 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1673 : BitVec 32 := 16#32
  let v1797 : BitVec 32 := Scalar.muli v2 c16_i32_1673
  let v1798 : BitVec 32 := Scalar.addi c0_i32_1674 v1797
  let c3_i32_1672 : BitVec 32 := 3#32
  let c4_i32_1675 : BitVec 32 := 4#32
  let v1799 : BitVec 32 := Scalar.muli c3_i32_1672 c4_i32_1675
  let v1800 : BitVec 32 := Scalar.addi v1798 v1799
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1676 : BitVec 32 := 1#32
  let v1801 : BitVec 32 := Scalar.muli v8 c1_i32_1676
  let v1802 : BitVec 32 := Scalar.addi v1800 v1801
  v1802.toNat
def k0_dev168 (d0 : Dev nD) : Nat :=
  let c0_i32_1688 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1687 : BitVec 32 := 16#32
  let v1813 : BitVec 32 := Scalar.muli v11 c16_i32_1687
  let v1814 : BitVec 32 := Scalar.addi c0_i32_1688 v1813
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1689 : BitVec 32 := 4#32
  let v1815 : BitVec 32 := Scalar.muli v5 c4_i32_1689
  let v1816 : BitVec 32 := Scalar.addi v1814 v1815
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1690 : BitVec 32 := 1#32
  let v1817 : BitVec 32 := Scalar.muli v8 c1_i32_1690
  let v1818 : BitVec 32 := Scalar.addi v1816 v1817
  v1818.toNat
def k0_off21 (d0 : Dev nD) (c0_i32_1701 : BitVec 32) : Fin 2 → Nat :=
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1835 : BitVec 32 := Scalar.addi v10 c0_i32_1701
  let c0_i32_1713 : BitVec 32 := 0#32
  ![v1835.toNat, 0]
def k0_off22 (d0 : Dev nD) (c0_i32_1701 : BitVec 32) : Fin 2 → Nat :=
  let c8192_i32_1727 : BitVec 32 := 8192#32
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1835 : BitVec 32 := Scalar.addi v10 c0_i32_1701
  let v1861 : BitVec 32 := Scalar.addi c8192_i32_1727 v1835
  let v1862 : Index := Scalar.indexCast v1861
  let c0_1728 : Index := 0#32
  ![v1862.toNat, 0]
def k0_off23 (d0 : Dev nD) (c0_i32_1701 : BitVec 32) : Fin 2 → Nat :=
  let c8192_i32_1734 : BitVec 32 := 8192#32
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1835 : BitVec 32 := Scalar.addi v10 c0_i32_1701
  let v1871 : BitVec 32 := Scalar.addi c8192_i32_1734 v1835
  let c0_i32_1739 : BitVec 32 := 0#32
  ![v1871.toNat, 0]
def k0_off24 (d0 : Dev nD) (c0_i32_1887 : BitVec 32) (c0_i32_1888 : BitVec 32) : Fin 2 → Nat :=
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v2061 : BitVec 32 := Scalar.addi c0_i32_1887 v10
  let v2062 : BitVec 32 := Scalar.addi v2061 c0_i32_1888
  let c0_i32_1897 : BitVec 32 := 0#32
  ![v2062.toNat, 0]
def k0_off24_at (r : Fin 24) : BitVec 32 × BitVec 32 :=
  if r.val < 12 then
    if r.val < 6 then
      if r.val < 3 then
        if r.val < 1 then
          (0#32, 0#32)
        else
          if r.val < 2 then
            (0#32, 256#32)
          else
            (0#32, 512#32)
      else
        if r.val < 4 then
          (0#32, 768#32)
        else
          if r.val < 5 then
            (0#32, 1024#32)
          else
            (0#32, 1280#32)
    else
      if r.val < 9 then
        if r.val < 7 then
          (0#32, 1536#32)
        else
          if r.val < 8 then
            (0#32, 1792#32)
          else
            (4096#32, 0#32)
      else
        if r.val < 10 then
          (4096#32, 256#32)
        else
          if r.val < 11 then
            (4096#32, 512#32)
          else
            (4096#32, 768#32)
  else
    if r.val < 18 then
      if r.val < 15 then
        if r.val < 13 then
          (4096#32, 1024#32)
        else
          if r.val < 14 then
            (4096#32, 1280#32)
          else
            (4096#32, 1536#32)
      else
        if r.val < 16 then
          (4096#32, 1792#32)
        else
          if r.val < 17 then
            (12288#32, 0#32)
          else
            (12288#32, 256#32)
    else
      if r.val < 21 then
        if r.val < 19 then
          (12288#32, 512#32)
        else
          if r.val < 20 then
            (12288#32, 768#32)
          else
            (12288#32, 1024#32)
      else
        if r.val < 22 then
          (12288#32, 1280#32)
        else
          if r.val < 23 then
            (12288#32, 1536#32)
          else
            (12288#32, 1792#32)
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v22 : BitVec 1 := Scalar.cmpi .eq v5 c3_i32
  let v23 : BitVec 32 := Scalar.extui v22
  let c0_i32_9 : BitVec 32 := 0#32
  let v24 : BitVec 1 := Scalar.cmpi .ne v23 c0_i32_9
  v24

def k0_dev169 (d0 : Dev nD) : Nat :=
  let c0_i32_12 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_11 : BitVec 32 := 16#32
  let v25 : BitVec 32 := Scalar.muli v11 c16_i32_11
  let v26 : BitVec 32 := Scalar.addi c0_i32_12 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v27 : BitVec 32 := Scalar.muli v5 c4_i32_13
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v29 : BitVec 32 := Scalar.muli v8 c1_i32_14
  let v30 : BitVec 32 := Scalar.addi v28 v29
  v30.toNat
def k0_dev170 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v31 : BitVec 32 := Scalar.muli v2 c16_i32_17
  let v32 : BitVec 32 := Scalar.addi c0_i32_18 v31
  let c2_i32_16 : BitVec 32 := 2#32
  let c4_i32_19 : BitVec 32 := 4#32
  let v33 : BitVec 32 := Scalar.muli c2_i32_16 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_off25 (d0 : Dev nD) (c0_i32_22 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v37 : BitVec 32 := Scalar.addi v9 c0_i32_22
  let c0_i32_27 : BitVec 32 := 0#32
  ![v37.toNat, 0]
def k0_off26 (d0 : Dev nD) (c0_i32_22 : BitVec 32) : Fin 2 → Nat :=
  let c12288_i32 : BitVec 32 := 12288#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v37 : BitVec 32 := Scalar.addi v9 c0_i32_22
  let v63 : BitVec 32 := Scalar.addi c12288_i32 v37
  let v64 : Index := Scalar.indexCast v63
  let c0_40 : Index := 0#32
  ![v64.toNat, 0]
def k0_off27 (d0 : Dev nD) (c12288_i32_48 : BitVec 32) (c0_i32_49 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v75 : BitVec 32 := Scalar.addi c12288_i32_48 v9
  let v76 : BitVec 32 := Scalar.addi v75 c0_i32_49
  let c0_i32_60 : BitVec 32 := 0#32
  ![v76.toNat, 0]
def k0_dev171 (d0 : Dev nD) : Nat :=
  let c0_i32_57 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_56 : BitVec 32 := 16#32
  let v77 : BitVec 32 := Scalar.muli v2 c16_i32_56
  let v78 : BitVec 32 := Scalar.addi c0_i32_57 v77
  let c2_i32_55 : BitVec 32 := 2#32
  let c4_i32_58 : BitVec 32 := 4#32
  let v79 : BitVec 32 := Scalar.muli c2_i32_55 c4_i32_58
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v81 : BitVec 32 := Scalar.muli v8 c1_i32_59
  let v82 : BitVec 32 := Scalar.addi v80 v81
  v82.toNat
def k0_off28 (d0 : Dev nD) (c0_i32_22 : BitVec 32) : Fin 2 → Nat :=
  let c12288_i32_62 : BitVec 32 := 12288#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v37 : BitVec 32 := Scalar.addi v9 c0_i32_22
  let v89 : BitVec 32 := Scalar.addi c12288_i32_62 v37
  let c0_i32_64 : BitVec 32 := 0#32
  ![v89.toNat, 0]
def k0_dev172 (d0 : Dev nD) : Nat :=
  let c0_i32_91 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_90 : BitVec 32 := 16#32
  let v116 : BitVec 32 := Scalar.muli v2 c16_i32_90
  let v117 : BitVec 32 := Scalar.addi c0_i32_91 v116
  let c2_i32_89 : BitVec 32 := 2#32
  let c4_i32_92 : BitVec 32 := 4#32
  let v118 : BitVec 32 := Scalar.muli c2_i32_89 c4_i32_92
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v120 : BitVec 32 := Scalar.muli v8 c1_i32_93
  let v121 : BitVec 32 := Scalar.addi v119 v120
  v121.toNat
def k0_dev173 (d0 : Dev nD) : Nat :=
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_125 : BitVec 32 := 16#32
  let v155 : BitVec 32 := Scalar.muli v2 c16_i32_125
  let v156 : BitVec 32 := Scalar.addi c0_i32_126 v155
  let c2_i32_124 : BitVec 32 := 2#32
  let c4_i32_127 : BitVec 32 := 4#32
  let v157 : BitVec 32 := Scalar.muli c2_i32_124 c4_i32_127
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v159 : BitVec 32 := Scalar.muli v8 c1_i32_128
  let v160 : BitVec 32 := Scalar.addi v158 v159
  v160.toNat
def k0_dev174 (d0 : Dev nD) : Nat :=
  let c0_i32_161 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_160 : BitVec 32 := 16#32
  let v194 : BitVec 32 := Scalar.muli v2 c16_i32_160
  let v195 : BitVec 32 := Scalar.addi c0_i32_161 v194
  let c2_i32_159 : BitVec 32 := 2#32
  let c4_i32_162 : BitVec 32 := 4#32
  let v196 : BitVec 32 := Scalar.muli c2_i32_159 c4_i32_162
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v198 : BitVec 32 := Scalar.muli v8 c1_i32_163
  let v199 : BitVec 32 := Scalar.addi v197 v198
  v199.toNat
def k0_dev175 (d0 : Dev nD) : Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_195 : BitVec 32 := 16#32
  let v233 : BitVec 32 := Scalar.muli v2 c16_i32_195
  let v234 : BitVec 32 := Scalar.addi c0_i32_196 v233
  let c2_i32_194 : BitVec 32 := 2#32
  let c4_i32_197 : BitVec 32 := 4#32
  let v235 : BitVec 32 := Scalar.muli c2_i32_194 c4_i32_197
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v237 : BitVec 32 := Scalar.muli v8 c1_i32_198
  let v238 : BitVec 32 := Scalar.addi v236 v237
  v238.toNat
def k0_dev176 (d0 : Dev nD) : Nat :=
  let c0_i32_230 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_229 : BitVec 32 := 16#32
  let v272 : BitVec 32 := Scalar.muli v2 c16_i32_229
  let v273 : BitVec 32 := Scalar.addi c0_i32_230 v272
  let c2_i32_228 : BitVec 32 := 2#32
  let c4_i32_231 : BitVec 32 := 4#32
  let v274 : BitVec 32 := Scalar.muli c2_i32_228 c4_i32_231
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v276 : BitVec 32 := Scalar.muli v8 c1_i32_232
  let v277 : BitVec 32 := Scalar.addi v275 v276
  v277.toNat
def k0_dev177 (d0 : Dev nD) : Nat :=
  let c0_i32_259 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_258 : BitVec 32 := 16#32
  let v306 : BitVec 32 := Scalar.muli v2 c16_i32_258
  let v307 : BitVec 32 := Scalar.addi c0_i32_259 v306
  let c2_i32_257 : BitVec 32 := 2#32
  let c4_i32_260 : BitVec 32 := 4#32
  let v308 : BitVec 32 := Scalar.muli c2_i32_257 c4_i32_260
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_261 : BitVec 32 := 1#32
  let v310 : BitVec 32 := Scalar.muli v8 c1_i32_261
  let v311 : BitVec 32 := Scalar.addi v309 v310
  v311.toNat
def k0_dev178 (d0 : Dev nD) : Nat :=
  let c0_i32_288 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_287 : BitVec 32 := 16#32
  let v340 : BitVec 32 := Scalar.muli v2 c16_i32_287
  let v341 : BitVec 32 := Scalar.addi c0_i32_288 v340
  let c2_i32_286 : BitVec 32 := 2#32
  let c4_i32_289 : BitVec 32 := 4#32
  let v342 : BitVec 32 := Scalar.muli c2_i32_286 c4_i32_289
  let v343 : BitVec 32 := Scalar.addi v341 v342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v344 : BitVec 32 := Scalar.muli v8 c1_i32_290
  let v345 : BitVec 32 := Scalar.addi v343 v344
  v345.toNat
def k0_dev179 (d0 : Dev nD) : Nat :=
  let c0_i32_320 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_319 : BitVec 32 := 16#32
  let v375 : BitVec 32 := Scalar.muli v11 c16_i32_319
  let v376 : BitVec 32 := Scalar.addi c0_i32_320 v375
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_321 : BitVec 32 := 4#32
  let v377 : BitVec 32 := Scalar.muli v5 c4_i32_321
  let v378 : BitVec 32 := Scalar.addi v376 v377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_322 : BitVec 32 := 1#32
  let v379 : BitVec 32 := Scalar.muli v8 c1_i32_322
  let v380 : BitVec 32 := Scalar.addi v378 v379
  v380.toNat
def k0_dev180 (d0 : Dev nD) : Nat :=
  let c0_i32_357 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_356 : BitVec 32 := 16#32
  let v415 : BitVec 32 := Scalar.muli v11 c16_i32_356
  let v416 : BitVec 32 := Scalar.addi c0_i32_357 v415
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v417 : BitVec 32 := Scalar.muli v5 c4_i32_358
  let v418 : BitVec 32 := Scalar.addi v416 v417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v419 : BitVec 32 := Scalar.muli v8 c1_i32_359
  let v420 : BitVec 32 := Scalar.addi v418 v419
  v420.toNat
def k0_dev181 (d0 : Dev nD) : Nat :=
  let c0_i32_394 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_393 : BitVec 32 := 16#32
  let v455 : BitVec 32 := Scalar.muli v11 c16_i32_393
  let v456 : BitVec 32 := Scalar.addi c0_i32_394 v455
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_395 : BitVec 32 := 4#32
  let v457 : BitVec 32 := Scalar.muli v5 c4_i32_395
  let v458 : BitVec 32 := Scalar.addi v456 v457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_396 : BitVec 32 := 1#32
  let v459 : BitVec 32 := Scalar.muli v8 c1_i32_396
  let v460 : BitVec 32 := Scalar.addi v458 v459
  v460.toNat
def k0_dev182 (d0 : Dev nD) : Nat :=
  let c0_i32_431 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_430 : BitVec 32 := 16#32
  let v495 : BitVec 32 := Scalar.muli v11 c16_i32_430
  let v496 : BitVec 32 := Scalar.addi c0_i32_431 v495
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_432 : BitVec 32 := 4#32
  let v497 : BitVec 32 := Scalar.muli v5 c4_i32_432
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_433 : BitVec 32 := 1#32
  let v499 : BitVec 32 := Scalar.muli v8 c1_i32_433
  let v500 : BitVec 32 := Scalar.addi v498 v499
  v500.toNat
def k0_dev183 (d0 : Dev nD) : Nat :=
  let c0_i32_468 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_467 : BitVec 32 := 16#32
  let v535 : BitVec 32 := Scalar.muli v11 c16_i32_467
  let v536 : BitVec 32 := Scalar.addi c0_i32_468 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_469 : BitVec 32 := 4#32
  let v537 : BitVec 32 := Scalar.muli v5 c4_i32_469
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_470 : BitVec 32 := 1#32
  let v539 : BitVec 32 := Scalar.muli v8 c1_i32_470
  let v540 : BitVec 32 := Scalar.addi v538 v539
  v540.toNat
def k0_dev184 (d0 : Dev nD) : Nat :=
  let c0_i32_505 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_504 : BitVec 32 := 16#32
  let v575 : BitVec 32 := Scalar.muli v11 c16_i32_504
  let v576 : BitVec 32 := Scalar.addi c0_i32_505 v575
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_506 : BitVec 32 := 4#32
  let v577 : BitVec 32 := Scalar.muli v5 c4_i32_506
  let v578 : BitVec 32 := Scalar.addi v576 v577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_507 : BitVec 32 := 1#32
  let v579 : BitVec 32 := Scalar.muli v8 c1_i32_507
  let v580 : BitVec 32 := Scalar.addi v578 v579
  v580.toNat
def k0_dev185 (d0 : Dev nD) : Nat :=
  let c0_i32_542 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_541 : BitVec 32 := 16#32
  let v615 : BitVec 32 := Scalar.muli v11 c16_i32_541
  let v616 : BitVec 32 := Scalar.addi c0_i32_542 v615
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_543 : BitVec 32 := 4#32
  let v617 : BitVec 32 := Scalar.muli v5 c4_i32_543
  let v618 : BitVec 32 := Scalar.addi v616 v617
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_544 : BitVec 32 := 1#32
  let v619 : BitVec 32 := Scalar.muli v8 c1_i32_544
  let v620 : BitVec 32 := Scalar.addi v618 v619
  v620.toNat
def k0_dev186 (d0 : Dev nD) : Nat :=
  let c0_i32_579 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_578 : BitVec 32 := 16#32
  let v655 : BitVec 32 := Scalar.muli v11 c16_i32_578
  let v656 : BitVec 32 := Scalar.addi c0_i32_579 v655
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_580 : BitVec 32 := 4#32
  let v657 : BitVec 32 := Scalar.muli v5 c4_i32_580
  let v658 : BitVec 32 := Scalar.addi v656 v657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_581 : BitVec 32 := 1#32
  let v659 : BitVec 32 := Scalar.muli v8 c1_i32_581
  let v660 : BitVec 32 := Scalar.addi v658 v659
  v660.toNat
def k0_dev187 (d0 : Dev nD) : Nat :=
  let c0_i32_615 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_614 : BitVec 32 := 16#32
  let v695 : BitVec 32 := Scalar.muli v11 c16_i32_614
  let v696 : BitVec 32 := Scalar.addi c0_i32_615 v695
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_616 : BitVec 32 := 4#32
  let v697 : BitVec 32 := Scalar.muli v5 c4_i32_616
  let v698 : BitVec 32 := Scalar.addi v696 v697
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_617 : BitVec 32 := 1#32
  let v699 : BitVec 32 := Scalar.muli v8 c1_i32_617
  let v700 : BitVec 32 := Scalar.addi v698 v699
  v700.toNat
def k0_dev188 (d0 : Dev nD) : Nat :=
  let c0_i32_652 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_651 : BitVec 32 := 16#32
  let v735 : BitVec 32 := Scalar.muli v11 c16_i32_651
  let v736 : BitVec 32 := Scalar.addi c0_i32_652 v735
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_653 : BitVec 32 := 4#32
  let v737 : BitVec 32 := Scalar.muli v5 c4_i32_653
  let v738 : BitVec 32 := Scalar.addi v736 v737
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_654 : BitVec 32 := 1#32
  let v739 : BitVec 32 := Scalar.muli v8 c1_i32_654
  let v740 : BitVec 32 := Scalar.addi v738 v739
  v740.toNat
def k0_dev189 (d0 : Dev nD) : Nat :=
  let c0_i32_689 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_688 : BitVec 32 := 16#32
  let v775 : BitVec 32 := Scalar.muli v11 c16_i32_688
  let v776 : BitVec 32 := Scalar.addi c0_i32_689 v775
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_690 : BitVec 32 := 4#32
  let v777 : BitVec 32 := Scalar.muli v5 c4_i32_690
  let v778 : BitVec 32 := Scalar.addi v776 v777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_691 : BitVec 32 := 1#32
  let v779 : BitVec 32 := Scalar.muli v8 c1_i32_691
  let v780 : BitVec 32 := Scalar.addi v778 v779
  v780.toNat
def k0_dev190 (d0 : Dev nD) : Nat :=
  let c0_i32_726 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_725 : BitVec 32 := 16#32
  let v815 : BitVec 32 := Scalar.muli v11 c16_i32_725
  let v816 : BitVec 32 := Scalar.addi c0_i32_726 v815
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_727 : BitVec 32 := 4#32
  let v817 : BitVec 32 := Scalar.muli v5 c4_i32_727
  let v818 : BitVec 32 := Scalar.addi v816 v817
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_728 : BitVec 32 := 1#32
  let v819 : BitVec 32 := Scalar.muli v8 c1_i32_728
  let v820 : BitVec 32 := Scalar.addi v818 v819
  v820.toNat
def k0_dev191 (d0 : Dev nD) : Nat :=
  let c0_i32_763 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_762 : BitVec 32 := 16#32
  let v855 : BitVec 32 := Scalar.muli v11 c16_i32_762
  let v856 : BitVec 32 := Scalar.addi c0_i32_763 v855
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_764 : BitVec 32 := 4#32
  let v857 : BitVec 32 := Scalar.muli v5 c4_i32_764
  let v858 : BitVec 32 := Scalar.addi v856 v857
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_765 : BitVec 32 := 1#32
  let v859 : BitVec 32 := Scalar.muli v8 c1_i32_765
  let v860 : BitVec 32 := Scalar.addi v858 v859
  v860.toNat
def k0_dev192 (d0 : Dev nD) : Nat :=
  let c0_i32_800 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_799 : BitVec 32 := 16#32
  let v895 : BitVec 32 := Scalar.muli v11 c16_i32_799
  let v896 : BitVec 32 := Scalar.addi c0_i32_800 v895
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_801 : BitVec 32 := 4#32
  let v897 : BitVec 32 := Scalar.muli v5 c4_i32_801
  let v898 : BitVec 32 := Scalar.addi v896 v897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_802 : BitVec 32 := 1#32
  let v899 : BitVec 32 := Scalar.muli v8 c1_i32_802
  let v900 : BitVec 32 := Scalar.addi v898 v899
  v900.toNat
def k0_dev193 (d0 : Dev nD) : Nat :=
  let c0_i32_837 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_836 : BitVec 32 := 16#32
  let v935 : BitVec 32 := Scalar.muli v11 c16_i32_836
  let v936 : BitVec 32 := Scalar.addi c0_i32_837 v935
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_838 : BitVec 32 := 4#32
  let v937 : BitVec 32 := Scalar.muli v5 c4_i32_838
  let v938 : BitVec 32 := Scalar.addi v936 v937
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_839 : BitVec 32 := 1#32
  let v939 : BitVec 32 := Scalar.muli v8 c1_i32_839
  let v940 : BitVec 32 := Scalar.addi v938 v939
  v940.toNat
def k0_dev194 (d0 : Dev nD) : Nat :=
  let c0_i32_874 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_873 : BitVec 32 := 16#32
  let v975 : BitVec 32 := Scalar.muli v11 c16_i32_873
  let v976 : BitVec 32 := Scalar.addi c0_i32_874 v975
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_875 : BitVec 32 := 4#32
  let v977 : BitVec 32 := Scalar.muli v5 c4_i32_875
  let v978 : BitVec 32 := Scalar.addi v976 v977
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_876 : BitVec 32 := 1#32
  let v979 : BitVec 32 := Scalar.muli v8 c1_i32_876
  let v980 : BitVec 32 := Scalar.addi v978 v979
  v980.toNat
def k0_dev195 (d0 : Dev nD) : Nat :=
  let c0_i32_911 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_910 : BitVec 32 := 16#32
  let v1015 : BitVec 32 := Scalar.muli v11 c16_i32_910
  let v1016 : BitVec 32 := Scalar.addi c0_i32_911 v1015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_912 : BitVec 32 := 4#32
  let v1017 : BitVec 32 := Scalar.muli v5 c4_i32_912
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_913 : BitVec 32 := 1#32
  let v1019 : BitVec 32 := Scalar.muli v8 c1_i32_913
  let v1020 : BitVec 32 := Scalar.addi v1018 v1019
  v1020.toNat
def k0_dev196 (d0 : Dev nD) : Nat :=
  let c0_i32_948 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_947 : BitVec 32 := 16#32
  let v1055 : BitVec 32 := Scalar.muli v11 c16_i32_947
  let v1056 : BitVec 32 := Scalar.addi c0_i32_948 v1055
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_949 : BitVec 32 := 4#32
  let v1057 : BitVec 32 := Scalar.muli v5 c4_i32_949
  let v1058 : BitVec 32 := Scalar.addi v1056 v1057
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_950 : BitVec 32 := 1#32
  let v1059 : BitVec 32 := Scalar.muli v8 c1_i32_950
  let v1060 : BitVec 32 := Scalar.addi v1058 v1059
  v1060.toNat
def k0_dev197 (d0 : Dev nD) : Nat :=
  let c0_i32_985 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_984 : BitVec 32 := 16#32
  let v1095 : BitVec 32 := Scalar.muli v11 c16_i32_984
  let v1096 : BitVec 32 := Scalar.addi c0_i32_985 v1095
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_986 : BitVec 32 := 4#32
  let v1097 : BitVec 32 := Scalar.muli v5 c4_i32_986
  let v1098 : BitVec 32 := Scalar.addi v1096 v1097
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_987 : BitVec 32 := 1#32
  let v1099 : BitVec 32 := Scalar.muli v8 c1_i32_987
  let v1100 : BitVec 32 := Scalar.addi v1098 v1099
  v1100.toNat
def k0_dev198 (d0 : Dev nD) : Nat :=
  let c0_i32_1022 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1021 : BitVec 32 := 16#32
  let v1135 : BitVec 32 := Scalar.muli v11 c16_i32_1021
  let v1136 : BitVec 32 := Scalar.addi c0_i32_1022 v1135
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1023 : BitVec 32 := 4#32
  let v1137 : BitVec 32 := Scalar.muli v5 c4_i32_1023
  let v1138 : BitVec 32 := Scalar.addi v1136 v1137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1024 : BitVec 32 := 1#32
  let v1139 : BitVec 32 := Scalar.muli v8 c1_i32_1024
  let v1140 : BitVec 32 := Scalar.addi v1138 v1139
  v1140.toNat
def k0_dev199 (d0 : Dev nD) : Nat :=
  let c0_i32_1059 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1058 : BitVec 32 := 16#32
  let v1175 : BitVec 32 := Scalar.muli v11 c16_i32_1058
  let v1176 : BitVec 32 := Scalar.addi c0_i32_1059 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1060 : BitVec 32 := 4#32
  let v1177 : BitVec 32 := Scalar.muli v5 c4_i32_1060
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1061 : BitVec 32 := 1#32
  let v1179 : BitVec 32 := Scalar.muli v8 c1_i32_1061
  let v1180 : BitVec 32 := Scalar.addi v1178 v1179
  v1180.toNat
def k0_dev200 (d0 : Dev nD) : Nat :=
  let c0_i32_1096 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1095 : BitVec 32 := 16#32
  let v1215 : BitVec 32 := Scalar.muli v11 c16_i32_1095
  let v1216 : BitVec 32 := Scalar.addi c0_i32_1096 v1215
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1097 : BitVec 32 := 4#32
  let v1217 : BitVec 32 := Scalar.muli v5 c4_i32_1097
  let v1218 : BitVec 32 := Scalar.addi v1216 v1217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1098 : BitVec 32 := 1#32
  let v1219 : BitVec 32 := Scalar.muli v8 c1_i32_1098
  let v1220 : BitVec 32 := Scalar.addi v1218 v1219
  v1220.toNat
def k0_dev201 (d0 : Dev nD) : Nat :=
  let c0_i32_1133 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1132 : BitVec 32 := 16#32
  let v1255 : BitVec 32 := Scalar.muli v11 c16_i32_1132
  let v1256 : BitVec 32 := Scalar.addi c0_i32_1133 v1255
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1134 : BitVec 32 := 4#32
  let v1257 : BitVec 32 := Scalar.muli v5 c4_i32_1134
  let v1258 : BitVec 32 := Scalar.addi v1256 v1257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1135 : BitVec 32 := 1#32
  let v1259 : BitVec 32 := Scalar.muli v8 c1_i32_1135
  let v1260 : BitVec 32 := Scalar.addi v1258 v1259
  v1260.toNat
def k0_dev202 (d0 : Dev nD) : Nat :=
  let c0_i32_1170 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1169 : BitVec 32 := 16#32
  let v1295 : BitVec 32 := Scalar.muli v11 c16_i32_1169
  let v1296 : BitVec 32 := Scalar.addi c0_i32_1170 v1295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1171 : BitVec 32 := 4#32
  let v1297 : BitVec 32 := Scalar.muli v5 c4_i32_1171
  let v1298 : BitVec 32 := Scalar.addi v1296 v1297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1172 : BitVec 32 := 1#32
  let v1299 : BitVec 32 := Scalar.muli v8 c1_i32_1172
  let v1300 : BitVec 32 := Scalar.addi v1298 v1299
  v1300.toNat
def k0_off29 (d0 : Dev nD) (c0_i32_1183 : BitVec 32) : Fin 2 → Nat :=
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1317 : BitVec 32 := Scalar.addi v10 c0_i32_1183
  let c0_i32_1195 : BitVec 32 := 0#32
  ![v1317.toNat, 0]
def k0_off30 (d0 : Dev nD) (c0_i32_1183 : BitVec 32) : Fin 2 → Nat :=
  let c12288_i32_1209 : BitVec 32 := 12288#32
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1317 : BitVec 32 := Scalar.addi v10 c0_i32_1183
  let v1343 : BitVec 32 := Scalar.addi c12288_i32_1209 v1317
  let v1344 : Index := Scalar.indexCast v1343
  let c0_1210 : Index := 0#32
  ![v1344.toNat, 0]
def k0_off31 (d0 : Dev nD) (c0_i32_1183 : BitVec 32) : Fin 2 → Nat :=
  let c12288_i32_1216 : BitVec 32 := 12288#32
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1317 : BitVec 32 := Scalar.addi v10 c0_i32_1183
  let v1353 : BitVec 32 := Scalar.addi c12288_i32_1216 v1317
  let c0_i32_1221 : BitVec 32 := 0#32
  ![v1353.toNat, 0]
def k0_off32 (d0 : Dev nD) (c0_i32_1369 : BitVec 32) (c0_i32_1370 : BitVec 32) : Fin 2 → Nat :=
  let c2048_i32_2 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.subi c2048_i32_2 v9
  let v1543 : BitVec 32 := Scalar.addi c0_i32_1369 v10
  let v1544 : BitVec 32 := Scalar.addi v1543 c0_i32_1370
  let c0_i32_1379 : BitVec 32 := 0#32
  ![v1544.toNat, 0]
-- ==== ReferenceIdeal.lean ====
abbrev S16384x1024 : Shape := ⟨2, ![16384, 1024]⟩

abbrev nBuf : Space → Nat
  | .hbm => 2
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Ops.lean ====
/-
  The operations of the all-gather kernel, as a list of small programs.

  A device of the mesh is at `(x, y, z)`, its logical id is `16 x + 4 y + z`. It holds block `y` of the array: 4096 rows,
  in two halves of 2048 rows, each half in eight chunks of 256 rows. A chunk of the gathered array is named by the block
  `s` it belongs to, by whether its half is the device's OWN (half number `x`) or the other one, and by its place `c` in
  the half. One kernel operation works on one chunk; this module names each kind of operation (`Op`), writes the program
  text of each (`Op.prog`), and lists them in the order the kernel performs them for each value of `y` (`ops`).
-/
module

public import proofs.«01_k».proof.Proof.Gen.KernelIdeal
public import proofs.«01_k».proof.Proof.Gen.KernelIdeal.Points
public import Idealize.ShloMosaic.Lib.Pipeline.Kit
public import Idealize.ShloMosaic.Lib.Pipeline.Regions
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.Sem

variable {F : FTy → Type} [FloatOps F]

/-! ## Places on the mesh -/

/-- The device's place along `y`. -/
def yOf (d : Dev nD) : ℕ := d.val / 4 % 4

/-- The number of the device's own half (`own = true`) or of the other. -/
def halfOf (d : Dev nD) (own : Bool) : ℕ := if own then d.val / 16 else 1 - d.val / 16

/-- The partner (0), the lower neighbour along `y` (1) and the upper one (2), on the rim the device itself. -/
def nbr (d : Dev nD) (q : Fin 3) : Dev nD :=
  match q with
  | 0 => ⟨(d.val + 16) % 32, Nat.mod_lt _ (by decide)⟩
  | 1 => if yOf d = 0 then d else ⟨(d.val + 28) % 32, Nat.mod_lt _ (by decide)⟩
  | 2 => if yOf d = 3 then d else ⟨(d.val + 4) % 32, Nat.mod_lt _ (by decide)⟩

/-- Where a chunk of the device's block begins in it. -/
def xOff (d : Dev nD) (own : Bool) (c : Fin 8) : Fin 2 → ℕ := ![2048 * halfOf d own + 256 * c.val, 0]

/-- Where a chunk begins in the gathered array. -/
def cOff (d : Dev nD) (own : Bool) (s : Fin 4) (c : Fin 8) : Fin 2 → ℕ :=
  ![4096 * s.val + 2048 * halfOf d own + 256 * c.val, 0]

/-- There are two halves. -/
theorem halfOf_le (d : Dev nD) (own : Bool) : halfOf d own ≤ 1 := by
  have := d.isLt; unfold halfOf; unfold nD at *; split <;> omega

/-- A chunk of the block lies in it. -/
theorem xOff_inb (d : Dev nD) (own : Bool) (c : Fin 8) : ∀ a, xOff d own c a + S256x1024.size a ≤ S4096x1024.size a := by
  have h := halfOf_le d own; have hc := c.isLt
  intro a; fin_cases a
  · show 2048 * halfOf d own + 256 * c.val + 256 ≤ 4096; omega
  · show 0 + 1024 ≤ 1024; omega

/-- A chunk of the gathered array lies in it. -/
theorem cOff_inb (d : Dev nD) (own : Bool) (s : Fin 4) (c : Fin 8) :
    ∀ a, cOff d own s c a + S256x1024.size a ≤ S16384x1024.size a := by
  have h := halfOf_le d own; have hc := c.isLt; have hs := s.isLt
  intro a; fin_cases a
  · show 4096 * s.val + 2048 * halfOf d own + 256 * c.val + 256 ≤ 16384; omega
  · show 0 + 1024 ≤ 1024; omega

/-! ## The offsets a text of the kernel computes -/

/-- Offsets and devices as a text of the kernel writes them, each with the place it names. Two such tables name the same
    places (`Offs.eq`). -/
structure Offs (d : Dev nD) (y : Fin 4) where
  /-- chunks of the device's block, -/
  xo : (own : Bool) → (c : Fin 8) → {o : Fin 2 → ℕ // o = xOff d own c}
  /-- the chunk a cast block chunk is written to, -/
  st : (own : Bool) → (c : Fin 8) → {o : Fin 2 → ℕ // o = cOff d own y c}
  /-- chunks a device copies out, -/
  ou : (own : Bool) → (s : Fin 4) → (c : Fin 8) → {o : Fin 2 → ℕ // o = cOff d own s c}
  /-- chunks in general, -/
  ch : (own : Bool) → (s : Fin 4) → (c : Fin 8) → {o : Fin 2 → ℕ // o = cOff d own s c}
  /-- and the neighbours. -/
  dv : (q : Fin 3) → {n : ℕ // n = (nbr d q).val}

/-- There is one table of offsets. -/
theorem Offs.eq {d : Dev nD} {y : Fin 4} (a b : Offs d y) : a = b := by
  obtain ⟨a1, a2, a3, a4, a5⟩ := a
  obtain ⟨b1, b2, b3, b4, b5⟩ := b
  congr
  · funext i j; exact Subtype.ext ((a1 i j).2.trans (b1 i j).2.symm)
  · funext i j; exact Subtype.ext ((a2 i j).2.trans (b2 i j).2.symm)
  · funext i j k; exact Subtype.ext ((a3 i j k).2.trans (b3 i j k).2.symm)
  · funext i j k; exact Subtype.ext ((a4 i j k).2.trans (b4 i j k).2.symm)
  · funext i; exact Subtype.ext ((a5 i).2.trans (b5 i).2.symm)

/-- The table of the places themselves. -/
def offs (d : Dev nD) (y : Fin 4) : Offs d y where
  xo own c := ⟨xOff d own c, rfl⟩
  st own c := ⟨cOff d own y c, rfl⟩
  ou own s c := ⟨cOff d own s c, rfl⟩
  ch own s c := ⟨cOff d own s c, rfl⟩
  dv q := ⟨(nbr d q).val, rfl⟩

/-! ## The views -/

/-- The device's block, the result, the gathering buffer and the stage. -/
abbrev xM : Memref sig .tc .hbm S4096x1024 .f32 := Memref.whole main_arg0
abbrev oM : Memref sig .tc .hbm S16384x1024 .bf16 := Memref.whole main_v1
abbrev cM : Memref sig .tc .vmem S16384x1024 .bf16 := Memref.whole cc0_scratch0
abbrev sM : Memref sig .tc .vmem S2x256x1024 .f32 := Memref.whole cc0_scratch1

/-- The rectangle of 256 rows of the gathered array at an offset that is a chunk's. -/
abbrev cRect {d : Dev nD} {own : Bool} {s : Fin 4} {c : Fin 8} (o : {o : Fin 2 → ℕ // o = cOff d own s c}) : Rect S16384x1024 :=
  Rect.unit (s := S16384x1024) o.1 S256x1024.size (by rw [o.2]; exact cOff_inb d own s c)

/-- The rectangle of 256 rows of the device's block at an offset that is a chunk's. -/
abbrev xRect {d : Dev nD} {own : Bool} {c : Fin 8} (o : {o : Fin 2 → ℕ // o = xOff d own c}) : Rect S4096x1024 :=
  Rect.unit (s := S4096x1024) o.1 S256x1024.size (by rw [o.2]; exact xOff_inb d own c)

/-- A slot of the stage lies in it. -/
theorem stage_inb (i : Fin 2) : ∀ a, (![i.val, 0, 0] : Fin 3 → ℕ) a + S1x256x1024.size a ≤ S2x256x1024.size a := by
  revert i; decide

/-- A chunk's rows, in the block, in the gathering buffer and in the result. -/
abbrev xV {d : Dev nD} {own : Bool} {c : Fin 8} (o : {o : Fin 2 → ℕ // o = xOff d own c}) : Memref sig .tc .hbm S256x1024 .f32 :=
  xM.slice (xRect o) (fun _ => rfl)
abbrev cV {d : Dev nD} {own : Bool} {s : Fin 4} {c : Fin 8} (o : {o : Fin 2 → ℕ // o = cOff d own s c}) :
    Memref sig .tc .vmem S256x1024 .bf16 := cM.slice (cRect o) (fun _ => rfl)
abbrev oV {d : Dev nD} {own : Bool} {s : Fin 4} {c : Fin 8} (o : {o : Fin 2 → ℕ // o = cOff d own s c}) :
    Memref sig .tc .hbm S256x1024 .bf16 := oM.slice (cRect o) (fun _ => rfl)

/-- A slot of the stage: its rectangle, and the slot as a chunk. -/
abbrev sRect (i : Fin 2) : Rect S2x256x1024 := Rect.unit (s := S2x256x1024) ![i.val, 0, 0] S1x256x1024.size (stage_inb i)
abbrev sV (i : Fin 2) : Memref sig .tc .vmem S256x1024 .f32 :=
  (sM.slice (sRect i) (fun _ => rfl)).squeeze S256x1024 squeezes_S1x256x1024_S256x1024

theorem y_inb (s : Fin 4) (q : Fin 2) (c : Fin 8) : ∀ a, (![s.val, q.val, c.val] : Fin 3 → ℕ) a + S1x1x1.size a ≤ S4x2x8.size a := by
  revert s q c; decide
theorem sc_inb (s : Fin 4) (c : Fin 8) : ∀ a, (![s.val, c.val] : Fin 2 → ℕ) a + S1x1.size a ≤ S4x8.size a := by
  revert s c; decide
theorem s2_inb (i : Fin 2) : ∀ a, (![i.val] : Fin 1 → ℕ) a + S1.size a ≤ S2.size a := by revert i; decide
theorem s8_inb (i : Fin 8) : ∀ a, (![i.val] : Fin 1 → ℕ) a + S1.size a ≤ S8.size a := by revert i; decide

/-- The semaphores: of a transfer along `y` at its source (`q = 1` upwards, `q = 0` downwards) and at its target, of a
    transfer to the partner at its source and target, of the loads and of the copies out. -/
abbrev ysS (s : Fin 4) (q : Fin 2) (c : Fin 8) : DmaSem sig :=
  ((cc0_scratch2.slice (Rect.unit (s := S4x2x8) ![s.val, q.val, c.val] S1x1x1.size (y_inb s q c))).squeeze S_ squeezes_S1x1x1_S_).sem
abbrev yrS (s : Fin 4) (c : Fin 8) : DmaSem sig :=
  ((cc0_scratch3.slice (Rect.unit (s := S4x8) ![s.val, c.val] S1x1.size (sc_inb s c))).squeeze S_ squeezes_S1x1_S_).sem
abbrev xsS (s : Fin 4) (c : Fin 8) : DmaSem sig :=
  ((cc0_scratch4.slice (Rect.unit (s := S4x8) ![s.val, c.val] S1x1.size (sc_inb s c))).squeeze S_ squeezes_S1x1_S_).sem
abbrev xrS (s : Fin 4) (c : Fin 8) : DmaSem sig :=
  ((cc0_scratch5.slice (Rect.unit (s := S4x8) ![s.val, c.val] S1x1.size (sc_inb s c))).squeeze S_ squeezes_S1x1_S_).sem
abbrev ldS (i : Fin 2) : DmaSem sig :=
  ((cc0_scratch6.slice (Rect.unit (s := S2) ![i.val] S1.size (s2_inb i))).squeeze S_ squeezes_S1_S_).sem
abbrev stS (i : Fin 8) : DmaSem sig :=
  ((cc0_scratch7.slice (Rect.unit (s := S8) ![i.val] S1.size (s8_inb i))).squeeze S_ squeezes_S1_S_).sem
/-- The barrier semaphore. -/
abbrev baS : Sem sig := (SemArray.scalar (sig.barrier 1 rfl) : Sems sig S_).sem

theorem cRect_packed {d : Dev nD} {own : Bool} {s : Fin 4} {c : Fin 8} (o : {o : Fin 2 → ℕ // o = cOff d own s c}) :
    (cRect o).PackedRows (EltTy.packing .bf16) := by
  obtain ⟨o, rfl⟩ := o
  refine .inr ⟨by decide, rfl, .inl ⟨?_, ?_⟩⟩
  · show 2 ∣ 4096 * s.val + 2048 * halfOf d own + 256 * c.val
    omega
  · show 2 ∣ 256
    decide

theorem cRect_words {d : Dev nD} {own : Bool} {s : Fin 4} {c : Fin 8} (o : {o : Fin 2 → ℕ // o = cOff d own s c}) :
    (cRect o).WholeWords (EltTy.packing .bf16) := .inl (cRect_packed o)

/-! ## The operations -/

/-- The kinds of operation. -/
inductive Op where
  /-- signal neighbour `q` at the barrier, -/
  | sig (q : Fin 3)
  /-- wait for `n` neighbours there, -/
  | bwait (n : ℕ)
  /-- start loading a chunk of the device's block into its slot of the stage, -/
  | load (own : Bool) (c : Fin 8)
  /-- wait for it, -/
  | loadWait (own : Bool) (c : Fin 8)
  /-- round the slot's chunk to bf16 into the gathering buffer, -/
  | cast (own : Bool) (c : Fin 8)
  /-- start sending a chunk up (`q = 1`) or down (`q = 0`) along `y`, -/
  | ysend (q : Fin 2) (s : Fin 4) (c : Fin 8)
  /-- or to the partner, -/
  | xsend (s : Fin 4) (c : Fin 8)
  /-- wait for a chunk that comes along `y`, -/
  | ywait (s : Fin 4) (c : Fin 8)
  /-- or from the partner, -/
  | xwait (s : Fin 4) (c : Fin 8)
  /-- start copying a chunk out, -/
  | ostart (own : Bool) (s : Fin 4) (c : Fin 8)
  /-- wait for the copy, -/
  | owait (own : Bool) (s : Fin 4) (c : Fin 8)
  /-- wait until a send along `y` has left, -/
  | yswait (q : Fin 2) (s : Fin 4) (c : Fin 8)
  /-- or a send to the partner. -/
  | xswait (s : Fin 4) (c : Fin 8)

/-- The slot of the stage a chunk is loaded into. -/
abbrev slot (c : Fin 8) : Fin 2 := ⟨c.val % 2, Nat.mod_lt _ (by decide)⟩

/-- The neighbour a send along `y` goes to. -/
abbrev yq (q : Fin 2) : Fin 3 := ⟨q.val + 1, by omega⟩

/-- The programs of a TensorCore of this kernel. -/
abbrev KProg (F : FTy → Type) : Type 1 := Prog (TpuEff nD τ sig (Elt F) Λ₀ .tc) PUnit

/-- A neighbour, as the text computes it. -/
abbrev Offs.dev {d : Dev nD} {y : Fin 4} (T : Offs d y) (q : Fin 3) : Dev nD := ⟨(T.dv q).1, by rw [(T.dv q).2]; exact (nbr d q).isLt⟩

/-- What a chunk of the stage is rounded to. -/
abbrev rounded (v : Vec F S1x256x1024 .f32) : FVec F S256x1024 .bf16 :=
  shapeCast S256x1024 (truncf .bf16 (shapeCast S256x1024 v shapeCasts_S1x256x1024_S256x1024 : FVec F S256x1024 .f32) bitsLt_bf16_f32 :
    FVec F S256x1024 .bf16) shapeCasts_S256x1024_S256x1024

/-- A chunk's transfer from the gathering buffer to device `n`'s, on semaphores `a` here and `b` there. -/
abbrev sendTo {d : Dev nD} {own : Bool} {s : Fin 4} {c : Fin 8} (o : {o : Fin 2 → ℕ // o = cOff d own s c}) (n : Dev nD)
    (a b : DmaSem sig) : KProg F :=
  Prog.lift (.enqueueDma (cV o) (.remote (Dev.tc n) (cV o) (.dma a)) (.dma b)
    ((Memref.isWhole_whole cc0_scratch0).wordExact_slice rfl _ (cRect_words o))
    ((Memref.isWhole_whole cc0_scratch0).wordExact_slice rfl _ (cRect_words o)) ⟨⟨rfl, Or.inl rfl⟩, trivial⟩)

/-- The wait for such a transfer on semaphore `a`. -/
abbrev waitOn {d : Dev nD} {own : Bool} {s : Fin 4} {c : Fin 8} (o : {o : Fin 2 → ℕ // o = cOff d own s c})
    (a : DmaSem sig) : KProg F :=
  Prog.lift (.waitDma2 a (cV o) (cV o)
    ((Memref.isWhole_whole cc0_scratch0).wordExact_slice rfl _ (cRect_words o))
    ((Memref.isWhole_whole cc0_scratch0).wordExact_slice rfl _ (cRect_words o)))

/-- The program of an operation. -/
def Op.prog {d : Dev nD} {y : Fin 4} (T : Offs d y) : Op → KProg F
  | .sig q => semSignalWord (T.dev q) baS 1#32
  | .bwait n => semWaitWord baS (BitVec.ofNat 32 n)
  | .load own c => Prog.lift (.enqueueDma (xV (T.xo own c)) (.here (sV (slot c))) (.dma (ldS (slot c)))
      (View.wordExact_bits rfl) ((View.wordExact_bits rfl).reshape _ _) ⟨Or.inl rfl, trivial⟩)
  | .loadWait own c => Prog.lift (.waitDma2 (ldS (slot c)) (xV (T.xo own c)) (sV (slot c))
      (View.wordExact_bits rfl) ((View.wordExact_bits rfl).reshape _ _))
  | .cast own c =>
      .op (.load sM (sRect (slot c)).toLoadRect (View.loadsAt_vmem h_S1x256x1024)) fun v =>
      .op (.load cM (cRect (T.st own c)).toLoadRect (View.loadsAt_vmem h_S256x1024)) fun _ =>
      Prog.lift (.store cM (cRect (T.st own c)) (rounded v) Finset.univ
        (View.stores_vmem h_S256x1024 ((Memref.isWhole_whole cc0_scratch0).storeExact_slice rfl _ (cRect_packed (T.st own c))) (fun _ => rfl)) (.inl rfl))
  | .ysend q s c => sendTo (T.ch true s c) (T.dev (yq q)) (ysS s q c) (yrS s c)
  | .xsend s c => sendTo (T.ch true s c) (T.dev 0) (xsS s c) (xrS s c)
  | .ywait s c => waitOn (T.ch true s c) (yrS s c)
  | .xwait s c => waitOn (T.ch false s c) (xrS s c)
  | .ostart own s c => Prog.lift (.enqueueDma (cV (T.ou own s c)) (.here (oV (T.ou own s c))) (.dma (stS c))
      ((Memref.isWhole_whole cc0_scratch0).wordExact_slice rfl _ (cRect_words (T.ou own s c)))
      ((Memref.isWhole_whole main_v1).wordExact_slice rfl _ (cRect_words (T.ou own s c))) ⟨Or.inl rfl, trivial⟩)
  | .owait own s c => Prog.lift (.waitDma2 (stS c) (cV (T.ou own s c)) (oV (T.ou own s c))
      ((Memref.isWhole_whole cc0_scratch0).wordExact_slice rfl _ (cRect_words (T.ou own s c)))
      ((Memref.isWhole_whole main_v1).wordExact_slice rfl _ (cRect_words (T.ou own s c))))
  | .yswait q s c => waitOn (T.ch true s c) (ysS s q c)
  | .xswait s c => waitOn (T.ch true s c) (xsS s c)

/-- A list of operations, then the program `k`. -/
def runOps {d : Dev nD} {y : Fin 4} (T : Offs d y) : List Op → KProg F → KProg F
  | [], k => k
  | o :: os, k => o.prog T >>= fun _ => runOps T os k

/-! ## The kernel's order -/

/-- The eight places in a half. -/
abbrev cs : List (Fin 8) := [0, 1, 2, 3, 4, 5, 6, 7]

/-- The blocks a device receives along `y`, in order, each with the direction it forwards it in, if any. -/
def flows : Fin 4 → List (Fin 4 × List (Fin 2))
  | 0 => [(1, []), (2, []), (3, [])]
  | 1 => [(0, [1]), (2, [0]), (3, [0])]
  | 2 => [(1, [1]), (3, [0]), (0, [1])]
  | 3 => [(2, []), (1, []), (0, [])]

/-- The directions a device sends its own block in. -/
def dirs : Fin 4 → List (Fin 2)
  | 0 => [1]
  | 1 => [1, 0]
  | 2 => [1, 0]
  | 3 => [0]

/-- The neighbours, in the order the device signals them. -/
def nbrs : Fin 4 → List (Fin 3)
  | 0 => [0, 2]
  | 1 => [0, 1, 2]
  | 2 => [0, 1, 2]
  | 3 => [0, 1]

/-- Copying a chunk out, once the copy that used its semaphore before is over. -/
def outOps (prev : List (Bool × Fin 4)) (own : Bool) (s : Fin 4) (c : Fin 8) : List Op :=
  prev.map (fun p => .owait p.1 p.2 c) ++ [.ostart own s c]

/-- Streaming a half of the device's block through the stage; the chunks are sent in the directions `qs`. -/
def streamOps (y : Fin 4) (own : Bool) (qs : List (Fin 2)) (prev : List (Bool × Fin 4)) : List Op :=
  [.load own 0, .load own 1] ++
  cs.flatMap fun c =>
    [.loadWait own c, .cast own c] ++
    (if h : c.val + 2 < 8 then [.load own ⟨c.val + 2, h⟩] else []) ++
    qs.map (fun q => .ysend q y c) ++ outOps prev own y c

/-- Receiving the blocks that come along `y`. -/
def flowOps : List (Bool × Fin 4) → List (Fin 4 × List (Fin 2)) → List Op
  | _, [] => []
  | prev, (s, qs) :: fs =>
    (cs.flatMap fun c => [.ywait s c] ++ qs.map (fun q => .ysend q s c) ++ [.xsend s c] ++ outOps prev true s c) ++
    flowOps [(true, s)] fs

/-- Receiving the other halves from the partner. -/
def partnerOps : List (Bool × Fin 4) → List (Fin 4) → List Op
  | _, [] => []
  | prev, s :: ss => (cs.flatMap fun c => [.xwait s c] ++ outOps prev false s c) ++ partnerOps [(false, s)] ss

/-- The blocks other than `y`. -/
def others : Fin 4 → List (Fin 4)
  | 0 => [1, 2, 3]
  | 1 => [0, 2, 3]
  | 2 => [0, 1, 3]
  | 3 => [0, 1, 2]

/-- The operations of a device at `y`, in order. -/
def ops (y : Fin 4) : List Op :=
  (nbrs y).map .sig ++ [.bwait (nbrs y).length] ++
  streamOps y true (dirs y) [] ++
  flowOps [(true, y)] (flows y) ++
  streamOps y false [] (((flows y).getLast?.map (fun f => (true, f.1))).toList) ++
  partnerOps [(false, y)] (others y) ++
  (cs.flatMap fun c => (dirs y).map (fun q => .yswait q y c)) ++
  ((flows y).flatMap fun f => cs.flatMap fun c => f.2.map (fun q => .yswait q f.1 c) ++ [.xswait f.1 c]) ++
  cs.flatMap fun c => ((others y).getLast?.map (fun s => Op.owait false s c)).toList

end Cert.Gather
end
-- ==== Proof.Plan.lean ====
/-
  The plan of a device: what it holds between operations, as a set of named pieces, and what each operation takes from the
  set and puts into it.

  A piece (`Atom`) is a permission: a chunk of a buffer, a semaphore at zero, a transfer under way, a right to send, a right
  to wait. What they mean is said in `Meaning.lean`. Here they are names only, so that the whole order of a device can be
  checked by computing: `plan_ok` runs the operations of `ops y` over the set of pieces the device starts with, finds every
  piece an operation takes, checks at each wait that everything still owed to others is of a higher level than what is
  waited for, and ends with the set `final y` and nothing owed. Sets of pieces are kept as the bits of one number.
-/
module

public import proofs.«01_k».proof.Proof.Ops

@[expose] public section

namespace Cert.Gather

/-! ## Pieces and debts -/

/-- The pieces a device holds. Chunks are named as in `Ops.lean`; `q` is a direction along `y` (`1` up, `0` down). -/
inductive Atom where
  /-- a slot of the stage with any contents; a slot holding a chunk of the block; -/
  | stR (i : Fin 2) | stV (own : Bool) (c : Fin 8)
  /-- a load semaphore at zero; a load under way; a chunk of the device's block; -/
  | ldZ (i : Fin 2) | ldF (own : Bool) (c : Fin 8) | xA (own : Bool) (c : Fin 8)
  /-- a chunk of the gathering buffer with any contents; a quarter share of the chunk at its final contents; -/
  | cR (own : Bool) (s : Fin 4) (c : Fin 8) | cP (p : Fin 4) (own : Bool) (s : Fin 4) (c : Fin 8)
  /-- a chunk of the result with any contents; the chunk at its final contents; -/
  | oR (own : Bool) (s : Fin 4) (c : Fin 8) | oD (own : Bool) (s : Fin 4) (c : Fin 8)
  /-- a store semaphore at zero; a copy out under way; -/
  | stZ (c : Fin 8) | stF (own : Bool) (s : Fin 4) (c : Fin 8)
  /-- the right to send a chunk along `y`; the chunk of the neighbour it goes to; the right to wait for the send; its
      semaphore used up; -/
  | yT (q : Fin 2) (s : Fin 4) (c : Fin 8) | nR (q : Fin 2) (s : Fin 4) (c : Fin 8)
  | ysC (q : Fin 2) (s : Fin 4) (c : Fin 8) | ysZ (q : Fin 2) (s : Fin 4) (c : Fin 8)
  /-- the same of a send to the partner; -/
  | xT (s : Fin 4) (c : Fin 8) | pR (s : Fin 4) (c : Fin 8) | xsC (s : Fin 4) (c : Fin 8) | xsZ (s : Fin 4) (c : Fin 8)
  /-- the right to wait for a chunk along `y` or from the partner; its semaphore used up; -/
  | yrP (s : Fin 4) (c : Fin 8) | yrZ (s : Fin 4) (c : Fin 8) | xrP (s : Fin 4) (c : Fin 8) | xrZ (s : Fin 4) (c : Fin 8)
  /-- the right to signal a neighbour at the barrier; the right to wait there; the barrier used up. -/
  | bT (q : Fin 3) | bP | bZ
deriving DecidableEq

/-- What a device owes to others: a signal at the barrier, a chunk along `y`, a chunk to the partner. -/
inductive Due where
  | b (q : Fin 3) | y (q : Fin 2) (s : Fin 4) (c : Fin 8) | x (s : Fin 4) (c : Fin 8)
deriving DecidableEq

/-- The number of a chunk, and of a place in a pair of blocks. -/
abbrev num (own : Bool) (s : Fin 4) (c : Fin 8) : ℕ := (if own then 32 else 0) + (8 * s.val + c.val)
abbrev numq (q : Fin 2) (s : Fin 4) (c : Fin 8) : ℕ := 32 * q.val + (8 * s.val + c.val)
abbrev nums (s : Fin 4) (c : Fin 8) : ℕ := 8 * s.val + c.val
abbrev numo (own : Bool) (c : Fin 8) : ℕ := (if own then 8 else 0) + c.val

/-- The bit of a piece. -/
def Atom.code : Atom → ℕ
  | .cR o s c => num o s c
  | .cP p o s c => 64 + 64 * p.val + num o s c
  | .oR o s c => 320 + num o s c
  | .oD o s c => 384 + num o s c
  | .stF o s c => 448 + num o s c
  | .yT q s c => 512 + numq q s c
  | .ysC q s c => 576 + numq q s c
  | .ysZ q s c => 640 + numq q s c
  | .nR q s c => 704 + numq q s c
  | .xT s c => 768 + nums s c
  | .pR s c => 800 + nums s c
  | .xsC s c => 832 + nums s c
  | .xsZ s c => 864 + nums s c
  | .yrP s c => 896 + nums s c
  | .yrZ s c => 928 + nums s c
  | .xrP s c => 960 + nums s c
  | .xrZ s c => 992 + nums s c
  | .xA o c => 1024 + numo o c
  | .ldF o c => 1040 + numo o c
  | .stV o c => 1056 + numo o c
  | .stR i => 1072 + i.val
  | .ldZ i => 1074 + i.val
  | .stZ c => 1076 + c.val
  | .bT q => 1084 + q.val
  | .bP => 1087
  | .bZ => 1088

/-- The bit of a debt. -/
def Due.code : Due → ℕ
  | .b q => q.val
  | .y q s c => 3 + numq q s c
  | .x s c => 67 + nums s c

/-! ## Enumerations -/

/-- The numbers below two, three and four. -/
abbrev f2 : List (Fin 2) := [0, 1]
abbrev f3 : List (Fin 3) := [0, 1, 2]
abbrev f4 : List (Fin 4) := [0, 1, 2, 3]

/-- All chunks, all places of a send along `y`, all places in the blocks, all chunks of the device's block. -/
def chunks : List (Bool × Fin 4 × Fin 8) := [false, true].flatMap fun o => f4.flatMap fun s => cs.map fun c => (o, s, c)
def sends : List (Fin 2 × Fin 4 × Fin 8) := f2.flatMap fun q => f4.flatMap fun s => cs.map fun c => (q, s, c)
def places : List (Fin 4 × Fin 8) := f4.flatMap fun s => cs.map fun c => (s, c)
def owns : List (Bool × Fin 8) := [false, true].flatMap fun o => cs.map fun c => (o, c)

/-- All pieces, kind by kind. -/
def atomKinds : List (List Atom) := [
  chunks.map fun i => .cR i.1 i.2.1 i.2.2,
  f4.flatMap fun p => chunks.map fun i => .cP p i.1 i.2.1 i.2.2,
  chunks.map fun i => .oR i.1 i.2.1 i.2.2,
  chunks.map fun i => .oD i.1 i.2.1 i.2.2,
  chunks.map fun i => .stF i.1 i.2.1 i.2.2,
  sends.map fun i => .yT i.1 i.2.1 i.2.2,
  sends.map fun i => .ysC i.1 i.2.1 i.2.2,
  sends.map fun i => .ysZ i.1 i.2.1 i.2.2,
  sends.map fun i => .nR i.1 i.2.1 i.2.2,
  places.map fun i => .xT i.1 i.2,
  places.map fun i => .pR i.1 i.2,
  places.map fun i => .xsC i.1 i.2,
  places.map fun i => .xsZ i.1 i.2,
  places.map fun i => .yrP i.1 i.2,
  places.map fun i => .yrZ i.1 i.2,
  places.map fun i => .xrP i.1 i.2,
  places.map fun i => .xrZ i.1 i.2,
  owns.map fun i => .xA i.1 i.2,
  owns.map fun i => .ldF i.1 i.2,
  owns.map fun i => .stV i.1 i.2,
  f2.map .stR,
  f2.map .ldZ,
  cs.map .stZ,
  f3.map .bT,
  [.bP, .bZ]]

/-- All pieces. -/
def allAtoms : List Atom := atomKinds.flatten

/-- All debts. -/
def allDues : List Due :=
  f3.map .b ++ (sends.map (fun i => .y i.1 i.2.1 i.2.2) ++ places.map (fun i => .x i.1 i.2))

theorem mem_f2 (i : Fin 2) : i ∈ f2 := by revert i; decide
theorem mem_f3 (i : Fin 3) : i ∈ f3 := by revert i; decide
theorem mem_f4 (i : Fin 4) : i ∈ f4 := by revert i; decide
theorem mem_cs (i : Fin 8) : i ∈ cs := by revert i; decide
theorem mem_chunks (i : Bool × Fin 4 × Fin 8) : i ∈ chunks := by revert i; decide +kernel
theorem mem_sends (i : Fin 2 × Fin 4 × Fin 8) : i ∈ sends := by revert i; decide +kernel
theorem mem_places (i : Fin 4 × Fin 8) : i ∈ places := by revert i; decide +kernel
theorem mem_owns (i : Bool × Fin 8) : i ∈ owns := by revert i; decide +kernel

/-- Every piece is listed. -/
theorem Atom.mem_all (a : Atom) : a ∈ allAtoms := List.mem_flatten.mpr <| match a with
  | .cR o s c => ⟨_, List.getElem_mem (n := 0) (by decide), List.mem_map.mpr ⟨(o, s, c), mem_chunks _, rfl⟩⟩
  | .cP p o s c => ⟨_, List.getElem_mem (n := 1) (by decide), List.mem_flatMap.mpr ⟨p, mem_f4 p, List.mem_map.mpr ⟨(o, s, c), mem_chunks _, rfl⟩⟩⟩
  | .oR o s c => ⟨_, List.getElem_mem (n := 2) (by decide), List.mem_map.mpr ⟨(o, s, c), mem_chunks _, rfl⟩⟩
  | .oD o s c => ⟨_, List.getElem_mem (n := 3) (by decide), List.mem_map.mpr ⟨(o, s, c), mem_chunks _, rfl⟩⟩
  | .stF o s c => ⟨_, List.getElem_mem (n := 4) (by decide), List.mem_map.mpr ⟨(o, s, c), mem_chunks _, rfl⟩⟩
  | .yT q s c => ⟨_, List.getElem_mem (n := 5) (by decide), List.mem_map.mpr ⟨(q, s, c), mem_sends _, rfl⟩⟩
  | .ysC q s c => ⟨_, List.getElem_mem (n := 6) (by decide), List.mem_map.mpr ⟨(q, s, c), mem_sends _, rfl⟩⟩
  | .ysZ q s c => ⟨_, List.getElem_mem (n := 7) (by decide), List.mem_map.mpr ⟨(q, s, c), mem_sends _, rfl⟩⟩
  | .nR q s c => ⟨_, List.getElem_mem (n := 8) (by decide), List.mem_map.mpr ⟨(q, s, c), mem_sends _, rfl⟩⟩
  | .xT s c => ⟨_, List.getElem_mem (n := 9) (by decide), List.mem_map.mpr ⟨(s, c), mem_places _, rfl⟩⟩
  | .pR s c => ⟨_, List.getElem_mem (n := 10) (by decide), List.mem_map.mpr ⟨(s, c), mem_places _, rfl⟩⟩
  | .xsC s c => ⟨_, List.getElem_mem (n := 11) (by decide), List.mem_map.mpr ⟨(s, c), mem_places _, rfl⟩⟩
  | .xsZ s c => ⟨_, List.getElem_mem (n := 12) (by decide), List.mem_map.mpr ⟨(s, c), mem_places _, rfl⟩⟩
  | .yrP s c => ⟨_, List.getElem_mem (n := 13) (by decide), List.mem_map.mpr ⟨(s, c), mem_places _, rfl⟩⟩
  | .yrZ s c => ⟨_, List.getElem_mem (n := 14) (by decide), List.mem_map.mpr ⟨(s, c), mem_places _, rfl⟩⟩
  | .xrP s c => ⟨_, List.getElem_mem (n := 15) (by decide), List.mem_map.mpr ⟨(s, c), mem_places _, rfl⟩⟩
  | .xrZ s c => ⟨_, List.getElem_mem (n := 16) (by decide), List.mem_map.mpr ⟨(s, c), mem_places _, rfl⟩⟩
  | .xA o c => ⟨_, List.getElem_mem (n := 17) (by decide), List.mem_map.mpr ⟨(o, c), mem_owns _, rfl⟩⟩
  | .ldF o c => ⟨_, List.getElem_mem (n := 18) (by decide), List.mem_map.mpr ⟨(o, c), mem_owns _, rfl⟩⟩
  | .stV o c => ⟨_, List.getElem_mem (n := 19) (by decide), List.mem_map.mpr ⟨(o, c), mem_owns _, rfl⟩⟩
  | .stR i => ⟨_, List.getElem_mem (n := 20) (by decide), List.mem_map.mpr ⟨i, mem_f2 _, rfl⟩⟩
  | .ldZ i => ⟨_, List.getElem_mem (n := 21) (by decide), List.mem_map.mpr ⟨i, mem_f2 _, rfl⟩⟩
  | .stZ c => ⟨_, List.getElem_mem (n := 22) (by decide), List.mem_map.mpr ⟨c, mem_cs _, rfl⟩⟩
  | .bT q => ⟨_, List.getElem_mem (n := 23) (by decide), List.mem_map.mpr ⟨q, mem_f3 _, rfl⟩⟩
  | .bP => ⟨_, List.getElem_mem (n := 24) (by decide), List.mem_cons_self⟩
  | .bZ => ⟨_, List.getElem_mem (n := 24) (by decide), List.mem_cons_of_mem _ List.mem_cons_self⟩

/-- Every debt is listed. -/
theorem Due.mem_all (u : Due) : u ∈ allDues := match u with
  | .b q => List.mem_append_left _ (List.mem_map.mpr ⟨q, mem_f3 q, rfl⟩)
  | .y q s c => List.mem_append_right _ (List.mem_append_left _ (List.mem_map.mpr ⟨(q, s, c), mem_sends _, rfl⟩))
  | .x s c => List.mem_append_right _ (List.mem_append_right _ (List.mem_map.mpr ⟨(s, c), mem_places _, rfl⟩))

/-- The pieces are numbered without gaps or repetition. -/
theorem Atom.codes : allAtoms.map Atom.code = List.range 1089 := by decide +kernel
/-- The debts are numbered without gaps or repetition. -/
theorem Due.codes : allDues.map Due.code = List.range 99 := by decide +kernel

/-- Different pieces have different numbers. -/
theorem Atom.code_inj : Function.Injective Atom.code := fun a b h =>
  List.inj_on_of_nodup_map (Atom.codes ▸ List.nodup_range) a.mem_all b.mem_all h

/-- Different debts have different numbers. -/
theorem Due.code_inj : Function.Injective Due.code := fun a b h =>
  List.inj_on_of_nodup_map (Due.codes ▸ List.nodup_range) a.mem_all b.mem_all h

instance : Fintype Atom := ⟨allAtoms.toFinset, fun a => List.mem_toFinset.mpr a.mem_all⟩
instance : Fintype Due := ⟨allDues.toFinset, fun u => List.mem_toFinset.mpr u.mem_all⟩

/-! ## Sets as numbers -/

section Bits

variable {α : Type} [Fintype α] [DecidableEq α] (code : α → ℕ)

/-- The set of a number. -/
def bits (σ : ℕ) : Finset α := Finset.univ.filter fun a => σ.testBit (code a) = true

/-- Taking the members of a list out of a set, if they are there. -/
def takeAll : List α → ℕ → Option ℕ
  | [], σ => some σ
  | a :: l, σ => if σ.testBit (code a) then takeAll l (σ ^^^ 2 ^ code a) else none

/-- Putting the members of a list into a set, if they are not there. -/
def putAll : List α → ℕ → Option ℕ
  | [], σ => some σ
  | a :: l, σ => if σ.testBit (code a) then none else putAll l (σ ^^^ 2 ^ code a)

variable {code}

/-- A member of a set is one whose bit is set. -/
theorem mem_bits {σ : ℕ} {a : α} : a ∈ bits code σ ↔ σ.testBit (code a) = true := by simp [bits]

/-- No bit: the empty set. -/
theorem bits_zero : bits code 0 = (∅ : Finset α) := by
  ext a; simp [mem_bits]

/-- Clearing a member's bit takes it out. -/
theorem bits_take (hc : Function.Injective code) {σ : ℕ} {a : α} (h : σ.testBit (code a) = true) :
    bits code (σ ^^^ 2 ^ code a) = (bits code σ).erase a := by
  ext b
  rw [Finset.mem_erase, mem_bits, mem_bits, Nat.testBit_xor, Nat.testBit_two_pow]
  by_cases hb : b = a
  · subst hb; simp [h]
  · have : code a ≠ code b := fun e => hb (hc e).symm
    simp [hb, this]

/-- Setting a bit puts the member in. -/
theorem bits_put (hc : Function.Injective code) {σ : ℕ} {a : α} (h : ¬ σ.testBit (code a) = true) :
    bits code (σ ^^^ 2 ^ code a) = insert a (bits code σ) := by
  ext b
  rw [Finset.mem_insert, mem_bits, mem_bits, Nat.testBit_xor, Nat.testBit_two_pow]
  by_cases hb : b = a
  · subst hb; simp [h]
  · have : code a ≠ code b := fun e => hb (hc e).symm
    simp [hb, this]

end Bits

/-! ## The pieces at the start and at the end -/

/-- Whether a device at `y` sends block `s` in direction `q`. -/
def sendsTo (y : Fin 4) (q : Fin 2) (s : Fin 4) : Bool :=
  if q = 1 then decide (y.val < 3 ∧ s ≤ y) else decide (0 < y.val ∧ y ≤ s)

/-- The pieces at the start. -/
def start (y : Fin 4) : List Atom :=
  f2.map .stR ++ f2.map .ldZ ++ cs.map .stZ ++
  owns.map (fun i => .xA i.1 i.2) ++
  chunks.map (fun i => .cR i.1 i.2.1 i.2.2) ++ chunks.map (fun i => .oR i.1 i.2.1 i.2.2) ++
  sends.map (fun i => if sendsTo y i.1 i.2.1 then .yT i.1 i.2.1 i.2.2 else .ysZ i.1 i.2.1 i.2.2) ++
  places.map (fun i => if i.1 = y then .xsZ i.1 i.2 else .xT i.1 i.2) ++
  places.map (fun i => if i.1 = y then .yrZ i.1 i.2 else .yrP i.1 i.2) ++
  places.map (fun i => if i.1 = y then .xrZ i.1 i.2 else .xrP i.1 i.2) ++
  (nbrs y).map .bT ++ [.bP]

/-- What a device owes at the start. -/
def dues (y : Fin 4) : List Due :=
  (nbrs y).map .b ++ (sends.filter fun i => sendsTo y i.1 i.2.1).map (fun i => .y i.1 i.2.1 i.2.2) ++
  (places.filter fun i => i.1 ≠ y).map (fun i => .x i.1 i.2)

/-- The pieces at the end. -/
def final : List Atom :=
  f2.map .stR ++ f2.map .ldZ ++ cs.map .stZ ++
  owns.map (fun i => .xA i.1 i.2) ++
  chunks.flatMap (fun i => f4.map fun p => .cP p i.1 i.2.1 i.2.2) ++ chunks.map (fun i => .oD i.1 i.2.1 i.2.2) ++
  sends.map (fun i => .ysZ i.1 i.2.1 i.2.2) ++
  places.map (fun i => .xsZ i.1 i.2) ++ places.map (fun i => .yrZ i.1 i.2) ++ places.map (fun i => .xrZ i.1 i.2) ++ [.bZ]

/-! ## The operations -/

/-- The four shares of a chunk at its final contents. -/
def quarters (own : Bool) (s : Fin 4) (c : Fin 8) : List Atom := f4.map fun p => .cP p own s c

/-- The share a send along `y` uses. -/
abbrev yShare (q : Fin 2) : Fin 4 := ⟨q.val, by omega⟩

/-- The chunks a device opens to a neighbour by signalling it: to the partner the other halves of the blocks it does not
    hold, to a neighbour along `y` the own halves of the blocks that come from there. -/
def opened (y : Fin 4) : Fin 3 → List (Bool × Fin 4 × Fin 8)
  | 0 => (places.filter fun i => i.1 ≠ y).map fun i => (false, i.1, i.2)
  | 1 => (places.filter fun i => i.1 < y).map fun i => (true, i.1, i.2)
  | 2 => (places.filter fun i => y < i.1).map fun i => (true, i.1, i.2)

/-- The pieces got from a neighbour at the barrier. -/
def received (y : Fin 4) : Fin 3 → List Atom
  | 0 => (places.filter fun i => i.1 ≠ y).map fun i => .pR i.1 i.2
  | 1 => (places.filter fun i => y ≤ i.1).map fun i => .nR 0 i.1 i.2
  | 2 => (places.filter fun i => i.1 ≤ y).map fun i => .nR 1 i.1 i.2

/-- What an operation takes. -/
def Op.takes (y : Fin 4) : Op → List Atom
  | .sig q => .bT q :: (opened y q).map fun i => .cR i.1 i.2.1 i.2.2
  | .bwait _ => [.bP]
  | .load own c => [.xA own c, .stR (slot c), .ldZ (slot c)]
  | .loadWait own c => [.ldF own c]
  | .cast own c => [.stV own c, .cR own y c]
  | .ysend q s c => [.cP (yShare q) true s c, .nR q s c, .yT q s c]
  | .xsend s c => [.cP 2 true s c, .pR s c, .xT s c]
  | .ywait s c => [.yrP s c]
  | .xwait s c => [.xrP s c]
  | .ostart own s c => [.stZ c, .cP 3 own s c, .oR own s c]
  | .owait own s c => [.stF own s c]
  | .yswait q s c => [.ysC q s c]
  | .xswait s c => [.xsC s c]

/-- What an operation puts. -/
def Op.puts (y : Fin 4) : Op → List Atom
  | .sig _ => []
  | .bwait _ => .bZ :: (nbrs y).flatMap (received y)
  | .load own c => [.ldF own c]
  | .loadWait own c => [.stV own c, .xA own c, .ldZ (slot c)]
  | .cast own c => .stR (slot c) :: quarters own y c
  | .ysend q s c => [.ysC q s c]
  | .xsend s c => [.xsC s c]
  | .ywait s c => .yrZ s c :: quarters true s c
  | .xwait s c => .xrZ s c :: quarters false s c
  | .ostart own s c => [.stF own s c]
  | .owait own s c => [.stZ c, .cP 3 own s c, .oD own s c]
  | .yswait q s c => [.ysZ q s c, .cP (yShare q) true s c]
  | .xswait s c => [.xsZ s c, .cP 2 true s c]

/-- What an operation pays of what the device owes. -/
def Op.pays : Op → List Due
  | .sig q => [.b q]
  | .ysend q s c => [.y q s c]
  | .xsend s c => [.x s c]
  | _ => []

/-- The distance between two places along `y`. -/
def dist (a b : ℕ) : ℕ := (a - b) + (b - a)

/-- The level of what a device owes: a signal, the chunk of a block by how far the receiver is from the block's owner, a
    chunk for the partner. -/
def Due.level (y : Fin 4) : Due → ℕ
  | .b _ => 1
  | .y q s _ => 1 + dist (if q = 1 then y.val + 1 else y.val - 1) s.val
  | .x _ _ => 10

/-- The level of what an operation waits for. -/
def Op.level (y : Fin 4) : Op → Option ℕ
  | .bwait _ => some 1
  | .ywait s _ => some (1 + dist y.val s.val)
  | .xwait _ _ => some 10
  | .loadWait _ _ => some 0
  | .owait _ _ _ => some 0
  | .yswait _ _ _ => some 0
  | .xswait _ _ => some 0
  | _ => none

/-- The conditions on an operation by itself. -/
def Op.fits (y : Fin 4) : Op → Bool
  | .sig q => (nbrs y).contains q
  | .bwait n => n == (nbrs y).length
  | .ysend q s _ => sendsTo y q s
  | .xsend s _ => s != y
  | .ywait s _ => s != y
  | .xwait s _ => s != y
  | .yswait q s _ => sendsTo y q s
  | .xswait s _ => s != y
  | _ => true

/-- Everything owed is above the level waited for. -/
def above (y : Fin 4) (δ : ℕ) : Option ℕ → Bool
  | none => true
  | some w => allDues.all fun u => !δ.testBit u.code || w < u.level y

/-- One operation, on the set of pieces and the set of debts. -/
def Op.step (y : Fin 4) (o : Op) (σ δ : ℕ) : Option (ℕ × ℕ) :=
  if o.fits y && above y δ (o.level y) then
    match takeAll Atom.code (o.takes y) σ with
    | none => none
    | some σ₁ =>
      match putAll Atom.code (o.puts y) σ₁ with
      | none => none
      | some σ₂ =>
        match takeAll Due.code o.pays δ with
        | none => none
        | some δ' => some (σ₂, δ')
  else none

/-- A list of operations. -/
def exec (y : Fin 4) : List Op → ℕ → ℕ → Option (ℕ × ℕ)
  | [], σ, δ => some (σ, δ)
  | o :: os, σ, δ =>
    match o.step y σ δ with
    | none => none
    | some (σ', δ') => exec y os σ' δ'

/-- The numbers of the sets at the start. -/
def start₀ (y : Fin 4) : ℕ := (putAll Atom.code (start y) 0).getD 0
def dues₀ (y : Fin 4) : ℕ := (putAll Due.code (dues y) 0).getD 0
/-- The number of the set at the end. -/
def final₀ : ℕ := (putAll Atom.code final 0).getD 0

/-- The pieces of the start differ from each other. -/
theorem start_ok (y : Fin 4) : putAll Atom.code (start y) 0 = some (start₀ y) := by revert y; decide +kernel
/-- The debts of the start differ from each other. -/
theorem dues_ok (y : Fin 4) : putAll Due.code (dues y) 0 = some (dues₀ y) := by revert y; decide +kernel
/-- The pieces of the end differ from each other. -/
theorem final_ok : putAll Atom.code final 0 = some final₀ := by decide +kernel

/-- The operations of a device lead from the pieces at the start to the pieces at the end, and pay everything owed. -/
theorem plan_ok (y : Fin 4) : exec y (ops y) (start₀ y) (dues₀ y) = some (final₀, 0) := by
  revert y; decide +kernel

end Cert.Gather
-- ==== Proof.Places.lean ====
/-
  The places of the all-gather kernel: a device's place along `y`, the rows of a chunk in the block, in the gathered array
  and in the stage, how the chunks part each buffer, and how a chunk is named on a neighbour.
-/
module

public import proofs.«01_k».proof.Proof.Plan
public import Idealize.ShloMosaic.Lib.Pipeline.ValueKit.Geometry

@[expose] public section

noncomputable section

namespace Cert.Gather

open Cert.KernelIdeal Cert.KernelIdeal.Gen
open Idealize.ShloMosaic Idealize.ShloMosaic.TcCoe

/-! ## The mesh -/

/-- The device's place along `y`, as an index. -/
def yF (d : Dev nD) : Fin 4 := ⟨yOf d, Nat.mod_lt _ (by decide)⟩

/-- The direction a neighbour sees the device in. -/
def opp : Fin 3 → Fin 3
  | 0 => 0
  | 1 => 2
  | 2 => 1

/-- Seen back and forth, a direction is itself. -/
theorem opp_opp (q : Fin 3) : opp (opp q) = q := by revert q; decide
/-- The neighbour's neighbour in the opposite direction is the device. -/
theorem nbr_opp (d : Dev nD) (q : Fin 3) (h : q ∈ nbrs (yF d)) : nbr (nbr d q) (opp q) = d := by
  revert d q; decide +kernel
/-- A neighbour has the device as a neighbour. -/
theorem opp_mem (d : Dev nD) (q : Fin 3) (h : q ∈ nbrs (yF d)) : opp q ∈ nbrs (yF (nbr d q)) := by
  revert d q; decide +kernel
/-- The partner is at the same place along `y`. -/
theorem yF_partner (d : Dev nD) : yF (nbr d 0) = yF d := by revert d; decide +kernel
/-- The lower neighbour is one place down. -/
theorem yF_lower (d : Dev nD) (h : 1 ∈ nbrs (yF d)) : (yF (nbr d 1)).val + 1 = (yF d).val := by revert d; decide +kernel
/-- The upper neighbour is one place up. -/
theorem yF_upper (d : Dev nD) (h : 2 ∈ nbrs (yF d)) : (yF (nbr d 2)).val = (yF d).val + 1 := by revert d; decide +kernel
/-- No neighbour is listed twice. -/
theorem nbrs_nodup (y : Fin 4) : (nbrs y).Nodup := by revert y; decide
/-- The partner is a neighbour. -/
theorem partner_mem (y : Fin 4) : 0 ∈ nbrs y := by revert y; decide
/-- A chunk is sent along `y` only to a neighbour. -/
theorem yq_mem (y : Fin 4) (q : Fin 2) (s : Fin 4) (h : sendsTo y q s = true) : yq q ∈ nbrs y := by revert y q s; decide
/-- What a device sends along `y` its neighbour does not hold. -/
theorem yq_ne (d : Dev nD) (q : Fin 2) (s : Fin 4) (h : sendsTo (yF d) q s = true) : s ≠ yF (nbr d (yq q)) := by
  revert d q s; decide +kernel

/-- The partner's other half is the device's own. -/
theorem half_partner (d : Dev nD) (own : Bool) : halfOf (nbr d 0) (!own) = halfOf d own := by revert d own; decide +kernel
/-- A neighbour along `y` has the same own half. -/
theorem half_along (d : Dev nD) (q : Fin 2) (own : Bool) : halfOf (nbr d (yq q)) own = halfOf d own := by revert d q own; decide +kernel

/-- A chunk's name on the partner, and on a neighbour along `y`. -/
theorem cOff_partner (d : Dev nD) (own : Bool) (s : Fin 4) (c : Fin 8) : cOff (nbr d 0) (!own) s c = cOff d own s c := by
  unfold cOff; rw [half_partner]
/-- A chunk starts at the same row on a neighbour along `y`. -/
theorem cOff_along (d : Dev nD) (q : Fin 2) (own : Bool) (s : Fin 4) (c : Fin 8) : cOff (nbr d (yq q)) own s c = cOff d own s c := by
  unfold cOff; rw [half_along]

/-- The two halves differ. -/
theorem halfOf_inj (d : Dev nD) (o o' : Bool) (h : halfOf d o = halfOf d o') : o = o' := by revert d o o'; decide +kernel
/-- Every half is the device's own or the other. -/
theorem halfOf_surj (d : Dev nD) (n : ℕ) (h : n ≤ 1) : ∃ o, halfOf d o = n := by
  have hd := d.isLt
  have : d.val / 16 ≤ 1 := by unfold nD at *; omega
  rcases Nat.lt_or_ge 0 (if d.val / 16 = n then 1 else 0) with h1 | h1
  · exact ⟨true, by unfold halfOf; split at h1 <;> simp_all⟩
  · refine ⟨false, ?_⟩
    unfold halfOf
    split at h1
    · omega
    · show 1 - d.val / 16 = n
      omega

/-! ## Rows -/

/-- 256 rows of the gathered array, of the block. -/
abbrev gRect (o : Fin 2 → ℕ) (h : ∀ a, o a + S256x1024.size a ≤ S16384x1024.size a) : Rect S16384x1024 :=
  Rect.unit (s := S16384x1024) o S256x1024.size h
abbrev bRect (o : Fin 2 → ℕ) (h : ∀ a, o a + S256x1024.size a ≤ S4096x1024.size a) : Rect S4096x1024 :=
  Rect.unit (s := S4096x1024) o S256x1024.size h

/-- A chunk's rows of the gathered array; of the block; a slot of the stage. -/
def cSet (d : Dev nD) (i : Bool × Fin 4 × Fin 8) : Finset S16384x1024.Idx := (gRect _ (cOff_inb d i.1 i.2.1 i.2.2)).set
def xSet (d : Dev nD) (i : Bool × Fin 8) : Finset S4096x1024.Idx := (bRect _ (xOff_inb d i.1 i.2)).set
def sSet (i : Fin 2) : Finset S2x256x1024.Idx := (sRect i).set

theorem mem_gRect {o : Fin 2 → ℕ} {h} {i : S16384x1024.Idx} : i ∈ (gRect o h).set ↔ ∀ a, o a ≤ (i a).val ∧ (i a).val < o a + S256x1024.size a :=
  Rect.mem_set_unit
theorem mem_bRect {o : Fin 2 → ℕ} {h} {i : S4096x1024.Idx} : i ∈ (bRect o h).set ↔ ∀ a, o a ≤ (i a).val ∧ (i a).val < o a + S256x1024.size a :=
  Rect.mem_set_unit

/-- The rows of a chunk of the gathered array. -/
theorem mem_cSet {d : Dev nD} {own : Bool} {s : Fin 4} {c : Fin 8} {i : S16384x1024.Idx} :
    i ∈ cSet d (own, s, c) ↔ 4096 * s.val + 2048 * halfOf d own + 256 * c.val ≤ (i 0).val ∧ (i 0).val < 4096 * s.val + 2048 * halfOf d own + 256 * c.val + 256 := by
  unfold cSet; rw [mem_gRect]
  constructor
  · intro h; exact h 0
  · intro h a
    fin_cases a
    · exact h
    · exact ⟨Nat.zero_le _, by have h1 : (i 1).val < 1024 := (i 1).isLt; show (i 1).val < 0 + 1024; omega⟩

/-- The rows of a chunk of the block. -/
theorem mem_xSet {d : Dev nD} {own : Bool} {c : Fin 8} {i : S4096x1024.Idx} :
    i ∈ xSet d (own, c) ↔ 2048 * halfOf d own + 256 * c.val ≤ (i 0).val ∧ (i 0).val < 2048 * halfOf d own + 256 * c.val + 256 := by
  unfold xSet; rw [mem_bRect]
  constructor
  · intro h; exact h 0
  · intro h a
    fin_cases a
    · exact h
    · exact ⟨Nat.zero_le _, by have h1 : (i 1).val < 1024 := (i 1).isLt; show (i 1).val < 0 + 1024; omega⟩

/-- The rows of a slot of the stage. -/
theorem mem_sSet {j : Fin 2} {i : S2x256x1024.Idx} : i ∈ sSet j ↔ (i 0).val = j.val := by
  unfold sSet
  rw [show (i ∈ (sRect j).set) ↔ ∀ a, (![j.val, 0, 0] : Fin 3 → ℕ) a ≤ (i a).val ∧ (i a).val < (![j.val, 0, 0] : Fin 3 → ℕ) a + S1x256x1024.size a from Rect.mem_set_unit]
  constructor
  · intro h; have := h 0; simp at this; omega
  · intro h a
    fin_cases a
    · show j.val ≤ (i 0).val ∧ (i 0).val < j.val + 1; omega
    · exact ⟨Nat.zero_le _, by have := (i 1).isLt; simpa using this⟩
    · exact ⟨Nat.zero_le _, by have := (i 2).isLt; simpa using this⟩

/-- Different chunks of the gathered array share no element, -/
theorem cSet_disjoint (d : Dev nD) (i j : Bool × Fin 4 × Fin 8) (h : i ≠ j) : Disjoint (cSet d i) (cSet d j) := by
  obtain ⟨o, s, c⟩ := i; obtain ⟨o', s', c'⟩ := j
  rw [Finset.disjoint_left]; intro x hx hy
  rw [mem_cSet] at hx hy
  have h1 := halfOf_le d o; have h2 := halfOf_le d o'; have hc := c.isLt; have hc' := c'.isLt
  have es : s.val = s'.val := by omega
  have eh : halfOf d o = halfOf d o' := by omega
  have ec : c.val = c'.val := by omega
  exact h (by rw [halfOf_inj d o o' eh, Fin.ext es, Fin.ext ec])

/-- and the chunks are all of it. -/
theorem cSet_cover (d : Dev nD) : Finset.univ.biUnion (cSet d) = Finset.univ := by
  ext i
  simp only [Finset.mem_biUnion, Finset.mem_univ, true_and, iff_true]
  have hi : (i 0).val < 16384 := (i 0).isLt
  obtain ⟨o, ho⟩ := halfOf_surj d ((i 0).val / 2048 % 2) (by omega)
  refine ⟨(o, ⟨(i 0).val / 4096, by omega⟩, ⟨(i 0).val / 256 % 8, by omega⟩), ?_⟩
  rw [mem_cSet, ho]
  dsimp only
  omega

/-- Different chunks of the block share no element, -/
theorem xSet_disjoint (d : Dev nD) (i j : Bool × Fin 8) (h : i ≠ j) : Disjoint (xSet d i) (xSet d j) := by
  obtain ⟨o, c⟩ := i; obtain ⟨o', c'⟩ := j
  rw [Finset.disjoint_left]; intro x hx hy
  rw [mem_xSet] at hx hy
  have h1 := halfOf_le d o; have h2 := halfOf_le d o'; have hc := c.isLt; have hc' := c'.isLt
  have eh : halfOf d o = halfOf d o' := by omega
  have ec : c.val = c'.val := by omega
  exact h (by rw [halfOf_inj d o o' eh, Fin.ext ec])

/-- and the chunks are all of it. -/
theorem xSet_cover (d : Dev nD) : Finset.univ.biUnion (xSet d) = Finset.univ := by
  ext i
  simp only [Finset.mem_biUnion, Finset.mem_univ, true_and, iff_true]
  have hi : (i 0).val < 4096 := (i 0).isLt
  obtain ⟨o, ho⟩ := halfOf_surj d ((i 0).val / 2048) (by omega)
  refine ⟨(o, ⟨(i 0).val / 256 % 8, by omega⟩), ?_⟩
  rw [mem_xSet, ho]
  dsimp only
  omega

/-- The slots of the stage share no element, -/
theorem sSet_disjoint (i j : Fin 2) (h : i ≠ j) : Disjoint (sSet i) (sSet j) := by
  rw [Finset.disjoint_left]; intro x hx hy
  rw [mem_sSet] at hx hy
  exact h (Fin.ext (hx.symm.trans hy))

/-- and they are all of it. -/
theorem sSet_cover : Finset.univ.biUnion sSet = Finset.univ := by
  ext i
  simp only [Finset.mem_biUnion, Finset.mem_univ, true_and, iff_true]
  exact ⟨⟨(i 0).val, (i 0).isLt⟩, mem_sSet.mpr rfl⟩

/-! ## Where a row comes from -/

/-- The device of the same `z` whose block a row of the gathered array comes from: the device itself for its own block, and
    for another block the holder of it whose own half the row is in. -/
def src (d : Dev nD) (i : S16384x1024.Idx) : Dev nD :=
  if (i 0).val / 4096 = yOf d then d
  else ⟨(16 * ((i 0).val / 2048 % 2) + 4 * ((i 0).val / 4096) + d.val % 4) % 32, Nat.mod_lt _ (by decide)⟩

/-- A row's place in its block. -/
def locIdx (i : S16384x1024.Idx) : S4096x1024.Idx := fun a =>
  ⟨(i a).val % S4096x1024.size a, Nat.mod_lt _ (by fin_cases a <;> decide)⟩

/-- All rows of a chunk come from one device. -/
theorem src_chunk {d : Dev nD} {own : Bool} {s : Fin 4} {c : Fin 8} {i : S16384x1024.Idx} (h : i ∈ cSet d (own, s, c)) :
    src d i = if s = yF d then d else ⟨(16 * halfOf d own + 4 * s.val + d.val % 4) % 32, Nat.mod_lt _ (by decide)⟩ := by
  rw [mem_cSet] at h
  have h1 := halfOf_le d own; have hc := c.isLt
  have e1 : (i 0).val / 4096 = s.val := by omega
  have e2 : (i 0).val / 2048 % 2 = halfOf d own := by omega
  unfold src
  simp only [e1, e2]
  by_cases hs : s = yF d
  · rw [if_pos hs, if_pos (by rw [hs]; rfl)]
  · rw [if_neg hs, if_neg (show ¬ s.val = yOf d from fun e => hs (Fin.ext e))]

/-- On a chunk of the own half of another's block, the neighbours along `y` agree on where it comes from, -/
theorem src_along (d : Dev nD) (q : Fin 2) (s : Fin 4) (c : Fin 8) (hs : sendsTo (yF d) q s = true) {i : S16384x1024.Idx}
    (h : i ∈ cSet d (true, s, c)) : src (nbr d (yq q)) i = src d i := by
  have h' : i ∈ cSet (nbr d (yq q)) (true, s, c) := by rw [mem_cSet, half_along]; exact mem_cSet.mp h
  rw [src_chunk h, src_chunk h']
  clear h h'
  revert d q s; decide +kernel

/-- and the partner agrees on the chunk. -/
theorem src_partner (d : Dev nD) (s : Fin 4) (c : Fin 8) (hs : s ≠ yF d) {i : S16384x1024.Idx}
    (h : i ∈ cSet d (true, s, c)) : src (nbr d 0) i = src d i := by
  have h' : i ∈ cSet (nbr d 0) (false, s, c) := by rw [mem_cSet, show halfOf (nbr d 0) false = halfOf d true from half_partner d true]; exact mem_cSet.mp h
  rw [src_chunk h, src_chunk h']
  clear h h'
  revert d s; decide +kernel

/-- A chunk of the device's own block: where it is in the gathered array and where in the block. -/
theorem src_own (d : Dev nD) (own : Bool) (c : Fin 8) {i : S16384x1024.Idx} (h : i ∈ cSet d (own, yF d, c)) : src d i = d := by
  rw [src_chunk h, if_pos rfl]

end Cert.Gather
end
-- ==== Proof.Cells.lean ====
/-
  The semaphores of the all-gather kernel by their role, and what a device owes to which cell.
-/
module

public import proofs.«01_k».proof.Proof.Places

@[expose] public section

noncomputable section

namespace Cert.Gather

open Cert.KernelIdeal Cert.KernelIdeal.Gen
open Idealize.ShloMosaic Idealize.ShloMosaic.TcCoe
open Idealize.SL

/-- A semaphore by its role: the barrier; of a send along `y`, at its source, and of a chunk's arrival along `y`; of a send
    to the partner and of a chunk's arrival from it; of the loads; of the copies out. -/
inductive Key where
  | bar
  | ys (q : Fin 2) (s : Fin 4) (c : Fin 8)
  | yr (s : Fin 4) (c : Fin 8)
  | xs (s : Fin 4) (c : Fin 8)
  | xr (s : Fin 4) (c : Fin 8)
  | ld (i : Fin 2)
  | st (c : Fin 8)
deriving DecidableEq

/-- The semaphore of a role. -/
def Key.sem : Key → SemLoc sig
  | .bar => .reg baS
  | .ys q s c => .dma (ysS s q c)
  | .yr s c => .dma (yrS s c)
  | .xs s c => .dma (xsS s c)
  | .xr s c => .dma (xrS s c)
  | .ld i => .dma (ldS i)
  | .st c => .dma (stS c)

/-- The role of a semaphore. -/
def keyOf : SemLoc sig → Key
  | .reg _ => .bar
  | .dma n =>
    if n.val < 64 then .ys ⟨n.val / 8 % 2, Nat.mod_lt _ (by decide)⟩ ⟨n.val / 16 % 4, Nat.mod_lt _ (by decide)⟩ ⟨n.val % 8, Nat.mod_lt _ (by decide)⟩
    else if n.val < 96 then .yr ⟨n.val / 8 % 4, Nat.mod_lt _ (by decide)⟩ ⟨n.val % 8, Nat.mod_lt _ (by decide)⟩
    else if n.val < 128 then .xs ⟨n.val / 8 % 4, Nat.mod_lt _ (by decide)⟩ ⟨n.val % 8, Nat.mod_lt _ (by decide)⟩
    else if n.val < 160 then .xr ⟨n.val / 8 % 4, Nat.mod_lt _ (by decide)⟩ ⟨n.val % 8, Nat.mod_lt _ (by decide)⟩
    else if n.val < 162 then .ld ⟨n.val % 2, Nat.mod_lt _ (by decide)⟩
    else .st ⟨(n.val - 162) % 8, Nat.mod_lt _ (by decide)⟩

theorem keyOf_ys (q : Fin 2) (s : Fin 4) (c : Fin 8) : keyOf (.dma (ysS s q c)) = .ys q s c := by revert q s c; decide +kernel
theorem keyOf_yr (s : Fin 4) (c : Fin 8) : keyOf (.dma (yrS s c)) = .yr s c := by revert s c; decide +kernel
theorem keyOf_xs (s : Fin 4) (c : Fin 8) : keyOf (.dma (xsS s c)) = .xs s c := by revert s c; decide +kernel
theorem keyOf_xr (s : Fin 4) (c : Fin 8) : keyOf (.dma (xrS s c)) = .xr s c := by revert s c; decide +kernel
theorem keyOf_ld (i : Fin 2) : keyOf (.dma (ldS i)) = .ld i := by revert i; decide +kernel
theorem keyOf_st (c : Fin 8) : keyOf (.dma (stS c)) = .st c := by revert c; decide +kernel

/-- A role's semaphore has that role. -/
theorem keyOf_sem (k : Key) : keyOf k.sem = k := by
  cases k with
  | bar => rfl
  | ys q s c => exact keyOf_ys q s c
  | yr s c => exact keyOf_yr s c
  | xs s c => exact keyOf_xs s c
  | xr s c => exact keyOf_xr s c
  | ld i => exact keyOf_ld i
  | st c => exact keyOf_st c

/-- Different roles have different semaphores. -/
theorem Key.sem_inj : Function.Injective Key.sem := fun a b h => by rw [← keyOf_sem a, h, keyOf_sem]

/-- A transfer semaphore is the one of its role. -/
theorem sem_dma (n : DmaSem sig) : (keyOf (.dma n)).sem = .dma n := by revert n; decide +kernel
/-- The barrier semaphore is the one of its role. -/
theorem sem_reg (n : Sem sig) : (keyOf (.reg n)).sem = .reg n := by revert n; decide +kernel
/-- A semaphore is the one of its role. -/
theorem sem_keyOf (s : SemLoc sig) : (keyOf s).sem = s := by
  cases s with
  | reg n => exact sem_reg n
  | dma n => exact sem_dma n

/-- The transfers' semaphores, by role. -/
def dmaKeys : List Key :=
  f2.map .ld ++ cs.map .st ++ sends.map (fun i => .ys i.1 i.2.1 i.2.2) ++ places.map (fun i => .xs i.1 i.2) ++
    places.map (fun i => .yr i.1 i.2) ++ places.map (fun i => .xr i.1 i.2)

/-- No role is listed twice. -/
theorem dmaKeys_nodup : dmaKeys.Nodup := by decide +kernel
/-- Every transfer semaphore's role is listed. -/
theorem mem_dmaKeys (n : DmaSem sig) : keyOf (.dma n) ∈ dmaKeys := by revert n; decide +kernel
/-- The barrier is not among the transfers' roles. -/
theorem dmaKeys_ne : Key.bar ∉ dmaKeys := by decide +kernel

/-- A device's cell of a role. -/
abbrev cell (d : Dev nD) (k : Key) : GSem nD τ sig := ((d : Thread nD τ), k.sem)

/-- Cells of different devices or roles are different. -/
theorem cell_inj {d d' : Dev nD} {k k' : Key} (h : cell d k = cell d' k') : d = d' ∧ k = k' := by
  have h1 : (d : Thread nD τ) = (d' : Thread nD τ) := congrArg Prod.fst h
  exact ⟨congrArg Prod.fst h1, Key.sem_inj (congrArg Prod.snd h)⟩

/-! ## What is owed -/

/-- Whose cell a debt is owed to, -/
def Due.dev (d : Dev nD) : Due → Dev nD
  | .b q => nbr d q
  | .y q _ _ => nbr d (yq q)
  | .x _ _ => nbr d 0
/-- which cell, -/
def Due.key : Due → Key
  | .b _ => .bar
  | .y _ s c => .yr s c
  | .x s c => .xr s c
/-- and as which of the cell's duties. -/
def Due.duty : Due → Fin 3
  | .b q => opp q
  | _ => 0

/-- A chunk's units. -/
abbrev N : ℕ := (cV (offs 0 0 |>.ch true 0 0)).view.dmaCredit
/-- A chunk's transfer counts at least one unit. -/
theorem N_pos : 0 < N := View.dmaCredit_pos _ (by decide)

/-- The units of a cell's duties. -/
def Key.amt : Key → ℕ
  | .bar => 1
  | _ => N

/-- Every duty has at least one unit. -/
theorem Key.amt_pos (k : Key) : 0 < k.amt := by cases k <;> first | exact Nat.one_pos | exact N_pos

/-- The duties of a device's cell. -/
def Key.duties (y : Fin 4) : Key → Finset (Fin 3)
  | .bar => (nbrs y).toFinset
  | .ys q s _ => if sendsTo y q s then {0} else ∅
  | .yr s _ => if s = y then ∅ else {0}
  | .xs s _ => if s = y then ∅ else {0}
  | .xr s _ => if s = y then ∅ else {0}
  | .ld _ => ∅
  | .st _ => ∅

/-- The level of a device's cell. -/
def Key.level (y : Fin 4) : Key → ℕ
  | .bar => 1
  | .yr s _ => 1 + dist y.val s.val
  | .xr _ _ => 10
  | _ => 0

/-- Whether a debt is among a device's. -/
def Due.used (y : Fin 4) : Due → Bool
  | .b q => (nbrs y).contains q
  | .y q s _ => sendsTo y q s
  | .x s _ => s != y

/-- The list of a device's debts holds those it owes. -/
theorem mem_dues (y : Fin 4) (u : Due) : u ∈ dues y ↔ u.used y = true := by
  unfold dues
  simp only [List.mem_append, List.mem_map, List.mem_filter]
  cases u with
  | b q => simp [Due.used]
  | y q s c =>
    constructor
    · rintro ((⟨_, _, h⟩ | ⟨⟨q', s', c'⟩, ⟨_, h⟩, e⟩) | ⟨_, _, h⟩)
      · cases h
      · cases e; exact h
      · cases h
    · intro h; exact .inl (.inr ⟨(q, s, c), ⟨mem_sends _, h⟩, rfl⟩)
  | x s c =>
    constructor
    · rintro ((⟨_, _, h⟩ | ⟨_, _, h⟩) | ⟨⟨s', c'⟩, ⟨_, h⟩, e⟩)
      · cases h
      · cases h
      · cases e; simpa [Due.used] using h
    · intro h; exact .inr ⟨(s, c), ⟨mem_places _, by simpa [Due.used] using h⟩, rfl⟩

/-- No debt is listed twice. -/
theorem dues_nodup (y : Fin 4) : (dues y).Nodup := by revert y; decide +kernel

/-- The level of a debt is the level of the cell it is owed to. -/
theorem level_due (d : Dev nD) (u : Due) (h : u.used (yF d) = true) : u.key.level (yF (u.dev d)) = u.level (yF d) := by
  have h3 : (yF d).val < 4 := (yF d).isLt
  cases u with
  | b q => rfl
  | x s c => rfl
  | y q s c =>
    show 1 + dist (yF (nbr d (yq q))).val s.val = 1 + dist (if q = 1 then (yF d).val + 1 else (yF d).val - 1) s.val
    have hm := yq_mem _ _ _ h
    rcases (show q = 0 ∨ q = 1 by omega) with rfl | rfl
    · have := yF_lower d hm
      rw [if_neg (by decide), show (yF d).val - 1 = (yF (nbr d (yq 0))).val by show _ = (yF (nbr d 1)).val; omega]
    · have := yF_upper d hm
      rw [if_pos rfl, show (yF d).val + 1 = (yF (nbr d (yq 1))).val by show _ = (yF (nbr d 2)).val; omega]

/-- A debt is one of the duties of the cell it is owed to. -/
theorem duty_due (d : Dev nD) (u : Due) (h : u.used (yF d) = true) : u.duty ∈ u.key.duties (yF (u.dev d)) := by
  cases u with
  | b q =>
    have h' : q ∈ nbrs (yF d) := by simpa [Due.used] using h
    show opp q ∈ (nbrs (yF (nbr d q))).toFinset
    rw [List.mem_toFinset]; exact opp_mem d q h'
  | y q s c =>
    have h' := yq_ne d q s h
    show 0 ∈ (if s = yF (nbr d (yq q)) then (∅ : Finset (Fin 3)) else {0})
    rw [if_neg h']; exact Finset.mem_singleton_self _
  | x s c =>
    have h' : s ≠ yF d := by simpa [Due.used] using h
    show 0 ∈ (if s = yF (nbr d 0) then (∅ : Finset (Fin 3)) else {0})
    rw [yF_partner, if_neg h']; exact Finset.mem_singleton_self _

/-- Who owes a cell's duty: -/
def payer (d : Dev nD) : Key → Fin 3 → Dev nD × Due
  | .bar, q => (nbr d q, .b (opp q))
  | .yr s c, _ => if s < yF d then (nbr d 1, .y 1 s c) else (nbr d 2, .y 0 s c)
  | .xr s c, _ => (nbr d 0, .x s c)
  | _, _ => (d, .b 0)

/-- every debt has one cell and duty, -/
theorem payer_due (d : Dev nD) (u : Due) (h : u.used (yF d) = true) : payer (u.dev d) u.key u.duty = (d, u) := by
  cases u with
  | b q =>
    have h' : q ∈ nbrs (yF d) := by simpa [Due.used] using h
    show (nbr (nbr d q) (opp q), Due.b (opp (opp q))) = (d, .b q)
    rw [nbr_opp d q h', opp_opp]
  | y q s c =>
    show (if s < yF (nbr d (yq q)) then (nbr (nbr d (yq q)) 1, Due.y 1 s c) else (nbr (nbr d (yq q)) 2, .y 0 s c)) = (d, .y q s c)
    have key : ∀ (d : Dev nD) (q : Fin 2) (s : Fin 4), sendsTo (yF d) q s = true →
        (s < yF (nbr d (yq q)) → nbr (nbr d (yq q)) 1 = d ∧ q = 1) ∧ (¬ s < yF (nbr d (yq q)) → nbr (nbr d (yq q)) 2 = d ∧ q = 0) := by
      decide +kernel
    have k := key d q s h
    by_cases hs : s < yF (nbr d (yq q))
    · rw [if_pos hs, (k.1 hs).1, (k.1 hs).2]
    · rw [if_neg hs, (k.2 hs).1, (k.2 hs).2]
  | x s c =>
    show (nbr (nbr d 0) 0, Due.x s c) = (d, .x s c)
    rw [show nbr (nbr d 0) 0 = d from nbr_opp d 0 (partner_mem _)]

/-- and every duty of a barrier or receive cell is owed by its payer. -/
theorem due_payer (d : Dev nD) (k : Key) (t : Fin 3) (ht : t ∈ k.duties (yF d)) (hk : k = .bar ∨ (∃ s c, k = .yr s c) ∨ ∃ s c, k = .xr s c) :
    let p := payer d k t
    p.2.used (yF p.1) = true ∧ p.2.dev p.1 = d ∧ p.2.key = k ∧ p.2.duty = t := by
  rcases hk with rfl | ⟨s, c, rfl⟩ | ⟨s, c, rfl⟩
  · have ht' : t ∈ nbrs (yF d) := by simpa [Key.duties] using ht
    refine ⟨?_, nbr_opp d t ht', rfl, opp_opp t⟩
    show (nbrs (yF (nbr d t))).contains (opp t) = true
    rw [List.contains_iff_mem]; exact opp_mem d t ht'
  · have h : s ≠ yF d ∧ t = 0 := by
      by_cases e : s = yF d
      · simp [Key.duties, e] at ht
      · simp [Key.duties, e] at ht; exact ⟨e, ht⟩
    obtain ⟨hs, rfl⟩ := h
    have key : ∀ (d : Dev nD) (s : Fin 4), s ≠ yF d →
        (s < yF d → sendsTo (yF (nbr d 1)) 1 s = true ∧ nbr (nbr d 1) 2 = d) ∧ (¬ s < yF d → sendsTo (yF (nbr d 2)) 0 s = true ∧ nbr (nbr d 2) 1 = d) := by
      decide +kernel
    have k := key d s hs
    by_cases e : s < yF d
    · simp only [payer, if_pos e]; exact ⟨(k.1 e).1, (k.1 e).2, rfl, rfl⟩
    · simp only [payer, if_neg e]; exact ⟨(k.2 e).1, (k.2 e).2, rfl, rfl⟩
  · have h : s ≠ yF d ∧ t = 0 := by
      by_cases e : s = yF d
      · simp [Key.duties, e] at ht
      · simp [Key.duties, e] at ht; exact ⟨e, ht⟩
    obtain ⟨hs, rfl⟩ := h
    refine ⟨?_, nbr_opp d 0 (partner_mem _), rfl, rfl⟩
    show (s != yF (nbr d 0)) = true
    rw [yF_partner]; simpa using hs

end Cert.Gather
end
-- ==== Proof.Lists.lean ====
/-
  What holds of each member of a list, side by side, and how it goes in and out of what holds of each member of a set.
-/
module

public import proofs.«01_k».proof.Proof.Plan
public import Idealize.ShloMosaic.Lib.Rounds

@[expose] public section

noncomputable section

namespace Cert.Gather

open Idealize.SL Idealize.SL.RA Idealize.SL.BI
open scoped Idealize.SL.BI
open Idealize.SL.BI.BIBase Idealize.SL.BI.Laws Idealize.SL.ProofMode

variable {M : Type _} [URA M] {I J : Type}

/-- `Φ` of every member of the list, side by side. -/
def each : List I → (I → sProp M) → sProp M
  | [], _ => iprop(emp)
  | a :: l, Φ => iprop(Φ a ∗ each l Φ)

/-- Nothing beside a thing is the thing. -/
theorem emp_side (P : sProp M) : iprop(emp ∗ P) = P := equiv_iff.mp BI.emp_sep
/-- A thing beside nothing is the thing. -/
theorem side_emp (P : sProp M) : iprop(P ∗ emp) = P := equiv_iff.mp BI.sep_emp
/-- Three things side by side may be grouped either way. -/
theorem side_assoc (P Q R : sProp M) : iprop((P ∗ Q) ∗ R) = iprop(P ∗ (Q ∗ R)) := equiv_iff.mp ⟨BI.sep_assoc, BI.sep_assoc'⟩
/-- Two things side by side may be swapped. -/
theorem side_comm (P Q : sProp M) : iprop(P ∗ Q) = iprop(Q ∗ P) := equiv_iff.mp ⟨BI.sep_comm, BI.sep_comm⟩
/-- Of two pairs side by side the firsts and the seconds may be paired. -/
theorem side_swap (P Q R S : sProp M) : iprop((P ∗ Q) ∗ (R ∗ S)) = iprop((P ∗ R) ∗ (Q ∗ S)) := by
  rw [side_assoc, side_assoc, ← side_assoc Q, side_comm Q R, side_assoc]

/-- Each member of the empty list: nothing. -/
theorem each_nil (Φ : I → sProp M) : each [] Φ = iprop(emp) := rfl
/-- Each member of a list: the first, beside each of the rest. -/
theorem each_cons (a : I) (l : List I) (Φ : I → sProp M) : each (a :: l) Φ = iprop(Φ a ∗ each l Φ) := rfl
/-- The one member of a list. -/
theorem each_one (a : I) (Φ : I → sProp M) : each [a] Φ = Φ a := side_emp _

/-- Each member of two lists, one after the other. -/
theorem each_append (l l' : List I) (Φ : I → sProp M) : each (l ++ l') Φ = iprop(each l Φ ∗ each l' Φ) := by
  induction l with
  | nil => exact (emp_side _).symm
  | cons a l ih => rw [List.cons_append, each_cons, ih, each_cons, side_assoc]

/-- Each member of a mapped list. -/
theorem each_map (f : I → J) (l : List I) (Φ : J → sProp M) : each (l.map f) Φ = each l fun i => Φ (f i) := by
  induction l with
  | nil => rfl
  | cons a l ih => rw [List.map_cons, each_cons, ih, each_cons]

/-- Each member of lists put together. -/
theorem each_flatMap (f : I → List J) (l : List I) (Φ : J → sProp M) : each (l.flatMap f) Φ = each l fun i => each (f i) Φ := by
  induction l with
  | nil => rfl
  | cons a l ih => rw [List.flatMap_cons, each_append, ih, each_cons]

/-- The same of each member. -/
theorem each_congr {l : List I} {Φ Ψ : I → sProp M} (h : ∀ i ∈ l, Φ i = Ψ i) : each l Φ = each l Ψ := by
  induction l with
  | nil => rfl
  | cons a l ih => rw [each_cons, each_cons, h a List.mem_cons_self, ih fun i hi => h i (List.mem_cons_of_mem _ hi)]

/-- What follows from each member by itself. -/
theorem each_mono {l : List I} {Φ Ψ : I → sProp M} (h : ∀ i ∈ l, Φ i ⊢ Ψ i) : each l Φ ⊢ each l Ψ := by
  induction l with
  | nil => exact Entails.refl _
  | cons a l ih =>
    rw [each_cons, each_cons]
    exact (sep_mono_left (h a List.mem_cons_self)).trans (sep_mono_right (ih fun i hi => h i (List.mem_cons_of_mem _ hi)))

/-- Two things of each member. -/
theorem each_side (l : List I) (Φ Ψ : I → sProp M) : each l (fun i => iprop(Φ i ∗ Ψ i)) = iprop(each l Φ ∗ each l Ψ) := by
  induction l with
  | nil => exact (emp_side _).symm
  | cons a l ih => rw [each_cons, each_cons, each_cons, ih, side_swap]

/-- Members a condition leaves out hold nothing. -/
theorem each_filter (p : I → Bool) (l : List I) (Φ : I → sProp M) :
    each (l.filter p) Φ = each l fun i => if p i then Φ i else iprop(emp) := by
  induction l with
  | nil => rfl
  | cons a l ih =>
    rw [each_cons]
    by_cases h : p a = true
    · rw [List.filter_cons_of_pos h, each_cons, ih, if_pos h]
    · rw [List.filter_cons_of_neg h, ih, if_neg h, emp_side]

/-- Each member of a list without repetition is each member of the set. -/
theorem each_eq_bigSep [DecidableEq I] {l : List I} (h : l.Nodup) (Φ : I → sProp M) : each l Φ = bigSep l.toFinset Φ := by
  induction l with
  | nil => rfl
  | cons a l ih =>
    rw [List.nodup_cons] at h
    rw [each_cons, ih h.2, List.toFinset_cons, bigSep_insert (by rw [List.mem_toFinset]; exact h.1)]
    rfl

/-- All members of a finite type, listed. -/
theorem each_eq_univ [Fintype I] [DecidableEq I] {l : List I} (h : l.Nodup) (hm : ∀ i, i ∈ l) (Φ : I → sProp M) :
    each l Φ = bigSep Finset.univ Φ := by
  rw [each_eq_bigSep h, Finset.eq_univ_iff_forall.mpr fun i => List.mem_toFinset.mpr (hm i)]

/-- What is the same at every member comes out of an existential choice at each. -/
theorem each_persistent {l : List I} {R : sProp M} [BI.Persistent R] {Φ Ψ : I → sProp M} (h : ∀ i ∈ l, iprop(R ∗ Φ i) ⊢ Ψ i) :
    iprop(R ∗ each l Φ) ⊢ each l Ψ := by
  induction l with
  | nil => rw [each_nil, each_nil]; iintro ⟨-, H⟩; iexact H
  | cons a l ih =>
    rw [each_cons, each_cons]
    iintro ⟨#HR, Ha, Hl⟩
    isplitl [Ha]
    · iapply (h a List.mem_cons_self)
      isplitr; · iexact HR
      iexact Ha
    · iapply (ih fun i hi => h i (List.mem_cons_of_mem _ hi))
      isplitr; · iexact HR
      iexact Hl

section Sets

variable [Fintype I] [DecidableEq I] {code : I → ℕ}

/-- Taking a list's members out of the set leaves the rest beside each of them. -/
theorem bigSep_takeAll (hc : Function.Injective code) (Φ : I → sProp M) :
    ∀ (l : List I) (σ σ' : ℕ), takeAll code l σ = some σ' → bigSep (bits code σ) Φ = iprop(each l Φ ∗ bigSep (bits code σ') Φ)
  | [], σ, σ', h => by
    cases h; exact (emp_side _).symm
  | a :: l, σ, σ', h => by
    unfold takeAll at h
    by_cases ha : σ.testBit (code a) = true
    · rw [if_pos ha] at h
      have ih := bigSep_takeAll hc Φ l _ _ h
      rw [bits_take hc ha] at ih
      rw [each_cons, side_assoc, ← ih]
      have := bigSep_insert (Φ := Φ) (Finset.notMem_erase a (bits code σ))
      rw [Finset.insert_erase (mem_bits.mpr ha)] at this
      exact this
    · rw [if_neg ha] at h; cases h

/-- Putting a list's members into the set adds each of them. -/
theorem bigSep_putAll (hc : Function.Injective code) (Φ : I → sProp M) :
    ∀ (l : List I) (σ σ' : ℕ), putAll code l σ = some σ' → bigSep (bits code σ') Φ = iprop(each l Φ ∗ bigSep (bits code σ) Φ)
  | [], σ, σ', h => by
    cases h; exact (emp_side _).symm
  | a :: l, σ, σ', h => by
    unfold putAll at h
    by_cases ha : σ.testBit (code a) = true
    · rw [if_pos ha] at h; cases h
    · rw [if_neg ha] at h
      have ih := bigSep_putAll hc Φ l _ _ h
      rw [bits_put hc ha] at ih
      have := bigSep_insert (Φ := Φ) (show a ∉ bits code σ from fun hm => ha (mem_bits.mp hm))
      rw [ih, this, each_cons, side_comm (Φ a), side_assoc]
      rfl

end Sets

end Cert.Gather
end
-- ==== Proof.Meaning.lean ====
/-
  What the pieces of the kernel's plan mean on a device: the contents of the chunks, the schedule of the cells' duties, and
  for each piece the resource it stands for.
-/
module

public import proofs.«01_k».proof.Proof.Cells
public import proofs.«01_k».proof.Proof.Lists
public import Idealize.ShloMosaic.Lib.Rounds
public import Idealize.ShloMosaic.Lib.Transfers
public import Idealize.ShloMosaic.Lib.ShareLeaves
public import Idealize.ShloMosaic.Lib.Pipeline.Launch

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

/-- The cells' rounds, and all of the proof's own ghost state: the pipeline's rounds, the cells', counters for the local copies. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ)

/-! ## Contents -/

/-- Contents of a gathered array. -/
abbrev GV (F : FTy → Type) : Type := S16384x1024.Idx → Elt F .bf16

/-- A device's block, and the block rounded. -/
abbrev xval (d : Dev nD) : FVec F S4096x1024 .f32 := m ((d : Thread nD τ).loc main_arg0)
def xt (d : Dev nD) : FVec F S4096x1024 .bf16 := truncf .bf16 (xval m d) bitsLt_bf16_f32

/-- What a device ends with: each row the rounded row of the device it comes from. -/
def G (d : Dev nD) : GV F := fun i => xt m (src d i) (locIdx i)

/-- A device and the neighbour it sends a chunk to along `y` end with the same chunk. -/
theorem G_along (d : Dev nD) (q : Fin 2) (s : Fin 4) (c : Fin 8) (hs : sendsTo (yF d) q s = true) {i : S16384x1024.Idx}
    (h : i ∈ cSet d (true, s, c)) : G m (nbr d (yq q)) i = G m d i := by
  unfold G; rw [src_along d q s c hs h]
/-- A device and its partner end with the same chunk, of another block than their own. -/
theorem G_partner (d : Dev nD) (s : Fin 4) (c : Fin 8) (hs : s ≠ yF d) {i : S16384x1024.Idx}
    (h : i ∈ cSet d (true, s, c)) : G m (nbr d 0) i = G m d i := by
  unfold G; rw [src_partner d s c hs h]

/-! ## Pieces of buffers -/

/-- The share of a chunk's quarter. -/
def qsh (p : Fin 4) : PosShare TreeShare := ShareLeaves.leaf 2 fullShare p

abbrev cLoc (n : Dev nD) : Loc nD τ sig := (n : Thread nD τ).loc cc0_scratch0
abbrev oLoc (n : Dev nD) : Loc nD τ sig := (n : Thread nD τ).loc main_v1
abbrev xLoc (n : Dev nD) : Loc nD τ sig := (n : Thread nD τ).loc main_arg0
abbrev sLoc (n : Dev nD) : Loc nD τ sig := (n : Thread nD τ).loc cc0_scratch1

/-- A chunk of device `n`'s gathering buffer, as device `d` names chunks; of its result; of its block; a slot of its stage. -/
def cPt (n d : Dev nD) (i : Bool × Fin 4 × Fin 8) (q : PosShare TreeShare) (f : GV F) : sProp 𝕄 := cLoc n ↦[cSet d i]{q} f
def oPt (d : Dev nD) (i : Bool × Fin 4 × Fin 8) (f : GV F) : sProp 𝕄 := oLoc d ↦[cSet d i]{fullShare} f
def xPt (d : Dev nD) (i : Bool × Fin 8) : sProp 𝕄 := xLoc d ↦[xSet d i]{fullShare} xval m d
def sPt (d : Dev nD) (i : Fin 2) (f : FVec F S2x256x1024 .f32) : sProp 𝕄 := sLoc d ↦[sSet i]{fullShare} f

instance cPt_storable (n d : Dev nD) (i) (q) (f : GV F) : BI.Storable (upEmb : UEmb _ 𝕄) (cPt n d i q f) := by unfold cPt; infer_instance

/-- The partner's other half is the device's own half. -/
theorem cSet_partner (d : Dev nD) (own : Bool) (s : Fin 4) (c : Fin 8) : cSet (nbr d 0) (!own, s, c) = cSet d (own, s, c) := by
  ext i; rw [mem_cSet, mem_cSet, half_partner]
/-- A neighbour along `y` names the same rows by the same chunk. -/
theorem cSet_along (d : Dev nD) (q : Fin 2) (own : Bool) (s : Fin 4) (c : Fin 8) : cSet (nbr d (yq q)) (own, s, c) = cSet d (own, s, c) := by
  ext i; rw [mem_cSet, mem_cSet, half_along]

/-! ## The schedule -/

/-- The chunks of the neighbours a device gets at the barrier. -/
def room (d : Dev nD) : Atom → sProp 𝕄
  | .nR q s c => iprop(∃ f : GV F, cPt (nbr d (yq q)) d (true, s, c) fullShare f)
  | .pR s c => iprop(∃ f : GV F, cPt (nbr d 0) d (true, s, c) fullShare f)
  | _ => iprop(emp)

instance room_storable (d : Dev nD) (a : Atom) : BI.Storable (upEmb : UEmb _ 𝕄) (room (F := F) d a) := by
  cases a <;> unfold room <;> infer_instance

instance each_storable {I : Type} (l : List I) (Φ : I → sProp 𝕄) [∀ i, BI.Storable (upEmb : UEmb _ 𝕄) (Φ i)] :
    BI.Storable (upEmb : UEmb _ 𝕄) (each l Φ) := by
  induction l with
  | nil => rw [each_nil]; infer_instance
  | cons a l ih => rw [each_cons]; infer_instance

/-- What a cell's duty hands over: at the barrier room in the neighbour's buffer, at a send the share that was sent from, at
    an arrival the chunk. -/
def pay (d : Dev nD) (t : Fin 3) : Key → sProp 𝕄
  | .bar => each (received (yF d) t) (room d)
  | .ys q s c => cPt d d (true, s, c) (qsh (yShare q)) (G m d)
  | .xs s c => cPt d d (true, s, c) (qsh 2) (G m d)
  | .yr s c => cPt d d (true, s, c) fullShare (G m d)
  | .xr s c => cPt d d (false, s, c) fullShare (G m d)
  | .ld _ => iprop(emp)
  | .st _ => iprop(emp)

/-- The duties of all cells: one round each. -/
def Rd : Rounds.Schedule (GSem nD τ sig) (Fin 3) 𝕄 where
  duties g r := if r = 0 ∧ g.1.2 = .tc then (keyOf g.2).duties (yF g.1.1) else ∅
  unitless _ := False
  amount g _ _ := (keyOf g.2).amt
  payload g _ t := pay m g.1.1 t (keyOf g.2)
  amount_pos g _ _ _ := (keyOf g.2).amt_pos

instance Rd_storable (g : GSem nD τ sig) (r : ℕ) (t : Fin 3) : BI.Storable (upEmb : UEmb _ 𝕄) ((Rd (F := F) m).payload g r t) := by
  show BI.Storable upEmb (pay m g.1.1 t (keyOf g.2))
  cases keyOf g.2 <;> unfold pay <;> infer_instance

section Sched
variable (d : Dev nD) (k : Key)

/-- A cell's duties in its first round are its role's. -/
theorem duties_cell : (Rd (F := F) m).duties (cell d k) 0 = k.duties (yF d) := by
  show (if (0 = 0 ∧ (cell d k).1.2 = .tc) then (keyOf k.sem).duties (yF d) else ∅) = _
  rw [if_pos ⟨rfl, rfl⟩, keyOf_sem]
/-- There are no duties in later rounds. -/
theorem duties_later (g : GSem nD τ sig) : ∀ r, 1 ≤ r → (Rd (F := F) m).duties g r = ∅ :=
  fun r hr => if_neg fun h => by omega
/-- A duty's units are its role's. -/
theorem amount_cell (r : ℕ) (t : Fin 3) : (Rd (F := F) m).amount (cell d k) r t = k.amt := by
  show (keyOf k.sem).amt = _; rw [keyOf_sem]
/-- A duty hands over what its role says. -/
theorem payload_cell (r : ℕ) (t : Fin 3) : (Rd (F := F) m).payload (cell d k) r t = pay m d t k := by
  show pay m d t (keyOf k.sem) = _; rw [keyOf_sem]
/-- The units of a cell's first round. -/
theorem expect_cell : (Rd (F := F) m).expect (cell d k) 0 = (k.duties (yF d)).card * k.amt := by
  unfold Schedule.expect Schedule.amountOf
  rw [duties_cell, Finset.sum_congr rfl fun t _ => amount_cell m d k 0 t, Finset.sum_const, smul_eq_mul]
/-- What all duties of a cell hand over. -/
theorem rest_cell : bigSep ((Rd (F := F) m).duties (cell d k) 0 \ ∅) (fun t => (Rd (F := F) m).payload (cell d k) 0 t)
    = bigSep (k.duties (yF d)) fun t => pay m d t k := by
  rw [Finset.sdiff_empty, duties_cell]; exact bigSep_congr fun t _ => payload_cell m d k 0 t

end Sched

/-! ## The pieces -/

/-- A cell no duty is due at any more. -/
def shut (g : GSem nD τ sig) : sProp 𝕄 := iprop(∃ R : ℕ, ⌜∀ r, R ≤ r → (Rd (F := F) m).duties g r = ∅⌝ ∗ atPos ER g R ∅ 0)

/-- The slot of a loaded chunk holds the chunk. -/
def Loaded (d : Dev nD) (own : Bool) (c : Fin 8) (f : FVec F S2x256x1024 .f32) : Prop :=
  (sV (slot c)).view.read (Elt F) f = (xV ((offs d (yF d)).xo own c)).view.read (Elt F) (xval m d)

/-- A loaded chunk; a chunk copied out. -/
def staged (d : Dev nD) (own : Bool) (c : Fin 8) : sProp 𝕄 := iprop(∃ f, ⌜Loaded m d own c f⌝ ∗ sPt d (slot c) f)

/-- What each piece stands for on a device. -/
def mean (d : Dev nD) : Atom → sProp 𝕄
  | .stR i => iprop(∃ f, sPt d i f)
  | .stV own c => staged m d own c
  | .ldZ i => semVal (cell d (.ld i)) 0
  | .ldF own c => Transfers.Flight EC (d : Thread nD τ) (.dma (ldS (slot c))) () (sV (slot c)).view.dmaCredit iprop(staged m d own c ∗ xPt m d (own, c))
  | .xA own c => xPt m d (own, c)
  | .cR own s c => iprop(∃ f : GV F, cPt d d (own, s, c) fullShare f)
  | .cP p own s c => cPt d d (own, s, c) (qsh p) (G m d)
  | .oR own s c => iprop(∃ f : GV F, oPt d (own, s, c) f)
  | .oD own s c => oPt d (own, s, c) (G m d)
  | .stZ c => semVal (cell d (.st c)) 0
  | .stF own s c => Transfers.Flight EC (d : Thread nD τ) (.dma (stS c)) () (oV ((offs d (yF d)).ou own s c)).view.dmaCredit
      iprop(oPt d (own, s, c) (G m d) ∗ cPt d d (own, s, c) (qsh 3) (G m d))
  | .yT q s c => iprop(dutyTok ER (cell d (.ys q s c)) 0 0 ∗ dutyTok ER (cell (nbr d (yq q)) (.yr s c)) 0 0 ∗ atPos ER (cell d (.ys q s c)) 0 ∅ 0)
  | .nR q s c => room d (.nR q s c)
  | .ysC q s c => iprop(cred (tallyAt (cell d (.ys q s c)) () N) ∗ atPos ER (cell d (.ys q s c)) 0 ∅ 0)
  | .ysZ q s c => shut m (cell d (.ys q s c))
  | .xT s c => iprop(dutyTok ER (cell d (.xs s c)) 0 0 ∗ dutyTok ER (cell (nbr d 0) (.xr s c)) 0 0 ∗ atPos ER (cell d (.xs s c)) 0 ∅ 0)
  | .pR s c => room d (.pR s c)
  | .xsC s c => iprop(cred (tallyAt (cell d (.xs s c)) () N) ∗ atPos ER (cell d (.xs s c)) 0 ∅ 0)
  | .xsZ s c => shut m (cell d (.xs s c))
  | .yrP s c => iprop(cred (tallyAt (cell d (.yr s c)) () N) ∗ atPos ER (cell d (.yr s c)) 0 ∅ 0)
  | .yrZ s c => shut m (cell d (.yr s c))
  | .xrP s c => iprop(cred (tallyAt (cell d (.xr s c)) () N) ∗ atPos ER (cell d (.xr s c)) 0 ∅ 0)
  | .xrZ s c => shut m (cell d (.xr s c))
  | .bT q => dutyTok ER (cell (nbr d q) .bar) 0 (opp q)
  | .bP => iprop(cred (tallyAt (cell d .bar) () (nbrs (yF d)).length) ∗ atPos ER (cell d .bar) 0 ∅ 0)
  | .bZ => shut m (cell d .bar)

/-! ## What is owed -/

/-- A set of debts. -/
def debt (d : Dev nD) (S : Finset Due) : CellTallies nD τ sig Unit := ∑ u ∈ S, tallyAt (cell (u.dev d) u.key) () u.key.amt

/-- A device owing a set of debts. -/
def owing (d : Dev nD) (δ : ℕ) : sProp 𝕄 :=
  iprop(⌜∀ u ∈ bits Due.code δ, u.used (yF d) = true⌝ ∗ ∃ W, owes (d : Thread nD τ) (debt d (bits Due.code δ)) W)

/-- Levels: every TensorCore's cells have one, its role's. -/
def L (g : GSem nD τ sig) : Finset Unit := if g.1.2 = .tc then {()} else ∅
/-- A cell's level is its role's. -/
def lv (g : GSem nD τ sig) (_ : Unit) : ℕ := (keyOf g.2).level (yF g.1.1)

/-- Other threads' cells have no level. -/
theorem L_of_ne (g : GSem nD τ sig) (h : g.1.2 ≠ .tc) : L g = ∅ := if_neg h
/-- A TensorCore's cells have one level. -/
theorem L_tc (d : Dev nD) (sm : SemLoc sig) : L ((d : Thread nD τ), sm) = {()} := if_pos rfl
/-- The level of a cell by device and role. -/
theorem lv_cell (d : Dev nD) (k : Key) (u : Unit) : lv (cell d k) u = k.level (yF d) := by
  show (keyOf k.sem).level (yF d) = _; rw [keyOf_sem]

/-- A cell that is owed to is the cell of one of the debts. -/
theorem debt_pos {d : Dev nD} {S : Finset Due} {g : GSem nD τ sig} {ι : Unit} (h : 0 < debt d S g ι) :
    ∃ u ∈ S, g = cell (u.dev d) u.key := by
  by_contra hn
  have : debt d S g ι = 0 := by
    unfold debt
    rw [Finset.sum_apply, Finsupp.finset_sum_apply]
    refine Finset.sum_eq_zero fun u hu => ?_
    rw [tallyAt_apply, if_neg]
    rintro ⟨e, _⟩
    exact hn ⟨u, hu, e⟩
  omega

/-- A device may wait on a cell below all it owes. -/
theorem mayWait (d : Dev nD) (k : Key) (S : Finset Due) (hu : ∀ u ∈ S, u.used (yF d) = true)
    (h : ∀ u ∈ S, k.level (yF d) < u.level (yF d)) :
    (levAts L lv : sProp 𝕄) ⊢ MayWait (d : Thread nD τ) k.sem () (debt d S) :=
  MayOwe.of_cut (L := L) (lev := lv) (k.level (yF d)) (fun p hp => by rw [Finset.mem_singleton.mp hp, L_tc]; exact Finset.mem_singleton_self _)
    (fun g u hg => by obtain ⟨v, _, rfl⟩ := debt_pos hg; exact Finset.mem_singleton_self _)
    (fun p hp => by rw [Finset.mem_singleton.mp hp]; exact le_of_eq (lv_cell d k ()))
    (fun g u hg => by
      obtain ⟨v, hv, rfl⟩ := debt_pos hg
      rw [lv_cell, level_due d v (hu v hv)]; exact h v hv)

/-- All debts lie above the level waited for. -/
theorem above_iff {y : Fin 4} {δ w : ℕ} (h : above y δ (some w) = true) : ∀ u ∈ bits Due.code δ, w < u.level y := by
  intro u hu
  have := List.all_eq_true.mp h u u.mem_all
  rw [mem_bits] at hu
  simpa [hu] using this

/-- Paying a debt. -/
theorem debt_pay (d : Dev nD) {S : Finset Due} {u : Due} (h : u ∈ S) :
    debt d S = debt d (S.erase u) + tallyAt (cell (u.dev d) u.key) () u.key.amt := by
  unfold debt; exact (Finset.sum_erase_add S _ h).symm

/-! ## What is known throughout -/

/-- The roles whose cells have duties' invariants: all but the local copies'. -/
def ringKeys : List Key := .bar :: dmaKeys.drop 10

theorem ringKeys_nodup : ringKeys.Nodup := by decide +kernel

def ringCells : Finset (Dev nD × Key) := Finset.univ ×ˢ ringKeys.toFinset

/-- A pair of a device and a role with duties is among the pairs. -/
theorem mem_ring {d : Dev nD} {k : Key} (h : k ∈ ringKeys) : (d, k) ∈ ringCells :=
  Finset.mem_product.mpr ⟨Finset.mem_univ _, List.mem_toFinset.mpr h⟩
theorem ring_bar : Key.bar ∈ ringKeys := by decide +kernel
theorem ring_ys (q : Fin 2) (s : Fin 4) (c : Fin 8) : Key.ys q s c ∈ ringKeys := by revert q s c; decide +kernel
theorem ring_yr (s : Fin 4) (c : Fin 8) : Key.yr s c ∈ ringKeys := by revert s c; decide +kernel
theorem ring_xs (s : Fin 4) (c : Fin 8) : Key.xs s c ∈ ringKeys := by revert s c; decide +kernel
theorem ring_xr (s : Fin 4) (c : Fin 8) : Key.xr s c ∈ ringKeys := by revert s c; decide +kernel

/-- The cells' invariants, that every cell is in its first round, and the levels. -/
def known (K : Dev nD × Key → ℕ) : sProp 𝕄 :=
  iprop((bigSep ringCells fun dk => cellInv ER (Rd m) (K dk) (cell dk.1 dk.2)) ∗ (bigSep ringCells fun dk => reached ER (cell dk.1 dk.2) 0) ∗ levAts L lv)

instance known_persistent (K : Dev nD × Key → ℕ) : BI.Persistent (known m K) := by unfold known; infer_instance

/-- A cell's invariant is known. -/
theorem known_inv (K : Dev nD × Key → ℕ) (d : Dev nD) {k : Key} (h : k ∈ ringKeys) : known m K ⊢ cellInv ER (Rd m) (K (d, k)) (cell d k) := by
  have e : (bigSep ringCells fun dk => (cellInv ER (Rd m) (K dk) (cell dk.1 dk.2) : sProp 𝕄)) ⊢ cellInv ER (Rd m) (K (d, k)) (cell d k) :=
    bigSep_elim (mem_ring h)
  unfold known
  iintro ⟨H, -, -⟩
  iapply e; iexact H
/-- That a cell is in its first round is known. -/
theorem known_reached (K : Dev nD × Key → ℕ) (d : Dev nD) {k : Key} (h : k ∈ ringKeys) : known m K ⊢ reached ER (cell d k) 0 := by
  have e : (bigSep ringCells fun dk => (reached ER (cell dk.1 dk.2) 0 : sProp 𝕄)) ⊢ reached ER (cell d k) 0 := bigSep_elim (mem_ring h)
  unfold known
  iintro ⟨-, H, -⟩
  iapply e; iexact H
/-- The levels are known. -/
theorem known_levels (K : Dev nD × Key → ℕ) : known m K ⊢ (levAts L lv : sProp 𝕄) := by
  unfold known
  iintro ⟨-, -, H⟩; iexact H

end Cert.Gather
end
-- ==== Proof.Copies.lean ====
/-
  What the kernel's copies do to the contents: a chunk copied to a chunk, a chunk of the block loaded into the stage, a
  chunk of the stage rounded into the gathering buffer.
-/
module

public import proofs.«01_k».proof.Proof.Meaning

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- The offset of a chunk, as a table has it. -/
abbrev at' (d : Dev nD) (own : Bool) (s : Fin 4) (c : Fin 8) : {o : Fin 2 → ℕ // o = cOff d own s c} := ⟨cOff d own s c, rfl⟩
abbrev xat (d : Dev nD) (own : Bool) (c : Fin 8) : {o : Fin 2 → ℕ // o = xOff d own c} := ⟨xOff d own c, rfl⟩

/-- The view of a chunk of the gathering buffer covers the chunk. -/
theorem cV_set (d : Dev nD) (own : Bool) (s : Fin 4) (c : Fin 8) : (cV (at' d own s c)).view.set = cSet d (own, s, c) :=
  View.set_slice_whole cc0_scratch0 (cRect (at' d own s c))
/-- The view of a chunk of the result covers the chunk. -/
theorem oV_set (d : Dev nD) (own : Bool) (s : Fin 4) (c : Fin 8) : (oV (at' d own s c)).view.set = cSet d (own, s, c) :=
  View.set_slice_whole main_v1 (cRect (at' d own s c))
/-- The view of a chunk of the block covers the chunk. -/
theorem xV_set (d : Dev nD) (own : Bool) (c : Fin 8) : (xV (xat d own c)).view.set = xSet d (own, c) :=
  View.set_slice_whole main_arg0 (xRect (xat d own c))
/-- The view of a slot of the stage covers the slot. -/
theorem sV_set (i : Fin 2) : (sV i).view.set = sSet i :=
  (View.set_reshape _ _).trans (View.set_slice_whole cc0_scratch1 (sRect i))

/-- Elements of a chunk are the chunk's indices placed. -/
theorem exists_emb {d : Dev nD} {own : Bool} {s : Fin 4} {c : Fin 8} {i : S16384x1024.Idx} (h : i ∈ cSet d (own, s, c)) :
    ∃ x : S256x1024.Idx, (cRect (at' d own s c)).emb x = i := by
  rw [← cV_set] at h
  obtain ⟨x, -, e⟩ := Finset.mem_map.mp h
  exact ⟨x, e⟩

/-- Where an index of a chunk lies in the gathered array. -/
theorem emb_val (d : Dev nD) (own : Bool) (s : Fin 4) (c : Fin 8) (x : S256x1024.Idx) (a : Fin 2) :
    (((cRect (at' d own s c)).emb x) a).val = cOff d own s c a + (x a).val :=
  ValueKit.rect_emb_unit_val (s := S16384x1024) _ _ _ x a
/-- Where an index of a chunk lies in the block. -/
theorem xemb_val (d : Dev nD) (own : Bool) (c : Fin 8) (x : S256x1024.Idx) (a : Fin 2) :
    (((xRect (xat d own c)).emb x) a).val = xOff d own c a + (x a).val :=
  ValueKit.rect_emb_unit_val (s := S4096x1024) _ _ _ x a

/-- An index of a chunk lies in the chunk. -/
theorem emb_mem (d : Dev nD) (own : Bool) (s : Fin 4) (c : Fin 8) (x : S256x1024.Idx) :
    (cRect (at' d own s c)).emb x ∈ cSet d (own, s, c) := by
  rw [← cV_set]; exact Finset.mem_map.mpr ⟨x, Finset.mem_univ _, rfl⟩

/-- A chunk written over a chunk at the same place. -/
theorem copy_in (d : Dev nD) (own : Bool) (s : Fin 4) (c : Fin 8) (f g : GV F) {i : S16384x1024.Idx} (h : i ∈ cSet d (own, s, c)) :
    (cV (at' d own s c)).view.write (Elt F) f ((cV (at' d own s c)).view.read (Elt F) g) Finset.univ i = g i := by
  obtain ⟨x, rfl⟩ := exists_emb h
  exact View.write_emb_of_mem (v := (cV (at' d own s c)).view) f _ (Finset.mem_univ x)
/-- A chunk copied to the result has there what it had in the gathering buffer. -/
theorem copy_out (d : Dev nD) (own : Bool) (s : Fin 4) (c : Fin 8) (f g : GV F) {i : S16384x1024.Idx} (h : i ∈ cSet d (own, s, c)) :
    (oV (at' d own s c)).view.write (Elt F) f ((cV (at' d own s c)).view.read (Elt F) g) Finset.univ i = g i := by
  obtain ⟨x, rfl⟩ := exists_emb h
  exact View.write_emb_of_mem (v := (oV (at' d own s c)).view) f _ (Finset.mem_univ x)

/-- A chunk's place in its block. -/
theorem locIdx_emb (d : Dev nD) (own : Bool) (c : Fin 8) (x : S256x1024.Idx) :
    locIdx ((cRect (at' d own (yF d) c)).emb x) = (xRect (xat d own c)).emb x := by
  have hh := halfOf_le d own
  have hc := c.isLt
  have h0 : (x 0).val < 256 := (x 0).isLt
  have h1 : (x 1).val < 1024 := (x 1).isLt
  funext a
  apply Fin.ext
  rw [xemb_val]
  show (((cRect (at' d own (yF d) c)).emb x) a).val % S4096x1024.size a = _
  rw [emb_val]
  fin_cases a
  · show (4096 * (yF d).val + 2048 * halfOf d own + 256 * c.val + (x 0).val) % 4096 = 2048 * halfOf d own + 256 * c.val + (x 0).val
    omega
  · show (0 + (x 1).val) % 1024 = 0 + (x 1).val
    omega

/-- Rounding a loaded chunk into its place gives what the device ends with there. -/
theorem cast_in (d : Dev nD) (own : Bool) (c : Fin 8) (f : GV F) (g : FVec F S2x256x1024 .f32) (hg : Loaded m d own c g)
    {i : S16384x1024.Idx} (h : i ∈ cSet d (own, yF d, c)) :
    (cM.access (cRect (at' d own (yF d) c))).write (Elt F) f
      (rounded ((sM.access (sRect (slot c))).read (Elt F) g)) Finset.univ i = G m d i := by
  obtain ⟨x, rfl⟩ := exists_emb h
  have hx := congrFun hg x
  refine (View.write_emb_of_mem (v := cM.access (cRect (at' d own (yF d) c))) f _ (Finset.mem_univ x)).trans ?_
  have e1 : rounded (F := F) ((sM.access (sRect (slot c))).read (Elt F) g) x
      = FloatOps.truncf .bf16 bitsLt_bf16_f32 ((sV (slot c)).view.read (Elt F) g x) := by
    unfold rounded
    rw [shapeCast_self]
    rfl
  have e2 : G m d ((cRect (at' d own (yF d) c)).emb x)
      = FloatOps.truncf .bf16 bitsLt_bf16_f32 ((xV (xat d own c)).view.read (Elt F) (xval m d) x) := by
    unfold G
    rw [src_own d own c h, locIdx_emb]
    rfl
  exact (e1.trans (congrArg _ hx)).trans e2.symm

end Cert.Gather
end
-- ==== Proof.Steps.lean ====
/-
  The kernel's operations one by one: each turns the pieces it takes into the pieces it puts.
-/
module

public import proofs.«01_k».proof.Proof.Copies

@[expose] public section

set_option maxRecDepth 100000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

abbrev 𝒱₀ : Variants := Variants.none

/-- A device's program `p` can be run, and ends in `Q`. -/
abbrev Runs (d : Dev nD) (p : KProg F) (Q : PUnit → sProp 𝕄) : sProp 𝕄 :=
  wp frame (wpE (defs₀ (F := F)) 𝒱₀ (d : Thread nD τ) none) Set.univ p Q

/-! ## Debts and the cells' rules -/

/-- What is left of the debts after paying one of them. -/
theorem owing_pay (d : Dev nD) (u : Due) (δ δ' : ℕ) (h : takeAll Due.code [u] δ = some δ') :
    u ∈ bits Due.code δ ∧ bits Due.code δ' = (bits Due.code δ).erase u := by
  unfold takeAll at h
  by_cases hu : δ.testBit u.code = true
  · rw [if_pos hu] at h
    have : δ ^^^ 2 ^ u.code = δ' := Option.some.inj h
    exact ⟨mem_bits.mpr hu, by rw [← this, bits_take Due.code_inj hu]⟩
  · rw [if_neg hu] at h; cases h

/-- Waiting for all of a cell's duties. -/
theorem wait_cell (d : Dev nD) (k : Key) (hk : k ∈ ringKeys) {w : TpuEff nD τ sig (Elt F) Λ₀ .tc PUnit} {n : ℕ}
    (hw : ∀ R : PUnit → sProp 𝕄, wpE (defs₀ (F := F)) 𝒱₀ (d : Thread nD τ) none Set.univ w R = waitSpec (d : Thread nD τ) Set.univ k.sem n R)
    (hn : n = (k.duties (yF d)).card * k.amt) (δ : ℕ) (habove : above (yF d) δ (some (k.level (yF d))) = true)
    (kont : PUnit → KProg F) (Q : PUnit → sProp 𝕄) :
    iprop(known m K ∗ (cred (tallyAt (cell d k) () n) ∗ atPos ER (cell d k) 0 ∅ 0) ∗ owing d δ)
      ⊢ iprop(((owing d δ ∗ shut m (cell d k) ∗ bigSep (k.duties (yF d)) fun t => pay m d t k) -∗ Runs d (kont ⟨⟩) Q)
          -∗ Runs d (.op w kont) Q) := by
  unfold owing
  iintro ⟨#HK, ⟨Hc, Hp⟩, ⟨%hu, %W, HO⟩⟩ Hk
  have hlow : ∀ u ∈ bits Due.code δ, k.level (yF d) < u.level (yF d) := above_iff habove
  have hmay : known (F := F) m K ⊢ MayWait (d : Thread nD τ) k.sem () (debt d (bits Due.code δ)) :=
    (known_levels (F := F) m K).trans (mayWait d k (bits Due.code δ) hu hlow)
  iapply (Rounds.wp_wait_rest_token 𝒱₀ ER (Rd (F := F) m) (d : Thread nD τ) none (κ := K (d, k)) hw (Set.mem_univ _) ()
    (O := debt d (bits Due.code δ)) (W := W) (R := 0) (m := 0) (T := ∅)
    (by rw [Nat.zero_add, hn]; exact (expect_cell (F := F) m d k).symm)) $$ [Hc HO Hp]
  · isplitr; · iapply (known_inv (F := F) m K d hk); iexact HK
    isplitl [Hc]; · iexact Hc
    isplitl [HO]; · iexact HO
    isplitr; · iapply hmay; iexact HK
    iexact Hp
  iintro ⟨HO, Hp, -, Hpay⟩
  ihave Hpay := (Entails.of_eq (rest_cell (F := F) m d k)) $$ Hpay
  iapply Hk
  isplitl [HO]
  · isplitr; · (ipureintro; exact hu)
    iexists _; iexact HO
  isplitl [Hp]
  · unfold shut
    iexists 1; isplitr; · (ipureintro; exact duties_later (F := F) m _)
    iexact Hp
  iexact Hpay

/-- A chunk's transfer counts the units of its duty. -/
theorem amount_chunk (d : Dev nD) (own : Bool) (s : Fin 4) (c : Fin 8) (b : DmaSem sig) :
    (cV (at' d own s c)).view.amount (.dma b) = N := rfl

/-- The transfer of a chunk, by what its two cells' duties are made from. -/
theorem wp_send_chunk (d n : Dev nD) (s : Fin 4) (c : Fin 8) (a b : DmaSem sig) (κ₁ κ₂ : ℕ) (q : PosShare TreeShare) (f g : GV F)
    (O₀ O : CellTallies nD τ sig Unit) (W : Waits sig Unit)
    (d₁ : (0 : Fin 3) ∈ (Rd (F := F) m).duties ((d : Thread nD τ), SemLoc.dma a) 0)
    (d₂ : (0 : Fin 3) ∈ (Rd (F := F) m).duties ((n : Thread nD τ), SemLoc.dma b) 0)
    (a₁ : (Rd (F := F) m).amount ((d : Thread nD τ), SemLoc.dma a) 0 0 = N)
    (a₂ : (Rd (F := F) m).amount ((n : Thread nD τ), SemLoc.dma b) 0 0 = N)
    (hO : O₀ = O + tallyAt ((n : Thread nD τ), SemLoc.dma b) () N)
    (w₁ : (((cV (at' d true s c)).view.loc (d : Thread nD τ)) ↦[(cV (at' d true s c)).view.set]{q} g : sProp 𝕄)
      ⊢ (Rd (F := F) m).payload ((d : Thread nD τ), SemLoc.dma a) 0 0)
    (w₂ : (((cV (at' d true s c)).view.loc (n : Thread nD τ)) ↦[(cV (at' d true s c)).view.set]{fullShare}
        ((cV (at' d true s c)).view.write (Elt F) f ((cV (at' d true s c)).view.read (Elt F) g) Finset.univ) : sProp 𝕄)
      ⊢ (Rd (F := F) m).payload ((n : Thread nD τ), SemLoc.dma b) 0 0)
    {hsrc : (cV (at' d true s c)).view.WordExact} {hdst : (cV (at' d true s c)).view.WordExact}
    {hsc : (cV (at' d true s c) : Memref sig (Dev.tc n : Thread nD τ).2.kind .vmem S256x1024 .bf16).view.ref.isScScratch = false}
    {hsem : DmaTarget.Typed .vmem (.dma b) (.remote (Dev.tc n : Thread nD τ) (cV (at' d true s c)) (.dma a) hsc)}
    (kont : PUnit → KProg F) (Q : PUnit → sProp 𝕄) :
    iprop(cellInv ER (Rd m) κ₁ ((d : Thread nD τ), SemLoc.dma a) ∗ cellInv ER (Rd m) κ₂ ((n : Thread nD τ), SemLoc.dma b)
        ∗ (((cV (at' d true s c)).view.loc (d : Thread nD τ)) ↦[(cV (at' d true s c)).view.set]{q} g)
        ∗ (((cV (at' d true s c)).view.loc (n : Thread nD τ)) ↦[(cV (at' d true s c)).view.set]{fullShare} f)
        ∗ owes (d : Thread nD τ) O₀ W
        ∗ dutyTok ER ((d : Thread nD τ), SemLoc.dma a) 0 0 ∗ reached ER ((d : Thread nD τ), SemLoc.dma a) 0
        ∗ dutyTok ER ((n : Thread nD τ), SemLoc.dma b) 0 0 ∗ reached ER ((n : Thread nD τ), SemLoc.dma b) 0)
      ⊢ iprop(((cred (tallyAt ((d : Thread nD τ), SemLoc.dma a) () N) ∗ owes (d : Thread nD τ) O W) -∗ Runs d (kont ⟨⟩) Q)
          -∗ Runs d (.op (.enqueueDma (cV (at' d true s c)) (.remote (Dev.tc n : Thread nD τ) (cV (at' d true s c)) (.dma a) hsc) (.dma b) hsrc hdst hsem) kont) Q) :=
  Rounds.wp_send_pointsTo 𝒱₀ ER (Rd (F := F) m) (d : Thread nD τ) none (c' := (n : Thread nD τ))
    (src := cV (at' d true s c)) (dst := cV (at' d true s c)) (sS := .dma a) (sem := .dma b) (κ₁ := κ₁) (κ₂ := κ₂)
    (r₁ := 0) (r₂ := 0) (d₁ := 0) (d₂ := 0) (fs := g) (fd := f) (q := q) d₁ d₂ () () N (amount_chunk d true s c b) a₁ a₂
    O hO (W := W) w₁ w₂

/-- Sending a chunk to a device `n` that has room for it. -/
theorem send_cell (d n : Dev nD) (s : Fin 4) (c : Fin 8) (p : Fin 4) (ks kr : Key) (u : Due) {a b : DmaSem sig}
    (ha : ks.sem = .dma a) (hb : kr.sem = .dma b) (hks : ks ∈ ringKeys) (hkr : kr ∈ ringKeys)
    (hu : u.dev d = n ∧ u.key = kr) (h₁ : (0 : Fin 3) ∈ ks.duties (yF d)) (h₂ : (0 : Fin 3) ∈ kr.duties (yF n))
    (ea : ks.amt = N) (eb : kr.amt = N)
    (hp₁ : cPt d d (true, s, c) (qsh p) (G m d) = pay m d 0 ks) (hp₂ : cPt n d (true, s, c) fullShare (G m d) = pay m n 0 kr)
    (δ δ' : ℕ) (hδ : takeAll Due.code [u] δ = some δ')
    (kont : KProg F) (Q : PUnit → sProp 𝕄) :
    iprop(known m K ∗ (cPt d d (true, s, c) (qsh p) (G m d) ∗ (∃ f : GV F, cPt n d (true, s, c) fullShare f)
          ∗ (dutyTok ER (cell d ks) 0 0 ∗ dutyTok ER (cell n kr) 0 0 ∗ atPos ER (cell d ks) 0 ∅ 0)) ∗ owing d δ)
      ⊢ iprop((((cred (tallyAt (cell d ks) () N) ∗ atPos ER (cell d ks) 0 ∅ 0) ∗ owing d δ') -∗ Runs d kont Q)
          -∗ Runs d (sendTo (at' d true s c) n a b >>= fun _ => kont) Q) := by
  simp only [sendTo, Prog.lift, Prog.bind_op, Prog.bind_ret, Prog.pure_eq_ret]
  obtain ⟨hmem, herase⟩ := owing_pay d u δ δ' hδ
  have e₁ : cell d ks = ((d : Thread nD τ), SemLoc.dma a) := congrArg (Prod.mk _) ha
  have e₂ : cell n kr = ((n : Thread nD τ), SemLoc.dma b) := congrArg (Prod.mk _) hb
  have i₁ := known_inv (F := F) m K d hks
  have i₂ := known_inv (F := F) m K n hkr
  have j₁ := known_reached (F := F) m K d hks
  have j₂ := known_reached (F := F) m K n hkr
  have d₁ : (0 : Fin 3) ∈ (Rd (F := F) m).duties (cell d ks) 0 := by rw [duties_cell]; exact h₁
  have d₂ : (0 : Fin 3) ∈ (Rd (F := F) m).duties (cell n kr) 0 := by rw [duties_cell]; exact h₂
  have a₁ := (amount_cell (F := F) m d ks 0 0).trans ea
  have a₂ := (amount_cell (F := F) m n kr 0 0).trans eb
  have p₁ := payload_cell (F := F) m d ks 0 0
  have p₂ := payload_cell (F := F) m n kr 0 0
  have o₁ : debt d (bits Due.code δ) = debt d (bits Due.code δ') + tallyAt (cell n kr) () N := by
    rw [herase, debt_pay d hmem, hu.1, hu.2, eb]
  rw [e₁] at i₁ j₁ d₁ a₁ p₁
  rw [e₂] at i₂ j₂ d₂ a₂ p₂ o₁
  rw [e₁, e₂]
  have w₁ : (((cV (at' d true s c)).view.loc (d : Thread nD τ)) ↦[(cV (at' d true s c)).view.set]{qsh p} (G m d) : sProp 𝕄)
      ⊢ (Rd (F := F) m).payload ((d : Thread nD τ), SemLoc.dma a) 0 0 := by
    rw [p₁, ← hp₁, cV_set]; exact BI.Entails.refl _
  have w₂ (f : GV F) : (((cV (at' d true s c)).view.loc (n : Thread nD τ)) ↦[(cV (at' d true s c)).view.set]{fullShare}
        ((cV (at' d true s c)).view.write (Elt F) f ((cV (at' d true s c)).view.read (Elt F) (G m d)) Finset.univ) : sProp 𝕄)
      ⊢ (Rd (F := F) m).payload ((n : Thread nD τ), SemLoc.dma b) 0 0 := by
    rw [p₂, ← hp₂, cV_set]
    exact Entails.of_eq (pointsTo_congr fun i hi => copy_in d true s c f (G m d) hi)
  unfold owing
  iintro ⟨#HK, ⟨Hs, ⟨%f, Hd⟩, ⟨Ht₁, Ht₂, Hp⟩⟩, ⟨%hused, %W, HO⟩⟩ Hk
  iapply (wp_send_chunk m d n s c a b (K (d, ks)) (K (n, kr)) (qsh p) f (G m d) _ (debt d (bits Due.code δ')) W d₁ d₂ a₁ a₂ o₁ w₁ (w₂ f)
    (fun _ => kont) Q) $$ [Hs Hd HO Ht₁ Ht₂]
  · isplitr; · iapply i₁; iexact HK
    isplitr; · iapply i₂; iexact HK
    isplitl [Hs]; · rw [cV_set]; unfold cPt; iexact Hs
    isplitl [Hd]; · rw [cV_set]; unfold cPt; iexact Hd
    isplitl [HO]; · iexact HO
    isplitl [Ht₁]; · iexact Ht₁
    isplitr; · iapply j₁; iexact HK
    isplitl [Ht₂]; · iexact Ht₂
    iapply j₂; iexact HK
  iintro ⟨Hc, HO⟩
  iapply Hk
  isplitl [Hc Hp]
  · isplitl [Hc]; · iexact Hc
    iexact Hp
  isplitr
  · ipureintro; rw [herase]; exact fun v hv => hused v (Finset.mem_of_mem_erase hv)
  iexists W; iexact HO

end Cert.Gather
end
-- ==== Proof.Each.lean ====
/-
  Every operation of the kernel turns the pieces it takes into the pieces it puts.
-/
module

public import proofs.«01_k».proof.Proof.Steps

@[expose] public section

set_option maxRecDepth 100000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

/-- An operation does its part: from the pieces it takes and what is owed to the pieces it puts and what is left owed. -/
abbrev Does (d : Dev nD) (o : Op) (δ δ' : ℕ) : Prop :=
  ∀ (k : KProg F) (Q : PUnit → sProp 𝕄),
    iprop(known m K ∗ each (o.takes (yF d)) (mean m d) ∗ owing d δ)
      ⊢ iprop(((each (o.puts (yF d)) (mean m d) ∗ owing d δ') -∗ Runs d k Q) -∗ Runs d (o.prog (offs d (yF d)) >>= fun _ => k) Q)

/-! ## Quarters -/

/-- Elements of a buffer at the full share are their four quarters. -/
theorem pt_quarters {ℓ : Loc nD τ sig} (I : Finset (Idx ℓ)) (f : Buf (Elt F) ℓ) :
    (ℓ ↦[I]{fullShare} f : sProp 𝕄) = each f4 fun p => ℓ ↦[I]{qsh p} f :=
  (ShareLeaves.pointsTo_leaves I f 2 fullShare).trans
    (each_eq_univ (I := Fin (2 ^ 2)) (l := f4) (by decide) mem_f4 fun p => (ℓ ↦[I]{ShareLeaves.leaf 2 fullShare p} f : sProp 𝕄)).symm

/-- A chunk is its four quarter shares. -/
theorem cPt_quarters (n d : Dev nD) (i : Bool × Fin 4 × Fin 8) (f : GV F) :
    (cPt n d i fullShare f : sProp 𝕄) = each f4 fun p => cPt n d i (qsh p) f :=
  pt_quarters (ℓ := cLoc n) (cSet d i) f

/-- A chunk at its final contents is its four quarter shares. -/
theorem each_quarters (d : Dev nD) (own : Bool) (s : Fin 4) (c : Fin 8) :
    each (quarters own s c) (mean m d) = (cPt d d (own, s, c) fullShare (G m d) : sProp 𝕄) := by
  rw [cPt_quarters]; exact each_map (fun p => Atom.cP p own s c) f4 (mean m d)

/-! ## The waits and the sends -/

section Rings

variable (d : Dev nD) (δ δ' : ℕ)

/-- Waiting for a chunk, at a cell with one duty, that hands over `P`. -/
theorem wait_chunk (k : Key) (hk : k ∈ ringKeys) {a : DmaSem sig} (ha : k.sem = .dma a) (hd : k.duties (yF d) = {0}) (hN : k.amt = N)
    (habove : above (yF d) δ (some (k.level (yF d))) = true) (own : Bool) (s : Fin 4) (c : Fin 8)
    (kont : KProg F) (Q : PUnit → sProp 𝕄) :
    iprop(known m K ∗ (cred (tallyAt (cell d k) () N) ∗ atPos ER (cell d k) 0 ∅ 0) ∗ owing d δ)
      ⊢ iprop((((shut m (cell d k) ∗ pay m d 0 k) ∗ owing d δ) -∗ Runs d kont Q)
          -∗ Runs d (waitOn (at' d own s c) a >>= fun _ => kont) Q) := by
  have h := wait_cell m K d k hk (w := .waitDma2 a (cV (at' d own s c)) (cV (at' d own s c))
      ((Memref.isWhole_whole cc0_scratch0).wordExact_slice rfl _ (cRect_words (at' d own s c)))
      ((Memref.isWhole_whole cc0_scratch0).wordExact_slice rfl _ (cRect_words (at' d own s c)))) (n := N)
    (by rw [ha]; exact wpE_waitDma2_eq 𝒱₀ (d : Thread nD τ) none Set.univ) (by rw [hd, hN]; exact (one_mul N).symm) δ habove (fun _ => kont) Q
  rw [hd, bigSep_singleton] at h
  simp only [waitOn, Prog.lift, Prog.bind_op, Prog.bind_ret, Prog.pure_eq_ret]
  iintro H Hk
  iapply h $$ H
  iintro ⟨HO, Hz, Hp⟩
  iapply Hk
  isplitr [HO]
  · isplitl [Hz]; · iexact Hz
    iexact Hp
  iexact HO

/-- Waiting for a chunk along `y`. -/
theorem does_ywait (s : Fin 4) (c : Fin 8) (hf : (Op.ywait s c).fits (yF d) = true)
    (ha : above (yF d) δ ((Op.ywait s c).level (yF d)) = true) : Does m K d (.ywait s c) δ δ := by
  intro k Q
  have hs : s ≠ yF d := by simpa [Op.fits] using hf
  have h := wait_chunk m K d δ (.yr s c) (ring_yr s c) rfl (if_neg hs) rfl ha true s c k Q
  rw [show pay m d 0 (.yr s c) = cPt d d (true, s, c) fullShare (G m d) from rfl] at h
  simp only [Op.takes, Op.puts, each_cons, each_nil, side_emp, mean, each_quarters]
  exact h

/-- Waiting for a chunk from the partner. -/
theorem does_xwait (s : Fin 4) (c : Fin 8) (hf : (Op.xwait s c).fits (yF d) = true)
    (ha : above (yF d) δ ((Op.xwait s c).level (yF d)) = true) : Does m K d (.xwait s c) δ δ := by
  intro k Q
  have hs : s ≠ yF d := by simpa [Op.fits] using hf
  have h := wait_chunk m K d δ (.xr s c) (ring_xr s c) rfl (if_neg hs) rfl ha false s c k Q
  rw [show pay m d 0 (.xr s c) = cPt d d (false, s, c) fullShare (G m d) from rfl] at h
  simp only [Op.takes, Op.puts, each_cons, each_nil, side_emp, mean, each_quarters]
  exact h

/-- Waiting for the end of a send along `y`. -/
theorem does_yswait (q : Fin 2) (s : Fin 4) (c : Fin 8) (hf : (Op.yswait q s c).fits (yF d) = true)
    (ha : above (yF d) δ ((Op.yswait q s c).level (yF d)) = true) : Does m K d (.yswait q s c) δ δ := by
  intro k Q
  have h := wait_chunk m K d δ (.ys q s c) (ring_ys q s c) rfl (if_pos hf) rfl ha true s c k Q
  rw [show pay m d 0 (.ys q s c) = cPt d d (true, s, c) (qsh (yShare q)) (G m d) from rfl] at h
  simp only [Op.takes, Op.puts, each_cons, each_nil, side_emp, mean]
  exact h

/-- Waiting for the end of a send to the partner. -/
theorem does_xswait (s : Fin 4) (c : Fin 8) (hf : (Op.xswait s c).fits (yF d) = true)
    (ha : above (yF d) δ ((Op.xswait s c).level (yF d)) = true) : Does m K d (.xswait s c) δ δ := by
  intro k Q
  have hs : s ≠ yF d := by simpa [Op.fits] using hf
  have h := wait_chunk m K d δ (.xs s c) (ring_xs s c) rfl (if_neg hs) rfl ha true s c k Q
  rw [show pay m d 0 (.xs s c) = cPt d d (true, s, c) (qsh 2) (G m d) from rfl] at h
  simp only [Op.takes, Op.puts, each_cons, each_nil, side_emp, mean]
  exact h

/-- Sending a chunk along `y`. -/
theorem does_ysend (q : Fin 2) (s : Fin 4) (c : Fin 8) (hf : (Op.ysend q s c).fits (yF d) = true)
    (hδ : takeAll Due.code (Op.ysend q s c).pays δ = some δ') : Does m K d (.ysend q s c) δ δ' := by
  intro k Q
  have hs : sendsTo (yF d) q s = true := hf
  have hp : cPt (nbr d (yq q)) d (true, s, c) fullShare (G m d) = pay m (nbr d (yq q)) 0 (.yr s c) := by
    show cPt (nbr d (yq q)) d (true, s, c) fullShare (G m d) = cPt (nbr d (yq q)) (nbr d (yq q)) (true, s, c) fullShare (G m (nbr d (yq q)))
    unfold cPt
    rw [cSet_along]
    exact pointsTo_congr fun i hi => (G_along m d q s c hs hi).symm
  have h := send_cell m K d (nbr d (yq q)) s c (yShare q) (.ys q s c) (.yr s c) (.y q s c) rfl rfl (ring_ys q s c) (ring_yr s c)
    ⟨rfl, rfl⟩ (by show 0 ∈ (if sendsTo (yF d) q s = true then ({0} : Finset (Fin 3)) else ∅); rw [if_pos hs]; exact Finset.mem_singleton_self _)
    (by show 0 ∈ (if s = yF (nbr d (yq q)) then (∅ : Finset (Fin 3)) else {0}); rw [if_neg (yq_ne d q s hs)]; exact Finset.mem_singleton_self _)
    rfl rfl rfl hp δ δ' hδ k Q
  simp only [Op.takes, Op.puts, each_cons, each_nil, side_emp, mean, room]
  exact h

/-- Sending a chunk to the partner. -/
theorem does_xsend (s : Fin 4) (c : Fin 8) (hf : (Op.xsend s c).fits (yF d) = true)
    (hδ : takeAll Due.code (Op.xsend s c).pays δ = some δ') : Does m K d (.xsend s c) δ δ' := by
  intro k Q
  have hs : s ≠ yF d := by simpa [Op.fits] using hf
  have hp : cPt (nbr d 0) d (true, s, c) fullShare (G m d) = pay m (nbr d 0) 0 (.xr s c) := by
    show cPt (nbr d 0) d (true, s, c) fullShare (G m d) = cPt (nbr d 0) (nbr d 0) (false, s, c) fullShare (G m (nbr d 0))
    unfold cPt
    rw [show cSet (nbr d 0) (false, s, c) = cSet d (true, s, c) from cSet_partner d true s c]
    exact pointsTo_congr fun i hi => (G_partner m d s c hs hi).symm
  have h := send_cell m K d (nbr d 0) s c 2 (.xs s c) (.xr s c) (.x s c) rfl rfl (ring_xs s c) (ring_xr s c)
    ⟨rfl, rfl⟩ (by show 0 ∈ (if s = yF d then (∅ : Finset (Fin 3)) else {0}); rw [if_neg hs]; exact Finset.mem_singleton_self _)
    (by show 0 ∈ (if s = yF (nbr d 0) then (∅ : Finset (Fin 3)) else {0}); rw [yF_partner, if_neg hs]; exact Finset.mem_singleton_self _)
    rfl rfl rfl hp δ δ' hδ k Q
  simp only [Op.takes, Op.puts, each_cons, each_nil, side_emp, mean, room]
  exact h

/-! ## The barrier -/

/-- What a device opens to a neighbour is what the neighbour gets from it. -/
theorem opened_room (q : Fin 3) (hq : q ∈ nbrs (yF d)) :
    each ((opened (yF d) q).map fun i => Atom.cR i.1 i.2.1 i.2.2) (mean m d) = (pay m (nbr d q) (opp q) .bar : sProp 𝕄) := by
  have hn := nbr_opp d q hq
  show _ = each (received (yF (nbr d q)) (opp q)) (room (nbr d q))
  match q, hq, hn with
  | 0, _, hn =>
    show each (((places.filter fun i => i.1 ≠ yF d).map fun i => (false, i.1, i.2)).map _) _
      = each ((places.filter fun i => i.1 ≠ yF (nbr d 0)).map fun i => Atom.pR i.1 i.2) _
    rw [yF_partner, each_map, each_map, each_map]
    refine each_congr fun i _ => ?_
    show iprop(∃ f : GV F, cPt d d (false, i.1, i.2) fullShare f) = iprop(∃ f : GV F, cPt (nbr (nbr d 0) (opp 0)) (nbr d 0) (true, i.1, i.2) fullShare f)
    rw [hn]; unfold cPt
    rw [show cSet (nbr d 0) (true, i.1, i.2) = cSet d (false, i.1, i.2) from cSet_partner d false i.1 i.2]
  | 1, hq, hn =>
    have hy := yF_lower d hq
    have hfilter : (places.filter fun i => i.1 ≤ yF (nbr d 1)) = places.filter fun i => i.1 < yF d :=
      List.filter_congr fun i _ => by simp only [Fin.le_def, Fin.lt_def]; congr 1; apply propext; omega
    show each (((places.filter fun i => i.1 < yF d).map fun i => (true, i.1, i.2)).map _) _
      = each ((places.filter fun i => i.1 ≤ yF (nbr d 1)).map fun i => Atom.nR 1 i.1 i.2) _
    rw [hfilter, each_map, each_map, each_map]
    refine each_congr fun i _ => ?_
    show iprop(∃ f : GV F, cPt d d (true, i.1, i.2) fullShare f) = iprop(∃ f : GV F, cPt (nbr (nbr d 1) (opp 1)) (nbr d 1) (true, i.1, i.2) fullShare f)
    rw [hn]; unfold cPt
    rw [show cSet (nbr d 1) (true, i.1, i.2) = cSet d (true, i.1, i.2) from cSet_along d 0 true i.1 i.2]
  | 2, hq, hn =>
    have hy := yF_upper d hq
    have hfilter : (places.filter fun i => yF (nbr d 2) ≤ i.1) = places.filter fun i => yF d < i.1 :=
      List.filter_congr fun i _ => by simp only [Fin.le_def, Fin.lt_def]; congr 1; apply propext; omega
    show each (((places.filter fun i => yF d < i.1).map fun i => (true, i.1, i.2)).map _) _
      = each ((places.filter fun i => yF (nbr d 2) ≤ i.1).map fun i => Atom.nR 0 i.1 i.2) _
    rw [hfilter, each_map, each_map, each_map]
    refine each_congr fun i _ => ?_
    show iprop(∃ f : GV F, cPt d d (true, i.1, i.2) fullShare f) = iprop(∃ f : GV F, cPt (nbr (nbr d 2) (opp 2)) (nbr d 2) (true, i.1, i.2) fullShare f)
    rw [hn]; unfold cPt
    rw [show cSet (nbr d 2) (true, i.1, i.2) = cSet d (true, i.1, i.2) from cSet_along d 1 true i.1 i.2]

/-- The pieces got at the barrier mean the room got there. -/
theorem received_mean (q : Fin 3) : each (received (yF d) q) (mean m d) = (each (received (yF d) q) (room d) : sProp 𝕄) := by
  refine each_congr fun a ha => ?_
  match q, ha with
  | 0, ha => obtain ⟨i, -, rfl⟩ := List.mem_map.mp ha; rfl
  | 1, ha => obtain ⟨i, -, rfl⟩ := List.mem_map.mp ha; rfl
  | 2, ha => obtain ⟨i, -, rfl⟩ := List.mem_map.mp ha; rfl

/-- Signalling a neighbour. -/
theorem wp_signal_bar (n : Dev nD) (t : Fin 3) (κ : ℕ) (O₀ O : CellTallies nD τ sig Unit) (W : Waits sig Unit)
    (ht : t ∈ (Rd (F := F) m).duties ((n : Thread nD τ), SemLoc.reg baS) 0)
    (ha : (Rd (F := F) m).amount ((n : Thread nD τ), SemLoc.reg baS) 0 t = 1)
    (hO : O₀ = O + tallyAt ((n : Thread nD τ), SemLoc.reg baS) () 1) (kont : KProg F) (Q : PUnit → sProp 𝕄) :
    iprop(cellInv ER (Rd m) κ ((n : Thread nD τ), SemLoc.reg baS) ∗ owes (d : Thread nD τ) O₀ W
        ∗ dutyTok ER ((n : Thread nD τ), SemLoc.reg baS) 0 t ∗ (Rd m).payload ((n : Thread nD τ), SemLoc.reg baS) 0 t
        ∗ reached ER ((n : Thread nD τ), SemLoc.reg baS) 0)
      ⊢ iprop((owes (d : Thread nD τ) O W -∗ Runs d kont Q) -∗ Runs d ((semSignalWord n baS 1#32 : KProg F) >>= fun _ => kont) Q) := by
  have e : ((semSignalWord n baS 1#32 : KProg F) >>= fun _ => kont) = .op (.semSignal (n : Thread nD τ) baS ((1 : ℕ) : ℤ)) fun _ => kont := rfl
  rw [e]
  exact Rounds.wp_signal 𝒱₀ ER (Rd (F := F) m) (d : Thread nD τ) none (dst := (n : Thread nD τ)) (κ := κ) (d := t) (W := W)
    (defs := defs₀ (F := F)) (k := fun _ => kont) (Q := Q) (Es := Set.univ) ht ha () O hO

/-- Signalling a neighbour at the barrier. -/
theorem does_sig (q : Fin 3) (hf : (Op.sig q).fits (yF d) = true)
    (hδ : takeAll Due.code (Op.sig q).pays δ = some δ') : Does m K d (.sig q) δ δ' := by
  intro k Q
  have hq : q ∈ nbrs (yF d) := by simpa [Op.fits] using hf
  obtain ⟨hmem, herase⟩ := owing_pay d (.b q) δ δ' hδ
  have hO : debt d (bits Due.code δ) = debt d (bits Due.code δ') + tallyAt (cell (nbr d q) .bar) () 1 := by
    rw [herase]; exact debt_pay d hmem
  have ht : opp q ∈ (Rd (F := F) m).duties (cell (nbr d q) .bar) 0 := by
    rw [duties_cell]; exact List.mem_toFinset.mpr (opp_mem d q hq)
  have ha := amount_cell (F := F) m (nbr d q) .bar 0 (opp q)
  have hp : (Rd (F := F) m).payload ((nbr d q : Thread nD τ), SemLoc.reg baS) 0 (opp q) = pay m (nbr d q) (opp q) .bar :=
    payload_cell (F := F) m (nbr d q) .bar 0 (opp q)
  have hi := known_inv (F := F) m K (nbr d q) ring_bar
  have hr := known_reached (F := F) m K (nbr d q) ring_bar
  simp only [Op.takes, Op.puts, each_cons, each_nil]
  rw [opened_room m d q hq, ← hp]
  unfold owing
  simp only [mean]
  iintro ⟨#HK, ⟨Ht, Hp⟩, ⟨%hused, %W, HO⟩⟩ Hk
  iapply (wp_signal_bar m d (nbr d q) (opp q) (K (nbr d q, .bar)) _ (debt d (bits Due.code δ')) W ht ha hO k Q) $$ [Ht Hp HO]
  · isplitr; · iapply hi; iexact HK
    isplitl [HO]; · iexact HO
    isplitl [Ht]; · iexact Ht
    isplitl [Hp]; · iexact Hp
    iapply hr; iexact HK
  iintro HO
  iapply Hk
  isplitr; · iempintro
  isplitr
  · ipureintro; rw [herase]; exact fun v hv => hused v (Finset.mem_of_mem_erase hv)
  iexists W; iexact HO

/-- Waiting at the barrier for all neighbours. -/
theorem does_bwait (n : ℕ) (hf : (Op.bwait n).fits (yF d) = true)
    (ha : above (yF d) δ ((Op.bwait n).level (yF d)) = true) : Does m K d (.bwait n) δ δ := by
  intro k Q
  have hn : n = (nbrs (yF d)).length := by simpa [Op.fits] using hf
  subst hn
  have e : (Op.bwait (nbrs (yF d)).length).prog (F := F) (offs d (yF d)) = .op (.semWait baS (nbrs (yF d)).length) .ret := by
    have hy : ∀ y : Fin 4, (BitVec.ofNat 32 (nbrs y).length).toInt = ((nbrs y).length : ℤ) := by decide
    show semWaitWord baS (BitVec.ofNat 32 (nbrs (yF d)).length) = _
    unfold semWaitWord
    have := hy (yF d)
    congr 2
  have h := wait_cell m K d .bar ring_bar (w := .semWait baS (nbrs (yF d)).length) (n := (nbrs (yF d)).length)
    (wpE_semWait_eq 𝒱₀ (d : Thread nD τ) none Set.univ)
    (by
      show _ = (nbrs (yF d)).toFinset.card * 1
      rw [mul_one, List.toFinset_card_of_nodup (nbrs_nodup _)]) δ ha (fun _ => k) Q
  have hb : bigSep (Key.bar.duties (yF d)) (fun t => pay m d t .bar) = (each ((nbrs (yF d)).flatMap (received (yF d))) (mean m d) : sProp 𝕄) := by
    rw [each_flatMap, each_congr fun q _ => received_mean m d q]
    exact (each_eq_bigSep (nbrs_nodup _) fun t => (pay m d t .bar : sProp 𝕄)).symm
  rw [hb] at h
  simp only [Op.takes, Op.puts, each_cons, each_nil, side_emp, mean]
  rw [e]
  simp only [Prog.bind_op, Prog.bind_ret]
  iintro H Hk
  iapply h $$ H
  iintro ⟨HO, Hz, Hp⟩
  iapply Hk
  isplitr [HO]
  · isplitl [Hz]; · iexact Hz
    iexact Hp
  iexact HO

end Rings

end Cert.Gather
-- ==== Proof.Local.lean ====
/-
  The operations of a device by itself: the loads, the rounding, the copies out.
-/
module

public import proofs.«01_k».proof.Proof.Each

@[expose] public section

set_option maxRecDepth 100000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

section Local

variable (d : Dev nD) (δ : ℕ)

/-- The end of a local copy. -/
theorem wait_local (k : Key) {a : DmaSem sig} (ha : k.sem = .dma a) (habove : above (yF d) δ (some (k.level (yF d))) = true)
    {s s' : Shape} {e e' : EltTy} {sp sp' : Space} {srcw : Memref sig .tc sp' s' e'} {dstw : Memref sig .tc sp s e}
    {hsrc : srcw.view.WordExact} {hdst : dstw.view.WordExact} (D : sProp 𝕄) (kont : PUnit → KProg F) (Q : PUnit → sProp 𝕄) :
    iprop(known m K ∗ Transfers.Flight EC (d : Thread nD τ) (.dma a) () dstw.view.dmaCredit D ∗ owing d δ)
      ⊢ iprop(((D ∗ semVal (cell d k) 0 ∗ owing d δ) -∗ Runs d (kont ⟨⟩) Q) -∗ Runs d (.op (.waitDma2 a srcw dstw hsrc hdst) kont) Q) := by
  have e : cell d k = ((d : Thread nD τ), SemLoc.dma a) := congrArg (Prod.mk _) ha
  have hw (hu : ∀ u ∈ bits Due.code δ, u.used (yF d) = true) :
      known (F := F) m K ⊢ MayWait (d : Thread nD τ) (.dma a) () (debt d (bits Due.code δ)) := by
    have h := (known_levels (F := F) m K).trans (mayWait d k (bits Due.code δ) hu (above_iff habove))
    rw [ha] at h; exact h
  rw [e]
  unfold owing
  iintro ⟨#HK, HF, ⟨%hu, %W, HO⟩⟩ Hk
  iapply (Transfers.wp_waitLocalO EC 𝒱₀ (d : Thread nD τ) none () rfl (O := debt d (bits Due.code δ)) (W := W)) $$ [HF HO]
  · isplitl [HF]; · iexact HF
    isplitl [HO]; · iexact HO
    iapply (hw hu); iexact HK
  iintro ⟨HD, Hv, HO⟩
  iapply Hk
  isplitl [HD]; · iexact HD
  isplitl [Hv]; · iexact Hv
  isplitr; · (ipureintro; exact hu)
  iexists _; iexact HO

/-- Waiting for a load. -/
theorem does_loadWait (own : Bool) (c : Fin 8) (ha : above (yF d) δ ((Op.loadWait own c).level (yF d)) = true) :
    Does m K d (.loadWait own c) δ δ := by
  intro k Q
  simp only [Op.takes, Op.puts, each_cons, each_nil, side_emp, mean]
  simp only [Op.prog, Prog.lift, Prog.bind_op, Prog.bind_ret, Prog.pure_eq_ret]
  iintro H Hk
  iapply (wait_local m K d δ (.ld (slot c)) rfl ha _ (fun _ => k) Q) $$ H
  iintro ⟨⟨Hs, Hx⟩, Hv, HO⟩
  iapply Hk
  isplitr [HO]
  · isplitl [Hs]; · iexact Hs
    isplitl [Hx]; · iexact Hx
    iexact Hv
  iexact HO

/-- Waiting for a copy out. -/
theorem does_owait (own : Bool) (s : Fin 4) (c : Fin 8) (ha : above (yF d) δ ((Op.owait own s c).level (yF d)) = true) :
    Does m K d (.owait own s c) δ δ := by
  intro k Q
  simp only [Op.takes, Op.puts, each_cons, each_nil, side_emp, mean]
  simp only [Op.prog, Prog.lift, Prog.bind_op, Prog.bind_ret, Prog.pure_eq_ret]
  iintro H Hk
  iapply (wait_local m K d δ (.st c) rfl ha _ (fun _ => k) Q) $$ H
  iintro ⟨⟨Ho, Hc⟩, Hv, HO⟩
  iapply Hk
  isplitr [HO]
  · isplitl [Hv]; · iexact Hv
    isplitl [Hc]; · iexact Hc
    iexact Ho
  iexact HO

/-- The start of a local copy of a whole view. -/
theorem start_local {s : Shape} {e : EltTy} {sp sp' : Space} {src : Memref sig .tc sp s e} {dst : Memref sig .tc sp' s e} {a : DmaSem sig}
    {hsrc : src.view.WordExact} {hdst : dst.view.WordExact} {hsem : DmaTarget.Typed (nD := nD) (τ := τ) (p := Proc.tc) sp (.dma a) (.here dst)}
    (hpos : 0 < dst.view.dmaCredit) (q : PosShare TreeShare) (fs : Buf (Elt F) (src.view.loc (d : Thread nD τ)))
    (fd : Buf (Elt F) (dst.view.loc (d : Thread nD τ))) (D : sProp 𝕄)
    (hD : iprop((dst.view.loc (d : Thread nD τ) ↦[dst.view.set]{fullShare} (dst.view.write (Elt F) fd (src.view.read (Elt F) fs) Finset.univ))
        ∗ (src.view.loc (d : Thread nD τ) ↦[src.view.set]{q} fs)) ⊢ D) (kont : PUnit → KProg F) (Q : PUnit → sProp 𝕄) :
    iprop((src.view.loc (d : Thread nD τ) ↦[src.view.set]{q} fs) ∗ (dst.view.loc (d : Thread nD τ) ↦[dst.view.set]{fullShare} fd)
        ∗ semVal ((d : Thread nD τ), SemLoc.dma a) 0)
      ⊢ iprop((Transfers.Flight EC (d : Thread nD τ) (.dma a) () dst.view.dmaCredit D -∗ Runs d (kont ⟨⟩) Q)
          -∗ Runs d (.op (.enqueueDma src (.here dst) (.dma a) hsrc hdst hsem) kont) Q) := by
  iintro H Hk
  iapply (Transfers.wp_dmaLocal EC 𝒱₀ (d : Thread nD τ) none () dst.view.dmaCredit rfl hpos subset_rfl (fs := fs) (fd := fd) (q := q)) $$ H
  iintro HF
  iapply Hk
  iapply (Transfers.Flight_mono EC (d : Thread nD τ) hD)
  iexact HF

/-- Beginning a load. -/
theorem does_load (own : Bool) (c : Fin 8) : Does m K d (.load own c) δ δ := by
  intro k Q
  have hD (f : FVec F S2x256x1024 .f32) :
      iprop(((sV (slot c)).view.loc (d : Thread nD τ) ↦[(sV (slot c)).view.set]{fullShare}
          ((sV (slot c)).view.write (Elt F) f ((xV (xat d own c)).view.read (Elt F) (xval m d)) Finset.univ))
        ∗ ((xV (xat d own c)).view.loc (d : Thread nD τ) ↦[(xV (xat d own c)).view.set]{fullShare} (xval m d)))
      ⊢ (iprop(staged m d own c ∗ xPt m d (own, c)) : sProp 𝕄) := by
    rw [sV_set, xV_set]
    unfold staged sPt xPt
    iintro ⟨Hs, Hx⟩
    isplitl [Hs]
    · iexists _
      isplitr
      rotate_left
      · iexact Hs
      · ipureintro
        exact View.read_write_univ (v := (sV (slot c)).view) (Val := Elt F) f _
    iexact Hx
  simp only [Op.takes, Op.puts, each_cons, each_nil, side_emp, mean]
  simp only [Op.prog, Prog.lift, Prog.bind_op, Prog.bind_ret, Prog.pure_eq_ret]
  iintro ⟨-, ⟨Hx, ⟨%f, Hs⟩, Hv⟩, HO⟩ Hk
  iapply (start_local d (src := xV (xat d own c)) (dst := sV (slot c)) (a := ldS (slot c)) (View.dmaCredit_pos _ (by decide)) fullShare
    (xval m d) f _ (hD f) (fun _ => k) Q) $$ [Hx Hs Hv]
  · rw [sV_set, xV_set]
    unfold xPt sPt
    isplitl [Hx]; · iexact Hx
    isplitl [Hs]; · iexact Hs
    iexact Hv
  iintro HF
  iapply Hk
  isplitl [HF]; · iexact HF
  iexact HO

/-- Beginning a copy out. -/
theorem does_ostart (own : Bool) (s : Fin 4) (c : Fin 8) : Does m K d (.ostart own s c) δ δ := by
  intro k Q
  have hD (f : GV F) :
      iprop(((oV (at' d own s c)).view.loc (d : Thread nD τ) ↦[(oV (at' d own s c)).view.set]{fullShare}
          ((oV (at' d own s c)).view.write (Elt F) f ((cV (at' d own s c)).view.read (Elt F) (G m d)) Finset.univ))
        ∗ ((cV (at' d own s c)).view.loc (d : Thread nD τ) ↦[(cV (at' d own s c)).view.set]{qsh 3} (G m d)))
      ⊢ (iprop(oPt d (own, s, c) (G m d) ∗ cPt d d (own, s, c) (qsh 3) (G m d)) : sProp 𝕄) := by
    rw [oV_set, cV_set]
    unfold oPt cPt
    exact sep_mono_left (Entails.of_eq (pointsTo_congr fun i hi => copy_out d own s c f (G m d) hi))
  simp only [Op.takes, Op.puts, each_cons, each_nil, side_emp, mean]
  simp only [Op.prog, Prog.lift, Prog.bind_op, Prog.bind_ret, Prog.pure_eq_ret]
  iintro ⟨-, ⟨Hv, Hc, ⟨%f, Ho⟩⟩, HO⟩ Hk
  iapply (start_local d (src := cV (at' d own s c)) (dst := oV (at' d own s c)) (a := stS c) (View.dmaCredit_pos _ (by decide)) (qsh 3)
    (G m d) f _ (hD f) (fun _ => k) Q) $$ [Hc Ho Hv]
  · rw [oV_set, cV_set]
    unfold cPt oPt
    isplitl [Hc]; · iexact Hc
    isplitl [Ho]; · iexact Ho
    iexact Hv
  iintro HF
  iapply Hk
  isplitl [HF]; · iexact HF
  iexact HO

/-- A load through a rectangle, at exactly the elements it covers. -/
theorem load_at {s : Shape} {e : EltTy} (mm : Memref sig .tc .vmem s e) (r : Rect s) (hl : mm.view.LoadsAt r.toLoadRect) (S : Finset (Idx ((mm.access r).loc (d : Thread nD τ))))
    (hS : (mm.access r).set = S) (f : Buf (Elt F) ((mm.access r).loc (d : Thread nD τ))) (kont : (r.shape.Idx → Elt F e) → KProg F)
    (Q : PUnit → sProp 𝕄) :
    iprop((mm.access r).loc (d : Thread nD τ) ↦[S]{fullShare} f)
      ⊢ iprop((((mm.access r).loc (d : Thread nD τ) ↦[S]{fullShare} f) -∗ Runs d (kont ((mm.access r).read (Elt F) f)) Q)
          -∗ Runs d (.op (.load mm r.toLoadRect hl) kont) Q) :=
  wp_load_rect (defs := defs₀ (F := F)) 𝒱₀ (d : Thread nD τ) none Set.univ hS.subset

/-- A store through a rectangle, at exactly the elements it covers. -/
theorem store_at {s : Shape} {e : EltTy} (mm : Memref sig .tc .vmem s e) (r : Rect s) (w : r.shape.Idx → Elt F e)
    {hx : (mm.access r).Stores Finset.univ} {hm : (Finset.univ : Finset r.shape.Idx) = Finset.univ ∨ ∀ a, r.stride a = 1}
    (S : Finset (Idx ((mm.access r).loc (d : Thread nD τ))))
    (hS : (mm.access r).set = S) (f : Buf (Elt F) ((mm.access r).loc (d : Thread nD τ))) (kont : PUnit → KProg F)
    (Q : PUnit → sProp 𝕄) :
    iprop((mm.access r).loc (d : Thread nD τ) ↦[S]{fullShare} f)
      ⊢ iprop((((mm.access r).loc (d : Thread nD τ) ↦[S]{fullShare} ((mm.access r).write (Elt F) f w Finset.univ)) -∗ Runs d (kont ⟨⟩) Q)
          -∗ Runs d (.op (.store mm r w Finset.univ hx hm) kont) Q) :=
  wp_store (defs := defs₀ (F := F)) 𝒱₀ (d : Thread nD τ) none Set.univ (by rw [View.setOn_univ]; exact hS.subset)

/-- Rounding a loaded chunk into the gathering buffer. -/
theorem does_cast (own : Bool) (c : Fin 8) : Does m K d (.cast own c) δ δ := by
  intro k Q
  have hs : (sM.access (sRect (slot c)) : View sig .tc _ _ _).set = sSet (slot c) := View.set_slice_whole cc0_scratch1 (sRect (slot c))
  have hc : (cM.access (cRect (at' d own (yF d) c)) : View sig .tc _ _ _).set = cSet d (own, yF d, c) :=
    View.set_slice_whole cc0_scratch0 (cRect (at' d own (yF d) c))
  have hG (f : GV F) (g : FVec F S2x256x1024 .f32) (hg : Loaded m d own c g) :
      (cPt d d (own, yF d, c) fullShare ((cM.access (cRect (at' d own (yF d) c))).write (Elt F) f
        (rounded ((sM.access (sRect (slot c))).read (Elt F) g)) Finset.univ) : sProp 𝕄) ⊢ cPt d d (own, yF d, c) fullShare (G m d) := by
    unfold cPt
    exact Entails.of_eq (pointsTo_congr fun i hi => cast_in m d own c f g hg hi)
  simp only [Op.takes, Op.puts, each_cons, each_nil, side_emp, mean, each_quarters]
  simp only [Op.prog, Prog.lift, Prog.bind_op, Prog.bind_ret, Prog.pure_eq_ret]
  unfold staged sPt cPt
  unfold cPt at hG
  iintro ⟨-, ⟨⟨%g, %hg, Hs⟩, ⟨%f, Hc⟩⟩, HO⟩ Hk
  iapply (load_at d sM (sRect (slot c)) _ (sSet (slot c)) hs g _ Q) $$ Hs
  iintro Hs
  iapply (load_at d cM (cRect (at' d own (yF d) c)) _ (cSet d (own, yF d, c)) hc f _ Q) $$ Hc
  iintro Hc
  iapply (store_at d cM (cRect (at' d own (yF d) c)) (rounded ((sM.access (sRect (slot c))).read (Elt F) g))
    (cSet d (own, yF d, c)) hc f (fun _ => k) Q) $$ Hc
  iintro Hc
  iapply Hk
  isplitr [HO]
  · isplitl [Hs]; · iexists g; iexact Hs
    iapply (hG f g hg)
    iexact Hc
  iexact HO

end Local

/-- Every operation of the kernel, when it fits, pays what it should, and everything still owed is above what it waits for. -/
theorem does (d : Dev nD) (o : Op) (δ δ' : ℕ) (hf : o.fits (yF d) = true) (ha : above (yF d) δ (o.level (yF d)) = true)
    (hδ : takeAll Due.code o.pays δ = some δ') : Does m K d o δ δ' := by
  cases o with
  | sig q => exact does_sig m K d δ δ' q hf hδ
  | ysend q s c => exact does_ysend m K d δ δ' q s c hf hδ
  | xsend s c => exact does_xsend m K d δ δ' s c hf hδ
  | bwait n => cases hδ; exact does_bwait m K d δ n hf ha
  | load own c => cases hδ; exact does_load m K d δ own c
  | loadWait own c => cases hδ; exact does_loadWait m K d δ own c ha
  | cast own c => cases hδ; exact does_cast m K d δ own c
  | ywait s c => cases hδ; exact does_ywait m K d δ s c hf ha
  | xwait s c => cases hδ; exact does_xwait m K d δ s c hf ha
  | ostart own s c => cases hδ; exact does_ostart m K d δ own s c
  | owait own s c => cases hδ; exact does_owait m K d δ own s c ha
  | yswait q s c => cases hδ; exact does_yswait m K d δ q s c hf ha
  | xswait s c => cases hδ; exact does_xswait m K d δ s c hf ha

end Cert.Gather
-- ==== Proof.Printed.lean ====
/-
  The kernel's printed text is the list of operations of `Ops.lean`: for each value of `y`, the branch the text takes there
  runs `ops y`, at the offsets and devices the text computes.
-/
module

public import proofs.«01_k».proof.Proof.Ops

@[expose] public section

noncomputable section

namespace Cert.Gather

open Cert.KernelIdeal Cert.KernelIdeal.Gen
open Idealize.ShloMosaic Idealize.ShloMosaic.TcCoe
open Idealize.SL Idealize.SL.Sem

variable {F : FTy → Type} [FloatOps F]

/-! ## `y = 0` -/

theorem y0_of (d : Dev nD) (h : k0_cond1 d = 1#1) : yOf d = 0 := by revert d; decide +kernel
theorem y0_xo (d : Dev nD) (own : Bool) (c : Fin 8) :
    (match own with | true => k0_off1 d (BitVec.ofNat 32 (256 * c.val)) | false => k0_off5 d (BitVec.ofNat 32 (256 * c.val))) = xOff d own c := by
  revert d own c; decide +kernel
theorem y0_st (d : Dev nD) (own : Bool) (c : Fin 8) :
    (match own with | true => k0_off2 d (BitVec.ofNat 32 (256 * c.val)) | false => k0_off6 d (BitVec.ofNat 32 (256 * c.val))) = cOff d own 0 c := by
  revert d own c; decide +kernel
theorem y0_ch (d : Dev nD) (own : Bool) (s : Fin 4) (c : Fin 8) :
    (match own with | true => k0_off3 d (BitVec.ofNat 32 (4096 * s.val)) (BitVec.ofNat 32 (256 * c.val)) | false => k0_off8 d (BitVec.ofNat 32 (4096 * s.val)) (BitVec.ofNat 32 (256 * c.val))) = cOff d own s c := by
  revert d own s c; decide +kernel
theorem y0_ou (d : Dev nD) (own : Bool) (s : Fin 4) (c : Fin 8) :
    (if s = 0 then (match own with | true => k0_off4 d (BitVec.ofNat 32 (256 * c.val)) | false => k0_off7 d (BitVec.ofNat 32 (256 * c.val)))
      else (match own with | true => k0_off3 d (BitVec.ofNat 32 (4096 * s.val)) (BitVec.ofNat 32 (256 * c.val)) | false => k0_off8 d (BitVec.ofNat 32 (4096 * s.val)) (BitVec.ofNat 32 (256 * c.val)))) = cOff d own s c := by
  revert d own s c; decide +kernel
theorem y0_dv (d : Dev nD) (h : k0_cond1 d = 1#1) (q : Fin 3) : (match q with | 0 => k0_dev1 d | 1 => (nbr d 1).val | 2 => k0_dev2 d) = (nbr d q).val := by
  revert d q; decide +kernel

/-- The offsets and devices of the text at `y = 0`. -/
def printed0 (d : Dev nD) (h : k0_cond1 d = 1#1) : Offs d 0 where
  xo own c := ⟨_, y0_xo d own c⟩
  st own c := ⟨_, y0_st d own c⟩
  ou own s c := ⟨_, y0_ou d own s c⟩
  ch own s c := ⟨_, y0_ch d own s c⟩
  dv q := ⟨_, y0_dv d h q⟩

/-! ## `y = 1` -/

theorem y1_of (d : Dev nD) (h : k0_cond2 d = 1#1) : yOf d = 1 := by revert d; decide +kernel
theorem y1_xo (d : Dev nD) (own : Bool) (c : Fin 8) :
    (match own with | true => k0_off9 d (BitVec.ofNat 32 (256 * c.val)) | false => k0_off13 d (BitVec.ofNat 32 (256 * c.val))) = xOff d own c := by
  revert d own c; decide +kernel
theorem y1_st (d : Dev nD) (own : Bool) (c : Fin 8) :
    (match own with | true => k0_off10 d (BitVec.ofNat 32 (256 * c.val)) | false => k0_off14 d (BitVec.ofNat 32 (256 * c.val))) = cOff d own 1 c := by
  revert d own c; decide +kernel
theorem y1_ch (d : Dev nD) (own : Bool) (s : Fin 4) (c : Fin 8) :
    (match own with | true => k0_off11 d (BitVec.ofNat 32 (4096 * s.val)) (BitVec.ofNat 32 (256 * c.val)) | false => k0_off16 d (BitVec.ofNat 32 (4096 * s.val)) (BitVec.ofNat 32 (256 * c.val))) = cOff d own s c := by
  revert d own s c; decide +kernel
theorem y1_ou (d : Dev nD) (own : Bool) (s : Fin 4) (c : Fin 8) :
    (if s = 1 then (match own with | true => k0_off12 d (BitVec.ofNat 32 (256 * c.val)) | false => k0_off15 d (BitVec.ofNat 32 (256 * c.val)))
      else (match own with | true => k0_off11 d (BitVec.ofNat 32 (4096 * s.val)) (BitVec.ofNat 32 (256 * c.val)) | false => k0_off16 d (BitVec.ofNat 32 (4096 * s.val)) (BitVec.ofNat 32 (256 * c.val)))) = cOff d own s c := by
  revert d own s c; decide +kernel
theorem y1_dv (d : Dev nD) (h : k0_cond2 d = 1#1) (q : Fin 3) : (match q with | 0 => k0_dev35 d | 1 => k0_dev36 d | 2 => k0_dev37 d) = (nbr d q).val := by
  revert d q; decide +kernel

/-- The offsets and devices of the text at `y = 1`. -/
def printed1 (d : Dev nD) (h : k0_cond2 d = 1#1) : Offs d 1 where
  xo own c := ⟨_, y1_xo d own c⟩
  st own c := ⟨_, y1_st d own c⟩
  ou own s c := ⟨_, y1_ou d own s c⟩
  ch own s c := ⟨_, y1_ch d own s c⟩
  dv q := ⟨_, y1_dv d h q⟩

/-! ## `y = 2` -/

theorem y2_of (d : Dev nD) (h : k0_cond3 d = 1#1) : yOf d = 2 := by revert d; decide +kernel
theorem y2_xo (d : Dev nD) (own : Bool) (c : Fin 8) :
    (match own with | true => k0_off17 d (BitVec.ofNat 32 (256 * c.val)) | false => k0_off21 d (BitVec.ofNat 32 (256 * c.val))) = xOff d own c := by
  revert d own c; decide +kernel
theorem y2_st (d : Dev nD) (own : Bool) (c : Fin 8) :
    (match own with | true => k0_off18 d (BitVec.ofNat 32 (256 * c.val)) | false => k0_off22 d (BitVec.ofNat 32 (256 * c.val))) = cOff d own 2 c := by
  revert d own c; decide +kernel
theorem y2_ch (d : Dev nD) (own : Bool) (s : Fin 4) (c : Fin 8) :
    (match own with | true => k0_off19 d (BitVec.ofNat 32 (4096 * s.val)) (BitVec.ofNat 32 (256 * c.val)) | false => k0_off24 d (BitVec.ofNat 32 (4096 * s.val)) (BitVec.ofNat 32 (256 * c.val))) = cOff d own s c := by
  revert d own s c; decide +kernel
theorem y2_ou (d : Dev nD) (own : Bool) (s : Fin 4) (c : Fin 8) :
    (if s = 2 then (match own with | true => k0_off20 d (BitVec.ofNat 32 (256 * c.val)) | false => k0_off23 d (BitVec.ofNat 32 (256 * c.val)))
      else (match own with | true => k0_off19 d (BitVec.ofNat 32 (4096 * s.val)) (BitVec.ofNat 32 (256 * c.val)) | false => k0_off24 d (BitVec.ofNat 32 (4096 * s.val)) (BitVec.ofNat 32 (256 * c.val)))) = cOff d own s c := by
  revert d own s c; decide +kernel
theorem y2_dv (d : Dev nD) (h : k0_cond3 d = 1#1) (q : Fin 3) : (match q with | 0 => k0_dev102 d | 1 => k0_dev103 d | 2 => k0_dev104 d) = (nbr d q).val := by
  revert d q; decide +kernel

/-- The offsets and devices of the text at `y = 2`. -/
def printed2 (d : Dev nD) (h : k0_cond3 d = 1#1) : Offs d 2 where
  xo own c := ⟨_, y2_xo d own c⟩
  st own c := ⟨_, y2_st d own c⟩
  ou own s c := ⟨_, y2_ou d own s c⟩
  ch own s c := ⟨_, y2_ch d own s c⟩
  dv q := ⟨_, y2_dv d h q⟩

/-! ## `y = 3` -/

theorem y3_of (d : Dev nD) (h : k0_cond4 d = 1#1) : yOf d = 3 := by revert d; decide +kernel
theorem y3_xo (d : Dev nD) (own : Bool) (c : Fin 8) :
    (match own with | true => k0_off25 d (BitVec.ofNat 32 (256 * c.val)) | false => k0_off29 d (BitVec.ofNat 32 (256 * c.val))) = xOff d own c := by
  revert d own c; decide +kernel
theorem y3_st (d : Dev nD) (own : Bool) (c : Fin 8) :
    (match own with | true => k0_off26 d (BitVec.ofNat 32 (256 * c.val)) | false => k0_off30 d (BitVec.ofNat 32 (256 * c.val))) = cOff d own 3 c := by
  revert d own c; decide +kernel
theorem y3_ch (d : Dev nD) (own : Bool) (s : Fin 4) (c : Fin 8) :
    (match own with | true => k0_off27 d (BitVec.ofNat 32 (4096 * s.val)) (BitVec.ofNat 32 (256 * c.val)) | false => k0_off32 d (BitVec.ofNat 32 (4096 * s.val)) (BitVec.ofNat 32 (256 * c.val))) = cOff d own s c := by
  revert d own s c; decide +kernel
theorem y3_ou (d : Dev nD) (own : Bool) (s : Fin 4) (c : Fin 8) :
    (if s = 3 then (match own with | true => k0_off28 d (BitVec.ofNat 32 (256 * c.val)) | false => k0_off31 d (BitVec.ofNat 32 (256 * c.val)))
      else (match own with | true => k0_off27 d (BitVec.ofNat 32 (4096 * s.val)) (BitVec.ofNat 32 (256 * c.val)) | false => k0_off32 d (BitVec.ofNat 32 (4096 * s.val)) (BitVec.ofNat 32 (256 * c.val)))) = cOff d own s c := by
  revert d own s c; decide +kernel
theorem y3_dv (d : Dev nD) (h : k0_cond4 d = 1#1) (q : Fin 3) : (match q with | 0 => k0_dev169 d | 1 => k0_dev170 d | 2 => (nbr d 2).val) = (nbr d q).val := by
  revert d q; decide +kernel

/-- The offsets and devices of the text at `y = 3`. -/
def printed3 (d : Dev nD) (h : k0_cond4 d = 1#1) : Offs d 3 where
  xo own c := ⟨_, y3_xo d own c⟩
  st own c := ⟨_, y3_st d own c⟩
  ou own s c := ⟨_, y3_ou d own s c⟩
  ch own s c := ⟨_, y3_ch d own s c⟩
  dv q := ⟨_, y3_dv d h q⟩

/-- What the kernel runs after the branches it has passed. -/
def rest4 : KProg F := pure ⟨⟩
def rest3 (d : Dev nD) : KProg F :=
  if h : k0_cond4 d = 1#1 then runOps (printed3 d h) (ops 3) rest4 else rest4
def rest2 (d : Dev nD) : KProg F :=
  if h : k0_cond3 d = 1#1 then runOps (printed2 d h) (ops 2) (rest3 d) else rest3 d
def rest1 (d : Dev nD) : KProg F :=
  if h : k0_cond2 d = 1#1 then runOps (printed1 d h) (ops 1) (rest2 d) else rest2 d
def rest0 (d : Dev nD) : KProg F :=
  if h : k0_cond1 d = 1#1 then runOps (printed0 d h) (ops 0) (rest1 d) else rest1 d

set_option maxRecDepth 65536 in
/-- The kernel's text is its operations. -/
theorem body_eq : bodyAt0 (F := F) ⟨0, by decide⟩ = (Prog.op .deviceId fun d => rest0 d) := by
  chain_rfl

end Cert.Gather
end
-- ==== Proof.Run.lean ====
/-
  A device's run: all operations in order, from the pieces it starts with to whole buffers and semaphores at zero.
-/
module

public import proofs.«01_k».proof.Proof.Local
public import proofs.«01_k».proof.Proof.Printed

@[expose] public section

set_option maxRecDepth 100000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ)

/-! ## The operations in order -/

/-- What the check of one operation says. -/
theorem step_says {y : Fin 4} {o : Op} {σ δ σ' δ' : ℕ} (h : o.step y σ δ = some (σ', δ')) :
    o.fits y = true ∧ above y δ (o.level y) = true ∧ takeAll Due.code o.pays δ = some δ' ∧
      ∃ σ₁, takeAll Atom.code (o.takes y) σ = some σ₁ ∧ putAll Atom.code (o.puts y) σ₁ = some σ' := by
  unfold Op.step at h
  split at h
  · rename_i hc
    rw [Bool.and_eq_true] at hc
    split at h
    · cases h
    · rename_i σ₁ h1
      split at h
      · cases h
      · rename_i σ₂ h2
        split at h
        · cases h
        · rename_i δ₂ h3
          cases h
          exact ⟨hc.1, hc.2, h3, σ₁, h1, h2⟩
  · cases h

/-- A checked list of operations runs. -/
theorem exec_runs (d : Dev nD) (k : KProg F) (Q : PUnit → sProp 𝕄) : ∀ (os : List Op) (σ δ σ' δ' : ℕ), exec (yF d) os σ δ = some (σ', δ') →
    iprop(known m K ∗ bigSep (bits Atom.code σ) (mean m d) ∗ owing d δ)
      ⊢ iprop(((bigSep (bits Atom.code σ') (mean m d) ∗ owing d δ') -∗ Runs d k Q) -∗ Runs d (runOps (offs d (yF d)) os k) Q)
  | [], σ, δ, σ', δ', h => by
    cases h
    iintro ⟨-, Hσ, HO⟩ Hk
    iapply Hk
    isplitl [Hσ]; · iexact Hσ
    iexact HO
  | o :: os, σ, δ, σ', δ', h => by
    unfold exec at h
    split at h
    · cases h
    · rename_i σ₂ δ₂ hs
      obtain ⟨hf, ha, hδ, σ₁, h1, h2⟩ := step_says hs
      have ih := exec_runs d k Q os σ₂ δ₂ σ' δ' h
      have hd := does m K d o δ δ₂ hf ha hδ (runOps (offs d (yF d)) os k) Q
      rw [bigSep_takeAll Atom.code_inj (mean m d) _ _ _ h1]
      rw [bigSep_putAll Atom.code_inj (mean m d) _ _ _ h2] at ih
      iintro ⟨#HK, ⟨Ht, Hσ⟩, HO⟩ Hk
      iapply hd $$ [Ht HO]
      · isplitr; · iexact HK
        isplitl [Ht]; · iexact Ht
        iexact HO
      iintro ⟨Hp, HO⟩
      iapply ih $$ [Hp Hσ HO]
      · isplitr; · iexact HK
        isplitl [Hp Hσ]
        · isplitl [Hp]; · iexact Hp
          iexact Hσ
        iexact HO
      iexact Hk

/-- The set of a list put together from nothing. -/
theorem each_bits {α : Type} [Fintype α] [DecidableEq α] {code : α → ℕ} (hc : Function.Injective code) (Φ : α → sProp 𝕄) {l : List α} {σ : ℕ}
    (h : putAll code l 0 = some σ) : bigSep (bits code σ) Φ = each l Φ := by
  rw [bigSep_putAll hc Φ l 0 σ h, bits_zero, bigSep_empty]; exact side_emp _

/-! ## The text and the branch a device takes -/

/-- The first branch is taken at `y = 0`, -/
theorem cond1_iff (d : Dev nD) : k0_cond1 d = 1#1 ↔ yF d = 0 := by revert d; decide +kernel
/-- the second at `y = 1`, -/
theorem cond2_iff (d : Dev nD) : k0_cond2 d = 1#1 ↔ yF d = 1 := by revert d; decide +kernel
/-- the third at `y = 2`, -/
theorem cond3_iff (d : Dev nD) : k0_cond3 d = 1#1 ↔ yF d = 2 := by revert d; decide +kernel
/-- and the fourth at `y = 3`. -/
theorem cond4_iff (d : Dev nD) : k0_cond4 d = 1#1 ↔ yF d = 3 := by revert d; decide +kernel

/-- The list of operations at a device's place is the list of that place. -/
theorem runOps_at (d : Dev nD) {y : Fin 4} (h : yF d = y) (T : Offs d y) (k : KProg F) :
    runOps T (ops y) k = runOps (offs d (yF d)) (ops (yF d)) k := by
  subst h; rw [Offs.eq T (offs d (yF d))]

/-- The printed branches together are the operations of the device's place. -/
theorem rest_eq (d : Dev nD) : (rest0 d : KProg F) = runOps (offs d (yF d)) (ops (yF d)) rest4 := by
  have n (y y' : Fin 4) (h : yF d = y) (hne : y ≠ y') : yF d ≠ y' := fun e => hne (h.symm.trans e)
  unfold rest0 rest1 rest2 rest3
  rcases (show yF d = 0 ∨ yF d = 1 ∨ yF d = 2 ∨ yF d = 3 by omega) with h | h | h | h
  · rw [dif_pos ((cond1_iff d).mpr h), runOps_at d h, dif_neg (fun e => n _ _ h (by decide) ((cond2_iff d).mp e)),
      dif_neg (fun e => n _ _ h (by decide) ((cond3_iff d).mp e)), dif_neg (fun e => n _ _ h (by decide) ((cond4_iff d).mp e))]
  · rw [dif_neg (fun e => n _ _ h (by decide) ((cond1_iff d).mp e)), dif_pos ((cond2_iff d).mpr h), runOps_at d h,
      dif_neg (fun e => n _ _ h (by decide) ((cond3_iff d).mp e)), dif_neg (fun e => n _ _ h (by decide) ((cond4_iff d).mp e))]
  · rw [dif_neg (fun e => n _ _ h (by decide) ((cond1_iff d).mp e)), dif_neg (fun e => n _ _ h (by decide) ((cond2_iff d).mp e)),
      dif_pos ((cond3_iff d).mpr h), runOps_at d h, dif_neg (fun e => n _ _ h (by decide) ((cond4_iff d).mp e))]
  · rw [dif_neg (fun e => n _ _ h (by decide) ((cond1_iff d).mp e)), dif_neg (fun e => n _ _ h (by decide) ((cond2_iff d).mp e)),
      dif_neg (fun e => n _ _ h (by decide) ((cond3_iff d).mp e)), dif_pos ((cond4_iff d).mpr h), runOps_at d h]

/-! ## Whole buffers and their pieces -/

/-- A whole buffer is its parts side by side. -/
theorem whole_each {T : Type} [Fintype T] [DecidableEq T] {ℓ : Loc nD τ sig} {l : List T} (hn : l.Nodup) (hm : ∀ t, t ∈ l) (P : T → Finset (Idx ℓ))
    (hd : ∀ i j, i ≠ j → Disjoint (P i) (P j)) (hc : Finset.univ.biUnion P = Finset.univ) (f : Buf (Elt F) ℓ) :
    (ℓ ↦{fullShare} f : sProp 𝕄) = each l fun t => ℓ ↦[P t]{fullShare} f := by
  rw [each_eq_univ hn hm, ← pointsTo_biUnion Finset.univ P (fun i _ j _ => hd i j), hc]

/-- Parts at any contents make up a whole buffer. -/
theorem whole_join {T : Type} [Fintype T] [DecidableEq T] {ℓ : Loc nD τ sig} {l : List T} (hn : l.Nodup) (hm : ∀ t, t ∈ l) (P : T → Finset (Idx ℓ))
    (hd : ∀ i j, i ≠ j → Disjoint (P i) (P j)) (hc : Finset.univ.biUnion P = Finset.univ) (t₀ : T) :
    (each l fun t => iprop(∃ f : Buf (Elt F) ℓ, ℓ ↦[P t]{fullShare} f)) ⊢ (iprop(∃ f : Buf (Elt F) ℓ, ℓ ↦{fullShare} f) : sProp 𝕄) := by
  rw [each_eq_univ hn hm]
  iintro H
  ihave H' := (BI.bigSep_exists_pi Finset.univ (fun (t : T) (f : Buf (Elt F) ℓ) => (ℓ ↦[P t]{fullShare} f : sProp 𝕄))) $$ H
  icases H' with ⟨%fs, H'⟩
  ihave H2 := (pointsTo_biUnion_join Finset.univ P fs (fs t₀) (fun i _ j _ => hd i j)) $$ H'
  icases H2 with ⟨%g, -, H2⟩
  rw [hc]
  iexists g; iexact H2

theorem chunks_nodup : chunks.Nodup := by decide +kernel
theorem owns_nodup : owns.Nodup := by decide +kernel
theorem sends_nodup : sends.Nodup := by decide +kernel
theorem places_nodup : places.Nodup := by decide +kernel

/-- The gathering buffer is its chunks. -/
theorem whole_c (d : Dev nD) (f : GV F) : (cLoc d ↦{fullShare} f : sProp 𝕄) = each chunks fun i => cPt d d i fullShare f :=
  whole_each (ℓ := cLoc d) chunks_nodup mem_chunks (cSet d) (cSet_disjoint d) (cSet_cover d) f
/-- The result is its chunks. -/
theorem whole_o (d : Dev nD) (f : GV F) : (oLoc d ↦{fullShare} f : sProp 𝕄) = each chunks fun i => oPt d i f :=
  whole_each (ℓ := oLoc d) chunks_nodup mem_chunks (cSet d) (cSet_disjoint d) (cSet_cover d) f
/-- The block is its chunks. -/
theorem whole_x (d : Dev nD) : (xLoc d ↦{fullShare} xval m d : sProp 𝕄) = each owns fun i => xPt m d i :=
  whole_each (ℓ := xLoc d) owns_nodup mem_owns (xSet d) (xSet_disjoint d) (xSet_cover d) (xval m d)
/-- The stage is its slots. -/
theorem whole_s (d : Dev nD) (f : FVec F S2x256x1024 .f32) : (sLoc d ↦{fullShare} f : sProp 𝕄) = each f2 fun i => sPt d i f :=
  whole_each (ℓ := sLoc d) (by decide) mem_f2 sSet sSet_disjoint sSet_cover f
/-- The stage's slots, at any contents, are the stage. -/
theorem join_s (d : Dev nD) : (each f2 fun i => iprop(∃ f, sPt d i f)) ⊢ (iprop(∃ f : FVec F S2x256x1024 .f32, sLoc d ↦{fullShare} f) : sProp 𝕄) :=
  whole_join (ℓ := sLoc d) (by decide) mem_f2 sSet sSet_disjoint sSet_cover 0

/-! ## The end -/

/-- The semaphores used up are at zero again. -/
theorem shut_zero (d : Dev nD) {k : Key} (hk : k ∈ ringKeys) : iprop(known m K ∗ shut m (cell d k)) ⊢ |={Set.univ}=> semVal (cell d k) 0 := by
  unfold shut
  iintro ⟨#HK, ⟨%R, %hR, Hp⟩⟩
  ihave HI := (known_inv (F := F) m K d hk) $$ HK
  iapply (Rounds.cell_close ER (Rd (F := F) m) (Set.mem_univ (K (d, k))) (fun h => h) (R := R) hR)
  isplitl [HI]; · iexact HI
  iexact Hp

/-- An update of each member is an update of all. -/
theorem each_fupd {I : Type} (l : List I) (Φ : I → sProp 𝕄) : (each l fun i => iprop(|={Set.univ}=> Φ i)) ⊢ |={Set.univ}=> each l Φ := by
  induction l with
  | nil => rw [each_nil, each_nil]; exact fupd_intro
  | cons a l ih =>
    rw [each_cons, each_cons]
    iintro ⟨Ha, Hl⟩
    imod Ha with Ha
    imod ih $$ Hl with Hl
    imodintro
    isplitl [Ha]; · iexact Ha
    iexact Hl

/-- Finished cells give their semaphores back at zero. -/
theorem shut_each {I : Type} (d : Dev nD) (l : List I) (k : I → Key) (hk : ∀ i, k i ∈ ringKeys) :
    iprop(known m K ∗ each l fun i => shut m (cell d (k i))) ⊢ |={Set.univ}=> each l fun i => semVal (cell d (k i)) 0 :=
  (each_persistent fun i _ => shut_zero m K d (hk i)).trans (each_fupd l _)

/-- What a device has at the end: every semaphore at zero, its block as it was, its result, and its scratch. -/
def ended (d : Dev nD) : sProp 𝕄 :=
  iprop((each (.bar :: dmaKeys) fun k => semVal (cell d k) 0) ∗ (xLoc d ↦{fullShare} xval m d) ∗ (oLoc d ↦{fullShare} G m d)
    ∗ (∃ f : GV F, cLoc d ↦{fullShare} f) ∗ (∃ f : FVec F S2x256x1024 .f32, sLoc d ↦{fullShare} f))

/-- The pieces at the end make up whole buffers and semaphores at zero. -/
theorem final_ended (d : Dev nD) : iprop(known m K ∗ each final (mean m d)) ⊢ |={Set.univ}=> ended m d := by
  have hc : (each chunks fun i => each f4 fun p => cPt d d (i.1, i.2.1, i.2.2) (qsh p) (G m d))
      ⊢ (iprop(∃ f : GV F, cLoc d ↦{fullShare} f) : sProp 𝕄) := by
    rw [each_congr (Ψ := fun i => cPt d d i fullShare (G m d)) fun i _ => (cPt_quarters d d i (G m d)).symm, ← whole_c]
    iintro H; iexists G m d; iexact H
  unfold final ended
  rw [each_cons]
  unfold dmaKeys
  simp only [each_append, each_one, each_map, each_flatMap, mean, side_assoc]
  rw [whole_x, whole_o]
  iintro ⟨#HK, Hs, Hld, Hst, Hx, Hc, Ho, Hys, Hxs, Hyr, Hxr, Hb⟩
  imod (shut_each m K d sends (fun i => .ys i.1 i.2.1 i.2.2) fun i => ring_ys _ _ _) $$ [Hys] with Hys
  · isplitr; · iexact HK
    iexact Hys
  imod (shut_each m K d places (fun i => .xs i.1 i.2) fun i => ring_xs _ _) $$ [Hxs] with Hxs
  · isplitr; · iexact HK
    iexact Hxs
  imod (shut_each m K d places (fun i => .yr i.1 i.2) fun i => ring_yr _ _) $$ [Hyr] with Hyr
  · isplitr; · iexact HK
    iexact Hyr
  imod (shut_each m K d places (fun i => .xr i.1 i.2) fun i => ring_xr _ _) $$ [Hxr] with Hxr
  · isplitr; · iexact HK
    iexact Hxr
  imod (shut_zero m K d ring_bar) $$ [Hb] with Hb
  · isplitr; · iexact HK
    iexact Hb
  imodintro
  isplitl [Hb]; · iexact Hb
  isplitl [Hld]; · iexact Hld
  isplitl [Hst]; · iexact Hst
  isplitl [Hys]; · iexact Hys
  isplitl [Hxs]; · iexact Hxs
  isplitl [Hyr]; · iexact Hyr
  isplitl [Hxr]; · iexact Hxr
  isplitl [Hx]; · iexact Hx
  isplitl [Ho]; · iexact Ho
  isplitl [Hc]
  · iapply hc; iexact Hc
  iapply (join_s (F := F) d); iexact Hs

/-- A device's whole run. -/
theorem run_body (d : Dev nD) (Q : PUnit → sProp 𝕄) :
    iprop(known m K ∗ each (start (yF d)) (mean m d) ∗ owing d (dues₀ (yF d)))
      ⊢ iprop(((ended m d ∗ owing d 0) -∗ Q ⟨⟩) -∗ Runs d (bodyAt0 (F := F) ⟨0, by decide⟩) Q) := by
  have h := exec_runs m K d (rest4 (F := F)) Q (ops (yF d)) _ _ _ _ (plan_ok (yF d))
  rw [each_bits Atom.code_inj (mean m d) (start_ok _), each_bits Atom.code_inj (mean m d) final_ok, ← rest_eq] at h
  rw [body_eq]
  unfold Runs at h ⊢
  rw [wp_deviceId]
  iintro ⟨#HK, Hs, HO⟩ Hk
  iapply h $$ [Hs HO]
  · isplitr; · iexact HK
    isplitl [Hs]; · iexact Hs
    iexact HO
  iintro ⟨Hf, HO⟩
  unfold rest4
  rw [Prog.pure_eq_ret, wp_ret]
  imod (final_ended m K d) $$ [Hf] with He
  · isplitr; · iexact HK
    iexact Hf
  imodintro
  iapply Hk
  isplitl [He]; · iexact He
  iexact HO

end Cert.Gather
end
-- ==== Proof.Begin.lean ====
/-
  What a device starts with: its positions at its cells, the rights to pay what it owes, the credit for what others owe it, and whole buffers make up the pieces of the plan.
-/
module

public import proofs.«01_k».proof.Proof.Run

@[expose] public section

set_option maxRecDepth 100000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The rights to pay -/

/-- The duties a device performs: what it owes to others, and the ends of its own sends. -/
def toks (y : Fin 4) : List (Due ⊕ Key) :=
  (dues y).map .inl ++ (sends.filter fun i => sendsTo y i.1 i.2.1).map (fun i => .inr (.ys i.1 i.2.1 i.2.2)) ++
  (places.filter fun i => i.1 ≠ y).map (fun i => .inr (.xs i.1 i.2))

/-- No duty is listed twice. -/
theorem toks_nodup (y : Fin 4) : (toks y).Nodup := by revert y; decide +kernel

/-- The cell, round and duty of each. -/
def tokOf (d : Dev nD) : Due ⊕ Key → GSem nD τ sig × ℕ × Fin 3
  | .inl u => (cell (u.dev d) u.key, 0, u.duty)
  | .inr k => (cell d k, 0, 0)

/-- A listed debt is one the device owes. -/
theorem toks_inl {y : Fin 4} {u : Due} (h : .inl u ∈ toks y) : u.used y = true := by
  unfold toks at h
  simp only [List.mem_append, List.mem_map] at h
  rcases h with (⟨v, hv, e⟩ | ⟨_, _, e⟩) | ⟨_, _, e⟩
  · cases e; exact (mem_dues y u).mp hv
  · cases e
  · cases e

/-- A listed duty of the device's own is the end of one of its sends. -/
theorem toks_inr {y : Fin 4} {k : Key} (h : .inr k ∈ toks y) : (∃ q s c, k = .ys q s c) ∨ ∃ s c, k = .xs s c := by
  unfold toks at h
  simp only [List.mem_append, List.mem_map] at h
  rcases h with (⟨v, hv, e⟩ | ⟨i, _, e⟩) | ⟨i, _, e⟩
  · cases e
  · cases e; exact .inl ⟨_, _, _, rfl⟩
  · cases e; exact .inr ⟨_, _, rfl⟩

/-- A debt to another device is never the end of a send. -/
theorem due_key_ne (u : Due) {k : Key} (h : (∃ q s c, k = .ys q s c) ∨ ∃ s c, k = .xs s c) : u.key ≠ k := by
  rcases h with ⟨q, s, c, rfl⟩ | ⟨s, c, rfl⟩ <;> cases u <;> exact fun e => by cases e

/-- Every duty is performed by one device as one of these. -/
theorem tokOf_inj {d d' : Dev nD} {t t' : Due ⊕ Key} (ht : t ∈ toks (yF d)) (ht' : t' ∈ toks (yF d')) (h : tokOf d t = tokOf d' t') :
    d = d' ∧ t = t' := by
  have h1 : (tokOf d t).1 = (tokOf d' t').1 := congrArg Prod.fst h
  have h2 : (tokOf d t).2.2 = (tokOf d' t').2.2 := congrArg (fun x => x.2.2) h
  cases t with
  | inl u => cases t' with
    | inl u' =>
      have hc := cell_inj h1
      have e := payer_due d u (toks_inl ht)
      rw [hc.1, hc.2, show u.duty = u'.duty from h2, payer_due d' u' (toks_inl ht')] at e
      cases e; exact ⟨rfl, rfl⟩
    | inr k => exact absurd (cell_inj h1).2 (due_key_ne u (toks_inr ht'))
  | inr k => cases t' with
    | inl u' => exact absurd (cell_inj h1).2.symm (due_key_ne u' (toks_inr ht))
    | inr k' => obtain ⟨rfl, rfl⟩ := cell_inj h1; exact ⟨rfl, rfl⟩

/-- The right to perform one. -/
def right (d : Dev nD) (t : Due ⊕ Key) : sProp 𝕄 := dutyTok ER (tokOf d t).1 (tokOf d t).2.1 (tokOf d t).2.2

/-! ## The credit -/

/-- The cells others owe to. -/
def heard : List Key := .bar :: (places.map (fun i => .yr i.1 i.2) ++ places.map (fun i => .xr i.1 i.2))

/-- No cell is listed twice. -/
theorem heard_nodup : heard.Nodup := by decide +kernel

/-- The credit for a cell's duties. -/
def credit (d : Dev nD) (k : Key) : sProp 𝕄 := cred (tallyAt (cell d k) () ((k.duties (yF d)).card * k.amt))

/-! ## The pieces -/

/-- A cell without duties counts as finished from the start. -/
theorem shut_unused (d : Dev nD) (k : Key) (h : k.duties (yF d) = ∅) : (atPos ER (cell d k) 0 ∅ 0 : sProp 𝕄) ⊢ shut m (cell d k) := by
  unfold shut
  iintro H
  iexists 0
  isplitr
  rotate_left
  · iexact H
  · ipureintro
    intro r _
    rcases Nat.eq_zero_or_pos r with rfl | hr
    · rw [duties_cell, h]
    · exact duties_later m _ r hr

/-- The barrier's units are as many as the neighbours. -/
theorem nbrs_card (d : Dev nD) : ((Key.bar).duties (yF d)).card * Key.bar.amt = (nbrs (yF d)).length := by
  show ((nbrs (yF d)).toFinset).card * 1 = _
  rw [Nat.mul_one, List.toFinset_card_of_nodup (nbrs_nodup _)]

/-- The right to send a chunk along `y`, or, where it is not sent, the semaphore not used. -/
theorem begin_ys (d : Dev nD) (i : Fin 2 × Fin 4 × Fin 8) :
    iprop((if sendsTo (yF d) i.1 i.2.1 then right d (.inl (.y i.1 i.2.1 i.2.2)) else iprop(emp))
        ∗ (if sendsTo (yF d) i.1 i.2.1 then right d (.inr (.ys i.1 i.2.1 i.2.2)) else iprop(emp)) ∗ atPos ER (cell d (.ys i.1 i.2.1 i.2.2)) 0 ∅ 0)
      ⊢ mean m d (if sendsTo (yF d) i.1 i.2.1 then .yT i.1 i.2.1 i.2.2 else .ysZ i.1 i.2.1 i.2.2) := by
  by_cases h : sendsTo (yF d) i.1 i.2.1 = true
  · rw [if_pos h, if_pos h, if_pos h]
    simp only [mean, right]
    iintro ⟨H1, H2, H3⟩
    isplitl [H2]; · iexact H2
    isplitl [H1]; · iexact H1
    iexact H3
  · rw [if_neg h, if_neg h, if_neg h]
    simp only [mean]
    iintro ⟨-, -, H⟩
    iapply (shut_unused m d (.ys i.1 i.2.1 i.2.2) (if_neg h))
    iexact H

/-- The right to send a chunk to the partner, or, of a chunk of the own block, the semaphore not used. -/
theorem begin_xs (d : Dev nD) (i : Fin 4 × Fin 8) :
    iprop((if decide (i.1 ≠ yF d) then right d (.inl (.x i.1 i.2)) else iprop(emp))
        ∗ (if decide (i.1 ≠ yF d) then right d (.inr (.xs i.1 i.2)) else iprop(emp)) ∗ atPos ER (cell d (.xs i.1 i.2)) 0 ∅ 0)
      ⊢ mean m d (if i.1 = yF d then .xsZ i.1 i.2 else .xT i.1 i.2) := by
  by_cases h : i.1 = yF d
  · rw [if_neg (by simpa using h), if_neg (by simpa using h), if_pos h]
    simp only [mean]
    iintro ⟨-, -, H⟩
    iapply (shut_unused m d (.xs i.1 i.2) (if_pos h))
    iexact H
  · rw [if_pos (by simpa using h), if_pos (by simpa using h), if_neg h]
    simp only [mean, right]
    iintro ⟨H1, H2, H3⟩
    isplitl [H2]; · iexact H2
    isplitl [H1]; · iexact H1
    iexact H3

/-- The right to wait for a chunk along `y`, or, of a chunk of the own block, the semaphore not used. -/
theorem begin_yr (d : Dev nD) (i : Fin 4 × Fin 8) :
    iprop(credit d (.yr i.1 i.2) ∗ atPos ER (cell d (.yr i.1 i.2)) 0 ∅ 0)
      ⊢ mean m d (if i.1 = yF d then .yrZ i.1 i.2 else .yrP i.1 i.2) := by
  by_cases h : i.1 = yF d
  · rw [if_pos h]
    simp only [mean]
    iintro ⟨-, H⟩
    iapply (shut_unused m d (.yr i.1 i.2) (if_pos h))
    iexact H
  · have e : ((Key.yr i.1 i.2).duties (yF d)).card * (Key.yr i.1 i.2).amt = N := by
      rw [show (Key.yr i.1 i.2).duties (yF d) = {0} from if_neg h]; exact Nat.one_mul N
    rw [if_neg h]
    simp only [mean, credit]
    rw [e]

/-- The right to wait for a chunk from the partner, or, of a chunk of the own block, the semaphore not used. -/
theorem begin_xr (d : Dev nD) (i : Fin 4 × Fin 8) :
    iprop(credit d (.xr i.1 i.2) ∗ atPos ER (cell d (.xr i.1 i.2)) 0 ∅ 0)
      ⊢ mean m d (if i.1 = yF d then .xrZ i.1 i.2 else .xrP i.1 i.2) := by
  by_cases h : i.1 = yF d
  · rw [if_pos h]
    simp only [mean]
    iintro ⟨-, H⟩
    iapply (shut_unused m d (.xr i.1 i.2) (if_pos h))
    iexact H
  · have e : ((Key.xr i.1 i.2).duties (yF d)).card * (Key.xr i.1 i.2).amt = N := by
      rw [show (Key.xr i.1 i.2).duties (yF d) = {0} from if_neg h]; exact Nat.one_mul N
    rw [if_neg h]
    simp only [mean, credit]
    rw [e]

/-- The cells with duties, kind by kind. -/
theorem ringKeys_eq : ringKeys = .bar :: (sends.map (fun i => .ys i.1 i.2.1 i.2.2) ++ places.map (fun i => .xs i.1 i.2) ++
    places.map (fun i => .yr i.1 i.2) ++ places.map (fun i => .xr i.1 i.2)) := by decide +kernel

/-- What a device starts with, whole. -/
def begun (d : Dev nD) : sProp 𝕄 :=
  iprop((each ringKeys fun k => atPos ER (cell d k) 0 ∅ 0) ∗ each (toks (yF d)) (right d) ∗ each heard (credit d)
    ∗ (each f2 fun i => semVal (cell d (.ld i)) 0) ∗ (each cs fun c => semVal (cell d (.st c)) 0)
    ∗ (xLoc d ↦{fullShare} xval m d) ∗ (∃ f : GV F, oLoc d ↦{fullShare} f)
    ∗ (∃ f : GV F, cLoc d ↦{fullShare} f) ∗ (∃ f : FVec F S2x256x1024 .f32, sLoc d ↦{fullShare} f))

/-- What a device starts with makes up the pieces its plan starts from. -/
theorem begun_start (d : Dev nD) : begun m d ⊢ each (start (yF d)) (mean m d) := by
  have hc (f : GV F) : (cLoc d ↦{fullShare} f : sProp 𝕄) ⊢ each chunks fun i => iprop(∃ f : GV F, cPt d d (i.1, i.2.1, i.2.2) fullShare f) := by
    rw [whole_c]; exact each_mono fun i _ => by iintro H; iexists f; iexact H
  have ho (f : GV F) : (oLoc d ↦{fullShare} f : sProp 𝕄) ⊢ each chunks fun i => iprop(∃ f : GV F, oPt d (i.1, i.2.1, i.2.2) f) := by
    rw [whole_o]; exact each_mono fun i _ => by iintro H; iexists f; iexact H
  have hs (f : FVec F S2x256x1024 .f32) : (sLoc d ↦{fullShare} f : sProp 𝕄) ⊢ each f2 fun i => iprop(∃ f, sPt d i f) := by
    rw [whole_s]; exact each_mono fun i _ => by iintro H; iexists f; iexact H
  have hx : (xLoc d ↦{fullShare} xval m d : sProp 𝕄) ⊢ each owns fun i => xPt m d (i.1, i.2) := Entails.of_eq (whole_x m d)
  have h1 := each_mono (l := sends) fun i _ => begin_ys m d i
  have h2 := each_mono (l := places) fun i _ => begin_xs m d i
  have h3 := each_mono (l := places) fun i _ => begin_yr m d i
  have h4 := each_mono (l := places) fun i _ => begin_xr m d i
  rw [each_side, each_side] at h1 h2
  rw [each_side] at h3 h4
  have hb : credit (F := F) d .bar ⊢ cred (tallyAt (cell d .bar) () (nbrs (yF d)).length) := by
    unfold credit; rw [nbrs_card]
  unfold begun
  rw [ringKeys_eq, each_cons]
  unfold heard
  rw [each_cons]
  unfold start toks dues
  simp only [List.map_append, List.map_map, each_append, each_one, each_map, each_filter, side_assoc, Function.comp_def]
  iintro ⟨Hb, Hys, Hxs, Hyr, Hxr, Rb, Ry, Rx, Rys, Rxs, Cb, Cyr, Cxr, Hld, Hst, Hx, ⟨%fo, Ho⟩, ⟨%fc, Hc⟩, ⟨%fs, Hs⟩⟩
  isplitl [Hs]; · iapply (hs fs); iexact Hs
  isplitl [Hld]; · iexact Hld
  isplitl [Hst]; · iexact Hst
  isplitl [Hx]; · iapply hx; iexact Hx
  isplitl [Hc]; · iapply (hc fc); iexact Hc
  isplitl [Ho]; · iapply (ho fo); iexact Ho
  isplitl [Hys Ry Rys]
  · iapply h1
    isplitl [Ry]; · iexact Ry
    isplitl [Rys]; · iexact Rys
    iexact Hys
  isplitl [Hxs Rx Rxs]
  · iapply h2
    isplitl [Rx]; · iexact Rx
    isplitl [Rxs]; · iexact Rxs
    iexact Hxs
  isplitl [Hyr Cyr]
  · iapply h3
    isplitl [Cyr]; · iexact Cyr
    iexact Hyr
  isplitl [Hxr Cxr]
  · iapply h4
    isplitl [Cxr]; · iexact Cxr
    iexact Hxr
  isplitl [Rb]; · iexact Rb
  simp only [mean]
  isplitl [Cb]; · iapply hb; iexact Cb
  iexact Hb

end Cert.Gather
end
-- ==== Proof.Credit.lean ====
/-
  The credit at launch: what all devices together owe a cell is the units of the cell's duties.
-/
module

public import proofs.«01_k».proof.Proof.Begin

@[expose] public section

set_option maxRecDepth 100000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The set of a list put into a set. -/
theorem bits_putAll {α : Type} [Fintype α] [DecidableEq α] {code : α → ℕ} (hc : Function.Injective code) :
    ∀ (l : List α) (σ σ' : ℕ), putAll code l σ = some σ' → bits code σ' = l.toFinset ∪ bits code σ
  | [], σ, σ', h => by cases h; rw [List.toFinset_nil, Finset.empty_union]
  | a :: l, σ, σ', h => by
    unfold putAll at h
    by_cases ha : σ.testBit (code a) = true
    · rw [if_pos ha] at h; cases h
    · rw [if_neg ha] at h
      rw [bits_putAll hc l _ _ h, bits_put hc ha, List.toFinset_cons, Finset.union_insert, Finset.insert_union]

/-- The set of debts at launch holds those the device owes. -/
theorem mem_dues₀ (y : Fin 4) (u : Due) : u ∈ bits Due.code (dues₀ y) ↔ u.used y = true := by
  rw [bits_putAll Due.code_inj _ _ _ (dues_ok y), bits_zero, Finset.union_empty, List.mem_toFinset, mem_dues]

/-- What a device owes at launch. -/
def O₀ (d : Dev nD) : CellTallies nD τ sig Unit := debt d (bits Due.code (dues₀ (yF d)))

/-- What a set of debts owes to one cell. -/
theorem debt_at (d : Dev nD) (S : Finset Due) (c : Dev nD) (k : Key) :
    debt d S (cell c k) () = ∑ u ∈ S, if u.dev d = c ∧ u.key = k then k.amt else 0 := by
  unfold debt
  rw [Finset.sum_apply, Finsupp.finset_sum_apply]
  refine Finset.sum_congr rfl fun u _ => ?_
  rw [tallyAt_apply]
  by_cases h : u.dev d = c ∧ u.key = k
  · obtain ⟨rfl, rfl⟩ := h
    rw [if_pos ⟨rfl, rfl⟩, if_pos ⟨rfl, rfl⟩]
  · rw [if_neg h, if_neg fun e => h ⟨(cell_inj e.1).1.symm, (cell_inj e.1).2.symm⟩]

/-- The debts to a cell of all devices are the cell's duties. -/
theorem owed_all (c : Dev nD) (k : Key) (hk : k = .bar ∨ (∃ s c, k = .yr s c) ∨ ∃ s c, k = .xr s c) :
    ∑ d : Dev nD, O₀ d (cell c k) () = (k.duties (yF c)).card * k.amt := by
  have e (d : Dev nD) : O₀ d (cell c k) () = ∑ u : Due, if u.used (yF d) = true ∧ u.dev d = c ∧ u.key = k then k.amt else 0 := by
    unfold O₀
    rw [debt_at, ← Finset.sum_subset (Finset.subset_univ (bits Due.code (dues₀ (yF d))))]
    · exact Finset.sum_congr rfl fun u hu => if_congr (by rw [and_iff_right ((mem_dues₀ _ u).mp hu)]) rfl rfl
    · intro u _ hu
      exact if_neg fun h => hu ((mem_dues₀ _ u).mpr h.1)
  rw [Finset.sum_congr rfl fun d _ => e d, ← Finset.sum_product', ← Finset.sum_filter, Finset.sum_const, smul_eq_mul]
  congr 1
  refine (Finset.card_bij (fun t _ => payer c k t) ?_ ?_ ?_).symm
  · intro t ht
    have h := due_payer c k t ht hk
    exact Finset.mem_filter.mpr ⟨Finset.mem_product.mpr ⟨Finset.mem_univ _, Finset.mem_univ _⟩, h.1, h.2.1, h.2.2.1⟩
  · intro t ht t' ht' h
    have h1 := (due_payer c k t ht hk).2.2.2
    have h2 := (due_payer c k t' ht' hk).2.2.2
    rw [← h1, ← h2, h]
  · rintro ⟨d, u⟩ hu
    obtain ⟨-, h1, h2, h3⟩ := Finset.mem_filter.mp hu
    have hd := duty_due d u h1
    have hp := payer_due d u h1
    dsimp only at h1 h2 h3
    rw [h2, h3] at hd hp
    exact ⟨u.duty, hd, hp⟩

/-- The cells others owe to are the barrier and the arrivals. -/
theorem heard_kind {k : Key} (h : k ∈ heard) : k = .bar ∨ (∃ s c, k = .yr s c) ∨ ∃ s c, k = .xr s c := by
  unfold heard at h
  simp only [List.mem_cons, List.mem_append, List.mem_map] at h
  rcases h with h | ⟨i, _, rfl⟩ | ⟨i, _, rfl⟩
  · exact .inl h
  · exact .inr (.inl ⟨_, _, rfl⟩)
  · exact .inr (.inr ⟨_, _, rfl⟩)

/-- The launch credit of a cell. -/
theorem launch_cell (c : Dev nD) {k : Key} (h : k ∈ heard) :
    tallyOn (cell c k) (launchCredit (Pipeline.owing O₀) 0 (cell c k)) = (tallyAt (cell c k) () ((k.duties (yF c)).card * k.amt) : CellTallies nD τ sig Unit) := by
  unfold tallyAt; refine congrArg _ (Finsupp.ext fun u => ?_); cases u
  rw [Pipeline.launchCredit_owing, Finsupp.single_eq_same, owed_all c k (heard_kind h)]

/-- A device's credit at launch, cell by cell. -/
theorem launch_credit (c : Dev nD) : (Pipeline.launchCred O₀ c : sProp 𝕄) ⊢ each heard (credit c) := by
  have e : each heard (credit (F := F) c) = bigSep (heard.toFinset.map ⟨Key.sem, Key.sem_inj⟩) fun sm : SemLoc sig =>
      (cred (tallyOn ((c : Thread nD τ), sm) (launchCredit (Pipeline.owing O₀) 0 ((c : Thread nD τ), sm))) : sProp 𝕄) := by
    rw [each_eq_bigSep heard_nodup, bigSep_map]
    exact bigSep_congr fun k hk => by unfold credit; rw [← launch_cell c (List.mem_toFinset.mp hk)]; rfl
  rw [e]
  unfold Pipeline.launchCred
  exact bigSep_subset (Finset.subset_univ _)

end Cert.Gather
end
-- ==== Proof.Deal.lean ====
/-
  The launch: every device is dealt its positions, and the rights to pay what it owes; the cells' invariants are set up from the semaphores at zero.
-/
module

public import proofs.«01_k».proof.Proof.Credit

@[expose] public section

set_option maxRecDepth 100000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Dealing -/

/-- What the devices' lists name, all together. -/
def dealSet {J A : Type} [DecidableEq A] (l : Dev nD → List J) (f : Dev nD → J → A) : Finset A :=
  ((List.finRange nD).flatMap fun d => (l d).map (f d)).toFinset

/-- What is among the things named. -/
theorem mem_dealSet {J A : Type} [DecidableEq A] {l : Dev nD → List J} {f : Dev nD → J → A} {a : A} :
    a ∈ dealSet l f ↔ ∃ d, ∃ t ∈ l d, f d t = a := by
  unfold dealSet
  rw [List.mem_toFinset, List.mem_flatMap]
  constructor
  · rintro ⟨d, _, h⟩; exact ⟨d, List.mem_map.mp h⟩
  · rintro ⟨d, h⟩; exact ⟨d, List.mem_finRange d, List.mem_map.mpr h⟩

/-- Things named by the devices' lists without repetition, dealt to the devices. -/
theorem deal {J A : Type} [DecidableEq A] (l : Dev nD → List J) (f : Dev nD → J → A) (hl : ∀ d, (l d).Nodup)
    (hf : ∀ d d' t t', t ∈ l d → t' ∈ l d' → f d t = f d' t' → d = d' ∧ t = t') (Φ : A → sProp 𝕄) :
    bigSep (dealSet l f) Φ = bigSep Finset.univ fun d : Dev nD => each (l d) fun t => Φ (f d t) := by
  have hn : ((List.finRange nD).flatMap fun d => (l d).map (f d)).Nodup := by
    refine List.nodup_flatMap.mpr ⟨fun d _ => ?_, ?_⟩
    · exact (List.nodup_map_iff_inj_on (hl d)).mpr fun t ht t' ht' e => (hf d d t t' ht ht' e).2
    · refine (List.nodup_finRange nD).imp ?_
      intro d d' hne a ha ha'
      obtain ⟨t, ht, rfl⟩ := List.mem_map.mp ha
      obtain ⟨t', ht', e⟩ := List.mem_map.mp ha'
      exact hne (hf d d' t t' ht ht' e.symm).1
  unfold dealSet
  rw [← each_eq_bigSep hn, each_flatMap, each_eq_univ (List.nodup_finRange nD) List.mem_finRange]
  exact bigSep_congr fun d _ => each_map _ _ _

/-- The cells with duties, -/
def cells : Finset (GSem nD τ sig) := dealSet (fun _ => ringKeys) cell
/-- and all duties. -/
def duties : Finset (GSem nD τ sig × ℕ × Fin 3) := dealSet (fun d => toks (yF d)) tokOf

/-- Something of every cell is, on every device, the same of each role. -/
theorem deal_cells (Φ : GSem nD τ sig → sProp 𝕄) : bigSep cells Φ = bigSep Finset.univ fun d : Dev nD => each ringKeys fun k => Φ (cell d k) := by
  unfold cells
  exact deal (fun _ => ringKeys) cell (fun _ => ringKeys_nodup) (fun _ _ _ _ _ _ e => cell_inj e) Φ

/-- Something of every duty is, on every device, the same of each duty it performs. -/
theorem deal_duties (Φ : GSem nD τ sig × ℕ × Fin 3 → sProp 𝕄) :
    bigSep duties Φ = bigSep Finset.univ fun d : Dev nD => each (toks (yF d)) fun t => Φ (tokOf d t) := by
  unfold duties
  exact deal (fun d => toks (yF d)) tokOf (fun d => toks_nodup (yF d)) (fun _ _ _ _ h h' e => tokOf_inj h h' e) Φ

/-- The pairs named are all pairs of a device and a member of the list. -/
theorem mem_pairs {J : Type} [DecidableEq J] (l : List J) (d : Dev nD) (k : J) :
    (d, k) ∈ dealSet (fun _ => l) Prod.mk ↔ (d, k) ∈ (Finset.univ : Finset (Dev nD)) ×ˢ l.toFinset := by
  rw [mem_dealSet, Finset.mem_product, List.mem_toFinset]
  constructor
  · rintro ⟨d', k', h, e⟩; cases e; exact ⟨Finset.mem_univ _, h⟩
  · rintro ⟨_, h⟩; exact ⟨d, k, h, rfl⟩

/-- The pairs of a device and a role with duties, as named by the devices. -/
theorem ring_pairs : ringCells = dealSet (fun _ => ringKeys) Prod.mk :=
  Finset.ext fun x => (mem_pairs ringKeys x.1 x.2).symm

/-- Something of every such pair is, on every device, the same of each role. -/
theorem deal_ring (Φ : Dev nD × Key → sProp 𝕄) : bigSep ringCells Φ = bigSep Finset.univ fun d : Dev nD => each ringKeys fun k => Φ (d, k) := by
  rw [ring_pairs]
  exact deal (fun _ => ringKeys) Prod.mk (fun _ => ringKeys_nodup) (fun _ _ _ _ _ _ e => Prod.mk.inj e) Φ

/-! ## What is minted -/

/-- What a device is dealt. -/
def dealt (d : Dev nD) : sProp 𝕄 :=
  iprop((each ringKeys fun k => roundState ER (Rd m) (cell d k) 0) ∗ (each ringKeys fun k => reached ER (cell d k) 0)
    ∗ (each ringKeys fun k => atPos ER (cell d k) 0 ∅ 0) ∗ each (toks (yF d)) (right d))

/-- The launch's ghost element deals every device its share. -/
theorem mint : BI.own (ER (initOf cells duties)) ⊢ (|==> bigSep Finset.univ (dealt m) : sProp 𝕄) := by
  have hT : bigSep duties (fun x => (dutyTok ER x.1 x.2.1 x.2.2 : sProp 𝕄)) = bigSep Finset.univ fun d : Dev nD => each (toks (yF d)) (right d) := by
    rw [deal_duties]; rfl
  iintro HX
  imod (Rounds.fund ER (Rd m) cells duties) $$ HX with ⟨Hst, Hr, Hat, Htok⟩
  imodintro
  ihave Hst' := (Entails.of_eq (deal_cells fun g => roundState ER (Rd m) g 0)) $$ Hst
  ihave Hat' := (Entails.of_eq (deal_cells fun g => atPos ER g 0 ∅ 0)) $$ Hat
  ihave Hr' := (Entails.of_eq (deal_cells fun g => reached ER g 0)) $$ Hr
  ihave Htok' := (Entails.of_eq hT) $$ Htok
  unfold dealt; simp only [bigSep_sep']
  isplitl [Hst']; · iexact Hst'
  isplitl [Hr']; · iexact Hr'
  isplitl [Hat']; · iexact Hat'
  iexact Htok'

/-! ## The semaphores at launch -/

/-- The semaphores the kernel owns: the transfers'. -/
abbrev osem : DmaSem sig → SemLoc sig := SemLoc.dma

/-- The kernel's own semaphores are the transfers', each once. -/
theorem ownSemFacts : Pipeline.OwnSemFacts cfg0.spec osem := by decide +kernel

/-- The kernel's own semaphores at zero, by role. -/
theorem own_sems (d : Dev nD) : (Pipeline.ownSems0 (Ix := Unit) (Name := ℕ) (U := UU) (Lvl := ℕ) (Val := Elt F) (τ := τ) osem d : sProp 𝕄)
    = each dmaKeys fun k => semVal (cell d k) 0 := by
  have hn : ((List.finRange 170).map fun n : DmaSem sig => keyOf (.dma n)).Nodup :=
    (List.nodup_map_iff_inj_on (List.nodup_finRange 170)).mpr fun a _ b _ e => by
      have := congrArg Key.sem e
      rw [sem_dma, sem_dma] at this
      exact SemLoc.dma.inj this
  have hp : ((List.finRange 170).map fun n : DmaSem sig => keyOf (.dma n)).toFinset = dmaKeys.toFinset := by
    refine Finset.eq_of_subset_of_card_le (fun k hk => ?_) ?_
    · obtain ⟨n, _, rfl⟩ := List.mem_map.mp (List.mem_toFinset.mp hk)
      exact List.mem_toFinset.mpr (mem_dmaKeys n)
    · rw [List.toFinset_card_of_nodup hn, List.toFinset_card_of_nodup dmaKeys_nodup, List.length_map, List.length_finRange]
      decide +kernel
  rw [each_eq_bigSep dmaKeys_nodup, ← hp, ← each_eq_bigSep hn, each_map, each_eq_univ (List.nodup_finRange 170) List.mem_finRange]
  exact bigSep_congr fun n _ => by
    show semVal ((d : Thread nD τ), SemLoc.dma n) 0 = semVal ((d : Thread nD τ), (keyOf (.dma n)).sem) 0
    rw [sem_dma]

/-- The one other semaphore is the barrier's. -/
theorem unscoped_sems (d : Dev nD) : (unscopedSems0 d : sProp 𝕄) = semVal (cell d .bar) 0 := by
  unfold unscopedSems0; rw [bigSep_eq_bigSepL_of_eq [SemLoc.reg baS] (by decide +kernel) (by decide +kernel)]; rfl

/-- The local copies' roles come first. -/
theorem dmaKeys_split : dmaKeys = f2.map .ld ++ (cs.map .st ++ dmaKeys.drop 10) := by decide +kernel

/-! ## The invariants -/

/-- The local copies' semaphores. -/
def locals (d : Dev nD) : sProp 𝕄 :=
  iprop((each f2 fun i => semVal (cell d (.ld i)) 0) ∗ each cs fun c => semVal (cell d (.st c)) 0)

/-- The semaphores at zero: those of the cells with duties and those of the local copies. -/
theorem sems_split (d : Dev nD) : iprop(Pipeline.ownSems0 (Ix := Unit) (Name := ℕ) (U := UU) (Lvl := ℕ) (Val := Elt F) (τ := τ) osem d ∗ unscopedSems0 d)
    ⊢ (iprop((each ringKeys fun k => semVal (cell d k) 0) ∗ locals d) : sProp 𝕄) := by
  rw [own_sems, unscoped_sems, dmaKeys_split, each_append, each_append, each_map, each_map]
  unfold ringKeys locals
  rw [each_cons Key.bar]
  iintro ⟨⟨Hl, Hs, Hr⟩, Hb⟩
  isplitl [Hb Hr]
  · isplitl [Hb]; · iexact Hb
    iexact Hr
  isplitl [Hl]; · iexact Hl
  iexact Hs

/-- What a device holds once its cells' invariants are set up. -/
def placed (d : Dev nD) : sProp 𝕄 :=
  iprop((each ringKeys fun k => atPos ER (cell d k) 0 ∅ 0) ∗ each (toks (yF d)) (right d) ∗ locals d)

/-- A device's semaphores at zero and its share become its cells' invariants and what it holds. -/
theorem set_up (d : Dev nD) :
    iprop(Pipeline.ownSems0 (Ix := Unit) (Name := ℕ) (U := UU) (Lvl := ℕ) (Val := Elt F) (τ := τ) osem d ∗ unscopedSems0 d ∗ dealt m d)
      ⊢ |={Set.univ}=> iprop((each ringKeys fun k => iprop(∃ κ : ℕ, cellInv ER (Rd m) κ (cell d k)))
          ∗ (each ringKeys fun k => reached ER (cell d k) 0) ∗ placed d) := by
  have hi : iprop((each ringKeys fun k => semVal (cell d k) 0) ∗ each ringKeys fun k => roundState ER (Rd m) (cell d k) 0)
      ⊢ (|={Set.univ}=> each ringKeys fun k => iprop(∃ κ : ℕ, cellInv ER (Rd m) κ (cell d k)) : sProp 𝕄) := by
    rw [← each_side, each_eq_bigSep ringKeys_nodup, each_eq_bigSep ringKeys_nodup]
    exact (bigSep_mono fun k _ => (Rounds.body_intro ER (Rd m) (cell d k)).trans inv_alloc).trans (bigSep_fupd _ _)
  unfold dealt placed
  iintro ⟨Hos, Hus, Hst, Hr, Hat, Htok⟩
  ihave Hv := (sems_split (F := F) d) $$ [Hos Hus]
  · isplitl [Hos] <;> iassumption
  icases Hv with ⟨Hv, Hl⟩
  imod hi $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hl

/-- The invariants and that every cell is in its first round. -/
def records (K : Dev nD × Key → ℕ) : sProp 𝕄 :=
  iprop((bigSep ringCells fun dk => cellInv ER (Rd m) (K dk) (cell dk.1 dk.2)) ∗ bigSep ringCells fun dk => reached ER (cell dk.1 dk.2) 0)

instance records_persistent (K : Dev nD × Key → ℕ) : BI.Persistent (records m K) := by unfold records; infer_instance

/-- What a device holds at launch of the plan. -/
def placed' (d : Dev nD) : sProp 𝕄 := iprop(∃ K, records m K ∗ placed d)

/-- What may be repeated is given to every device. -/
theorem share_records {R : sProp 𝕄} [BI.Persistent R] {Φ Ψ : Dev nD → sProp 𝕄} (h : ∀ d, iprop(R ∗ Φ d) ⊢ Ψ d) :
    iprop(R ∗ bigSep Finset.univ Φ) ⊢ bigSep Finset.univ Ψ :=
  (sep_mono_left (BI.bigSep_of_persistent Finset.univ R)).trans (by rw [← bigSep_sep']; exact bigSep_mono fun d _ => h d)

/-- All devices' invariants are collected, and every device is given all of them. -/
theorem gather_records :
    (bigSep Finset.univ fun d : Dev nD => iprop((each ringKeys fun k => iprop(∃ κ : ℕ, cellInv ER (Rd m) κ (cell d k)))
          ∗ (each ringKeys fun k => reached ER (cell d k) 0) ∗ placed d) : sProp 𝕄)
      ⊢ bigSep Finset.univ (placed' m) := by
  have h (K : Dev nD × Key → ℕ) (d : Dev nD) : iprop(records m K ∗ placed d) ⊢ placed' m d := by
    unfold placed'; iintro H; iexists K; iexact H
  rw [bigSep_sep', bigSep_sep', ← deal_ring (fun dk => iprop(∃ κ : ℕ, cellInv ER (Rd m) κ (cell dk.1 dk.2))),
    ← deal_ring (fun dk => reached ER (cell dk.1 dk.2) 0)]
  iintro ⟨HI, #HR, Hp⟩
  ihave HK := (BI.bigSep_exists_pi ringCells (fun (dk : Dev nD × Key) (κ : ℕ) => (cellInv ER (Rd m) κ (cell dk.1 dk.2) : sProp 𝕄))) $$ HI
  icases HK with ⟨%K, #HI⟩
  iapply (share_records (R := records m K) fun d => h K d)
  isplitr
  · unfold records; isplitl; · iexact HI
    iexact HR
  · iexact Hp

/-- From the semaphores at zero and what is dealt to what each device holds. -/
theorem glob : (bigSep Finset.univ fun d => iprop(Pipeline.ownSems0 (Ix := Unit) (Name := ℕ) (U := UU) (Lvl := ℕ) (Val := Elt F) (τ := τ) osem d ∗ unscopedSems0 d ∗ dealt m d) : sProp 𝕄)
    ⊢ |={Set.univ}=> bigSep Finset.univ (placed' m) :=
  ((bigSep_mono fun d _ => set_up m d).trans (bigSep_fupd _ _)).trans (BI.fupd_mono (gather_records m))

end Cert.Gather
end
-- ==== Proof.Launch.lean ====
/-
  The launch and the whole run: every device's result is the gathered rows.
-/
module

public import proofs.«01_k».proof.Proof.Deal
public import proofs.«01_k».proof.Proof.Gen.KernelIdeal.Launch
public import Idealize.ShloMosaic.Lib.Pipeline.Kit
public import Idealize.ShloMosaic.Lib.Pipeline.CollectiveSegs

@[expose] public section

set_option maxRecDepth 100000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

/-! ## The region's description -/

/-- Before the kernel: all is known and the plan's pieces are held. -/
def before (d : Dev nD) : sProp 𝕄 := iprop(∃ K, known m K ∗ each (start (yF d)) (mean m d))

/-- What holds before and after the region's one point, and what is owed there. -/
def dats (_ : Fin 1) (c : Dev nD) : Dat τ (Elt F) Unit ℕ UU ℕ cfg0 c where
  A w := (show Fin 0 from w).elim0
  after w _ := (show Fin 0 from w).elim0
  Φ t := match t with
    | ⟨0, _⟩ => before m c
    | ⟨_ + 1, _⟩ => ended m c
  q _ := fullShare
  owed t := match t with
    | ⟨0, _⟩ => O₀ c
    | ⟨_ + 1, _⟩ => 0

/-- No debts owe nothing. -/
theorem none_left (d : Dev nD) : debt d (bits Due.code 0) = 0 := by
  rw [bits_zero]; exact Finset.sum_empty

/-- What a device owes at launch is its plan's debts. -/
theorem owing_start (d : Dev nD) (W) : owes (d : Thread nD τ) (O₀ d) W ⊢ (owing d (dues₀ (yF d)) : sProp 𝕄) := by
  unfold owing O₀
  iintro H
  isplitr; · ipureintro; exact fun u hu => (mem_dues₀ _ u).mp hu
  iexists W; iexact H

/-- A device without debts owes nothing. -/
theorem owing_end (d : Dev nD) : (owing d 0 : sProp 𝕄) ⊢ iprop(∃ W, owes (d : Thread nD τ) 0 W) := by
  unfold owing
  rw [none_left]
  iintro ⟨-, H⟩; iexact H

/-- The region's one point: the whole kernel. -/
theorem body_obligation (c : Dev nD) : BodyObligation (dats (F := F) m 0 c) (defs₀ (F := F)) 𝒱₀ () Set.univ := fun t => by
  rw [fin_N0 t]
  have h (K : Dev nD × Key → ℕ) := run_body m K c fun _ => iprop(ended m c ∗ (dats (F := F) m 0 c).owesAt () (t0_0 : Fin cfg0.N).succ ∗ emp)
  unfold Runs at h
  have hW (Φ : Fin cfg0.W → sProp 𝕄) : bigSep Finset.univ Φ = iprop(emp) := by
    rw [show (Finset.univ : Finset (Fin cfg0.W)) = ∅ from rfl, bigSep_empty]; rfl
  rw [hW, hW]
  show iprop(before m c ∗ (dats (F := F) m 0 c).owesAt () (t0_0 : Fin cfg0.N).castSucc ∗ emp)
    ⊢ wp frame (wpE (defs₀ (F := F)) 𝒱₀ (c : Thread nD τ) none) Set.univ (bodyAt0 (F := F) ⟨0, by decide⟩)
      fun _ => iprop(ended m c ∗ (dats (F := F) m 0 c).owesAt () (t0_0 : Fin cfg0.N).succ ∗ emp)
  unfold before
  unfold Dat.owesAt Pipeline.owesWithin at h ⊢
  rw [show (dats m 0 c).owed (t0_0 : Fin cfg0.N).castSucc = O₀ c from rfl]
  rw [show (dats m 0 c).owed (t0_0 : Fin cfg0.N).succ = 0 from rfl] at h ⊢
  iintro ⟨⟨%K, HK, Hs⟩, ⟨%W, -, HO⟩, -⟩
  iapply (h K) $$ [HK Hs HO]
  · isplitl [HK]; · iexact HK
    isplitl [Hs]; · iexact Hs
    iapply (owing_start (F := F) c W); iexact HO
  iintro ⟨He, HO⟩
  ihave HO' := (owing_end (F := F) c) $$ HO
  icases HO' with ⟨%W', HO'⟩
  isplitl [He]; · iexact He
  isplitl [HO']
  · iexists W'
    isplitr; · ipureintro; exact fun _ _ => Or.inl trivial
    iexact HO'
  iempintro

/-! ## The launch -/

/-- There is no window whose share could be in question. -/
theorem share_eq (c : Dev nD) (w : Fin cfg0.W) : (dats m 0 c).share w = fullShare := (show Fin 0 from w).elim0

/-- The element dealt at launch. -/
def u₀ : UU := (initOf (Pipeline.cells cfgs cellOf_inj) (Pipeline.launchToks cfgs cellOf_inj), (initOf cells duties, 1))

/-- A device at the kernel's start, but for its scratch. -/
def ready (d : Dev nD) : sProp 𝕄 :=
  iprop((∃ K, known m K ∗ placed d) ∗ each heard (credit d) ∗ (xLoc d ↦{fullShare} xval m d) ∗ (∃ f : GV F, oLoc d ↦{fullShare} f))

/-- What the launch hands a device makes it ready. -/
theorem ready_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ placed' m c)
      ⊢ |={Set.univ}=> iprop(ready m c ∗ emp) := by
  rw [Pipeline.unscopedRestP_none, unscopedRest0_eq]
  unfold ready placed' records known
  iintro ⟨⟨Hx, Ho⟩, Hlev, Hcr, -, ⟨%K, ⟨HI, HR⟩, Hp⟩⟩
  ihave Hc := (launch_credit (F := F) c) $$ Hcr
  imodintro
  isplitl
  · isplitl [Hlev HI HR Hp]
    · iexists K
      isplitl [Hlev HI HR]
      · isplitl [HI]; · iexact HI
        isplitl [HR]; · iexact HR
        iexact Hlev
      iexact Hp
    isplitl [Hc]; · iexact Hc
    isplitl [Hx]; · iexact Hx
    iexists _; iexact Ho
  · iempintro

/-- A ready device with its scratch buffers holds the plan's pieces. -/
theorem before_intro (c : Dev nD) :
    iprop(ready m c ∗ Pipeline.prefHeld Pipeline.Prefetch.none c (fun _ => fullShare.right) (fun k => k.elim0) ∗ Pipeline.scopedRest cfg0.spec c)
      ⊢ (dats m 0 c).Φ 0 := by
  have h := begun_start m c
  unfold begun at h
  rw [show (dats m 0 c).Φ 0 = before m c from rfl, scopedRest0_eq]
  unfold ready before placed locals
  iintro ⟨⟨⟨%K, HK, Hp, Ht, Hl, Hs⟩, Hc, Hx, Ho⟩, -, H0, H1⟩
  iexists K
  isplitl [HK]; · iexact HK
  iapply h
  isplitl [Hp]; · iexact Hp
  isplitl [Ht]; · iexact Ht
  isplitl [Hc]; · iexact Hc
  isplitl [Hl]; · iexact Hl
  isplitl [Hs]; · iexact Hs
  isplitl [Hx]; · iexact Hx
  isplitl [Ho]; · iexact Ho
  isplitl [H0]; · iexact H0
  iexact H1

/-- What a device holds when the region is over. -/
def left (d : Dev nD) : sProp 𝕄 :=
  iprop(unscopedSems0 d ∗ (xLoc d ↦{fullShare} xval m d) ∗ (oLoc d ↦{fullShare} G m d))

/-- What a device ends with gives back its semaphores and scratch, and leaves its argument and result. -/
theorem ended_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = ended m c from rfl, scopedRest0_eq, own_sems]
  unfold ended left
  rw [unscoped_sems, each_cons Key.bar]
  iintro ⟨⟨Hb, Hd⟩, Hx, Ho, H0, H1⟩
  isplitl [Hb Hx Ho]
  · isplitl [Hb]; · iexact Hb
    isplitl [Hx]; · iexact Hx
    iexact Ho
  isplitl [Hd]; · iexact Hd
  isplitl [H0]; · iexact H0
  iexact H1

/-- There is no window to wait for. -/
theorem waits (c : Dev nD) : (levAts L lv : sProp 𝕄) ⊢ Pipeline.cellsWaits cfgs (dats m) () 0 c :=
  Pipeline.cellsWaits_intro cfgs (dats m) () 0 c fun w _ _ => (show Fin 0 from w).elim0

/-- What a device's memory shows at the end: its semaphores at zero, its argument as it was, its result. -/
def shows (c : Dev nD) (s : MemSt nD τ sig (Elt F)) : Prop :=
  (∀ sm : SemLoc sig, sm.isScoped .tc = false → s.sem ((c.tc : Thread nD τ), sm) = 0) ∧ s.mem (xLoc c) = xval m c ∧ s.mem (oLoc c) = G m c

/-- A whole buffer held is what memory has there. -/
theorem read_whole {ℓ : Loc nD τ sig} (f : Buf (Elt F) ℓ) (s' : Phys nD τ sig (Elt F)) :
    iprop(SI s' ∗ (ℓ ↦{fullShare} f)) ⊢ (iprop(⌜s'.mem.mem ℓ = f⌝) : sProp 𝕄) := by
  iintro H
  ihave %h := (SI_pointsTo_agree (st := s') (ℓ := ℓ) (I := Finset.univ) (q := fullShare) (f := f)) $$ H
  ipureintro
  exact funext fun i => h i (Finset.mem_univ i)

/-- What a device is left with is what memory shows. -/
theorem left_read (c : Dev nD) (s' : Phys nD τ sig (Elt F)) :
    iprop(left m c ∗ emp ∗ SI s') ⊢ |={Set.univ}=> iprop(⌜shows m c s'.mem⌝ ∗ SI s') := by
  have hx := read_whole (F := F) (xval m c) s' (ℓ := xLoc c)
  have ho := read_whole (F := F) (G m c) s' (ℓ := oLoc c)
  unfold left
  iintro ⟨⟨Hu, Hx, Ho⟩, -, HSI⟩
  ihave %h1 := hx $$ [HSI Hx]
  · isplitl [HSI] <;> iassumption
  ihave %h2 := ho $$ [HSI Ho]
  · isplitl [HSI] <;> iassumption
  imod (Pipeline.unscopedSems0_read (X := unscopedSems0 c) (c := c) fupd_intro s') $$ [Hu HSI] with ⟨%h0, HSI⟩
  · isplitl [Hu] <;> iassumption
  imodintro
  isplitr; · ipureintro; exact ⟨h0, h1, h2⟩
  iexact HSI

/-- On the mesh of 32 devices, from any memory with the semaphores at zero, for any float values: every fair run of the kernel
    ends, with every device's argument as it was, its result the gathered rows, and every semaphore at zero. -/
theorem run_main (ρ : Dev nD → PrngReg) :
    θ_run defs (onTc (τ := τ) (main (F := F))) ⟨m, fun _ => 0, ρ⟩
      (fun r => (∀ c : Dev nD, r.2.mem (xLoc c) = xval m c ∧ r.2.mem (oLoc c) = G m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => (show Fin 0 from w).elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := placed' m) (u₀ := u₀)
    (hu₀ := by
      unfold u₀
      iintro Hu
      ihave H := (ownU_pair _ _) $$ Hu
      icases H with ⟨HP, HX⟩
      ihave H2 := (own_pair_emb embR _ _) $$ HX
      icases H2 with ⟨HX, -⟩
      imod (mint m) $$ HX with HG
      imodintro
      isplitl [HP] <;> iassumption)
    (hglob := glob m)
    (hA := fun _ w => (show Fin 0 from w).elim0) (hpf := fun _ k => k.elim0)
    (X := ready m) (Y := left m) (Z := fun _ => iprop(emp))
    (hX := ready_intro m ρ) (hin := before_intro m) (hout := ended_exit m)
    (QY := shows m) (hY := left_read m)
    (hQ := fun _ h hs => ⟨fun c => ⟨(h c).2.2.2.1, (h c).2.2.2.2⟩, sem_eq_zero hs fun c => (h c).2.2.1⟩)

end Cert.Gather
end
-- ==== Proof.Value.lean ====
/-
  The value: the gathered rows are the whole array's rows, rounded.
-/
module

public import proofs.«01_k».proof.Proof.Meaning
public import Idealize.ShloMosaic.Lib.Layout

@[expose] public section

set_option maxRecDepth 100000

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A row comes from a device of its block. -/
theorem src_block (d : Dev nD) (i : S16384x1024.Idx) : (src d i).val / 4 % 4 = (i 0).val / 4096 := by
  have hi : (i 0).val < 16384 := (i 0).isLt
  unfold src
  split
  · next h => rw [h]; rfl
  · show (16 * ((i 0).val / 2048 % 2) + 4 * ((i 0).val / 4096) + d.val % 4) % 32 / 4 % 4 = _
    omega

/-- The whole array is four blocks along the rows. -/
theorem tiles : Layout.TilesN ⟨2, ![4096, 1024]⟩ ⟨2, ![16384, 1024]⟩ (fun b => Layout.cutSize [2, 4, 4] ((![[1], []] : Fin 2 → List Nat) b)) := by decide

/-- A row's place in its block, in the block of the device it comes from, is the row. -/
theorem block_idx (d : Dev nD) (i : S16384x1024.Idx) :
    tiles.idx (Layout.meshBlock [2, 4, 4] ![[1], []] (src d i)) (locIdx i) = i := by
  funext b
  refine Fin.ext ?_
  rw [Layout.TilesN.idx_val]
  fin_cases b
  · show Layout.meshLin [2, 4, 4] (src d i).val [1] * 4096 + (i 0).val % 4096 = (i 0).val
    have e : Layout.meshLin [2, 4, 4] (src d i).val [1] = (src d i).val / 4 % 4 := by
      simp [Layout.meshLin, Layout.meshCoord, Layout.cutSize]
    rw [e, src_block]
    omega
  · have h1 : (i 1).val < 1024 := (i 1).isLt
    show Layout.meshLin [2, 4, 4] (src d i).val [] * 1024 + (i 1).val % 1024 = (i 1).val
    have e : Layout.meshLin [2, 4, 4] (src d i).val [] = 0 := by simp [Layout.meshLin]
    rw [e]
    omega

/-- Where every device holds its block of an array, the gathered rows are the array's, each rounded. -/
theorem G_value (v : FVec F S16384x1024 .f32)
    (h : ∀ c : Dev nD, xval m c = Layout.blockN ⟨2, ![4096, 1024]⟩ ⟨2, ![16384, 1024]⟩ (Layout.meshBlock [2, 4, 4] ![[1], []] c) v) (d : Dev nD) :
    G m d = truncf .bf16 v bitsLt_bf16_f32 := by
  funext i
  unfold G xt
  rw [h]
  exact congrArg (fun x => FloatOps.truncf FTy.bf16 bitsLt_bf16_f32 x) (congrArg v (block_idx d i))

end Cert.Gather
end
-- ==== Proof.lean ====
/-
  The claims about the all-gather along `y` on a mesh of 32 devices, put together.

  The kernel's run is proved once, over any float values (`Cert.Gather.run_main`, Proof/Launch.lean): every fair run ends,
  with every semaphore at zero, every device's argument as it was, and its result the rows of all blocks along `y`, each
  rounded to bf16. Both frames of the kernel and its side of the value claim are that run. The reference's side is its
  generated run, and `Cert.Gather.G_value` (Proof/Value.lean) says that the two values are one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The program as the kernel runs it: it ends, its argument unchanged, every semaphore at zero. -/
theorem frame_kernel : Cert.quiescent_Kernel := fun m ρ _ =>
  (θ_run Cert.KernelIdeal.defs _ _).mono (fun _ h => ⟨fun c => (h.1 c).1, h.2⟩) (Cert.Gather.run_main (F := Bits) m ρ)

/-- The same of the program over the extended reals. -/
theorem frame_kernel_ideal : Cert.quiescent_KernelIdeal := fun m ρ _ =>
  (θ_run Cert.KernelIdeal.defs _ _).mono (fun _ h => ⟨fun c => (h.1 c).1, h.2⟩) (Cert.Gather.run_main (F := Ideal) m ρ)

/-- The reference ends, its argument unchanged; it has no semaphores. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Every device of the kernel ends with what the reference computes of the whole array. -/
theorem value : Cert.algebraic_KernelIdeal_ReferenceIdeal := fun m ρ m' ρ' _ h => by
  refine ⟨_, ?_, (θ_run Cert.ReferenceIdeal.defs _ _).mono (fun _ r => r 0) (Cert.ReferenceIdeal.Value.run (F := Ideal) m' ρ')⟩
  exact (θ_run Cert.KernelIdeal.defs _ _).mono
    (fun _ r c => ⟨(r.1 c).2.trans (Cert.Gather.G_value m _ h c), (r.1 c).1⟩) (Cert.Gather.run_main (F := Ideal) m ρ)

/-- All that is claimed. -/
theorem claim : Cert.Claim := ⟨Cert.Kernel.Gen.facts, Cert.KernelIdeal.Gen.facts, Cert.ReferenceIdeal.Gen.facts,
  frame_kernel, frame_kernel_ideal, frame_reference, trivial, value⟩

end Cert.Proof

end
